-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S4x4x256x512 : Shape := ⟨4, ![4, 4, 256, 512]⟩
abbrev S4x512x512 : Shape := ⟨3, ![4, 512, 512]⟩
abbrev S12 : Shape := ⟨1, ![12]⟩
abbrev S16 : Shape := ⟨1, ![16]⟩
abbrev S24 : Shape := ⟨1, ![24]⟩
abbrev S_ : Shape := ⟨0, ![]⟩
abbrev S256x1024 : Shape := ⟨2, ![256, 1024]⟩
abbrev S1024x512 : Shape := ⟨2, ![1024, 512]⟩
abbrev S256x512 : Shape := ⟨2, ![256, 512]⟩
abbrev S1x1x256x512 : Shape := ⟨4, ![1, 1, 256, 512]⟩
abbrev S1 : Shape := ⟨1, ![1]⟩
abbrev S1x256x512 : Shape := ⟨3, ![1, 256, 512]⟩
abbrev S1x128x512 : Shape := ⟨3, ![1, 128, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .local _ .vmem, ⟨0, _⟩ => ⟨S2048x1024, .f32⟩
  | .local _ .vmem, ⟨1, _⟩ => ⟨S1024x2048, .f32⟩
  | .local _ .vmem, ⟨2, _⟩ => ⟨S2048x2048, .bf16⟩
  | .local _ .vmem, ⟨3, _⟩ => ⟨S4x4x256x512, .bf16⟩
  | .local _ .vmem, ⟨4, _⟩ => ⟨S4x4x256x512, .bf16⟩
  | .local _ .vmem, ⟨5, _⟩ => ⟨S4x512x512, .bf16⟩
  | .local _ .vmem, ⟨6, _⟩ => ⟨S4x512x512, .bf16⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 155 → Bool
  | ⟨i, _⟩ => dmaSemScopedAt i

abbrev sig : RefSig :=
  (ofTc nBuf bufTy 1 155 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_55 : BitVec 32 := 1#32
  let v110 : BitVec 32 := Scalar.muli v54 c1_i32_55
  let v111 : BitVec 32 := Scalar.addi c0_i32_56 v110
  v111.toNat
def k0_dev2 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_58 : BitVec 32 := 1#32
  let v112 : BitVec 32 := Scalar.muli v42 c1_i32_58
  let v113 : BitVec 32 := Scalar.addi c0_i32_59 v112
  v113.toNat
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32 : BitVec 32 := 2#32
  let v58 : BitVec 32 := Scalar.addi v12 c2_i32
  let c4_i32_25 : BitVec 32 := 4#32
  let c0_i32_26 : BitVec 32 := 0#32
  let v59 : BitVec 1 := Scalar.cmpi .eq c4_i32_25 c0_i32_26
  let c1_i32_27 : BitVec 32 := 1#32
  let v60 : BitVec 32 := Scalar.select v59 c1_i32_27 c4_i32_25
  let v61 : BitVec 32 := Scalar.remsi v58 v60
  let c0_i32_29 : BitVec 32 := 0#32
  let v63 : BitVec 1 := Scalar.cmpi .slt v61 c0_i32_29
  let c0_i32_30 : BitVec 32 := 0#32
  let v64 : BitVec 1 := Scalar.cmpi .slt v60 c0_i32_30
  let v65 : BitVec 1 := Scalar.xori v63 v64
  let c0_i32_28 : BitVec 32 := 0#32
  let v62 : BitVec 1 := Scalar.cmpi .ne v61 c0_i32_28
  let v66 : BitVec 1 := Scalar.andi v65 v62
  let v67 : BitVec 32 := Scalar.addi v61 v60
  let v68 : BitVec 32 := Scalar.select v66 v67 v61
  let v69 : BitVec 32 := Scalar.addi v30 v68
  let c1_i32_61 : BitVec 32 := 1#32
  let v114 : BitVec 32 := Scalar.muli v69 c1_i32_61
  let v115 : BitVec 32 := Scalar.addi c0_i32_62 v114
  v115.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_31 : BitVec 32 := 1#32
  let v70 : BitVec 32 := Scalar.addi v29 c1_i32_31
  let c4_i32_32 : BitVec 32 := 4#32
  let c0_i32_33 : BitVec 32 := 0#32
  let v71 : BitVec 1 := Scalar.cmpi .eq c4_i32_32 c0_i32_33
  let c1_i32_34 : BitVec 32 := 1#32
  let v72 : BitVec 32 := Scalar.select v71 c1_i32_34 c4_i32_32
  let v73 : BitVec 32 := Scalar.remsi v70 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let c4_i32_38 : BitVec 32 := 4#32
  let v81 : BitVec 32 := Scalar.muli v80 c4_i32_38
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.addi v81 v12
  let c1_i32_64 : BitVec 32 := 1#32
  let v116 : BitVec 32 := Scalar.muli v82 c1_i32_64
  let v117 : BitVec 32 := Scalar.addi c0_i32_65 v116
  v117.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_39 : BitVec 32 := 2#32
  let v83 : BitVec 32 := Scalar.addi v29 c2_i32_39
  let c4_i32_40 : BitVec 32 := 4#32
  let c0_i32_41 : BitVec 32 := 0#32
  let v84 : BitVec 1 := Scalar.cmpi .eq c4_i32_40 c0_i32_41
  let c1_i32_42 : BitVec 32 := 1#32
  let v85 : BitVec 32 := Scalar.select v84 c1_i32_42 c4_i32_40
  let v86 : BitVec 32 := Scalar.remsi v83 v85
  let c0_i32_44 : BitVec 32 := 0#32
  let v88 : BitVec 1 := Scalar.cmpi .slt v86 c0_i32_44
  let c0_i32_45 : BitVec 32 := 0#32
  let v89 : BitVec 1 := Scalar.cmpi .slt v85 c0_i32_45
  let v90 : BitVec 1 := Scalar.xori v88 v89
  let c0_i32_43 : BitVec 32 := 0#32
  let v87 : BitVec 1 := Scalar.cmpi .ne v86 c0_i32_43
  let v91 : BitVec 1 := Scalar.andi v90 v87
  let v92 : BitVec 32 := Scalar.addi v86 v85
  let v93 : BitVec 32 := Scalar.select v91 v92 v86
  let c4_i32_46 : BitVec 32 := 4#32
  let v94 : BitVec 32 := Scalar.muli v93 c4_i32_46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c1_i32_67 : BitVec 32 := 1#32
  let v118 : BitVec 32 := Scalar.muli v95 c1_i32_67
  let v119 : BitVec 32 := Scalar.addi c0_i32_68 v118
  v119.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v96 : BitVec 32 := Scalar.addi v29 c3_i32
  let c4_i32_47 : BitVec 32 := 4#32
  let c0_i32_48 : BitVec 32 := 0#32
  let v97 : BitVec 1 := Scalar.cmpi .eq c4_i32_47 c0_i32_48
  let c1_i32_49 : BitVec 32 := 1#32
  let v98 : BitVec 32 := Scalar.select v97 c1_i32_49 c4_i32_47
  let v99 : BitVec 32 := Scalar.remsi v96 v98
  let c0_i32_51 : BitVec 32 := 0#32
  let v101 : BitVec 1 := Scalar.cmpi .slt v99 c0_i32_51
  let c0_i32_52 : BitVec 32 := 0#32
  let v102 : BitVec 1 := Scalar.cmpi .slt v98 c0_i32_52
  let v103 : BitVec 1 := Scalar.xori v101 v102
  let c0_i32_50 : BitVec 32 := 0#32
  let v100 : BitVec 1 := Scalar.cmpi .ne v99 c0_i32_50
  let v104 : BitVec 1 := Scalar.andi v103 v100
  let v105 : BitVec 32 := Scalar.addi v99 v98
  let v106 : BitVec 32 := Scalar.select v104 v105 v99
  let c4_i32_53 : BitVec 32 := 4#32
  let v107 : BitVec 32 := Scalar.muli v106 c4_i32_53
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v108 : BitVec 32 := Scalar.addi v107 v12
  let c1_i32_70 : BitVec 32 := 1#32
  let v120 : BitVec 32 := Scalar.muli v108 c1_i32_70
  let v121 : BitVec 32 := Scalar.addi c0_i32_71 v120
  v121.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_72 : BitVec 32 := 3#32
  let v122 : BitVec 32 := Scalar.addi v12 c3_i32_72
  let c4_i32_73 : BitVec 32 := 4#32
  let c0_i32_74 : BitVec 32 := 0#32
  let v123 : BitVec 1 := Scalar.cmpi .eq c4_i32_73 c0_i32_74
  let c1_i32_75 : BitVec 32 := 1#32
  let v124 : BitVec 32 := Scalar.select v123 c1_i32_75 c4_i32_73
  let v125 : BitVec 32 := Scalar.remsi v122 v124
  let c0_i32_77 : BitVec 32 := 0#32
  let v127 : BitVec 1 := Scalar.cmpi .slt v125 c0_i32_77
  let c0_i32_78 : BitVec 32 := 0#32
  let v128 : BitVec 1 := Scalar.cmpi .slt v124 c0_i32_78
  let v129 : BitVec 1 := Scalar.xori v127 v128
  let c0_i32_76 : BitVec 32 := 0#32
  let v126 : BitVec 1 := Scalar.cmpi .ne v125 c0_i32_76
  let v130 : BitVec 1 := Scalar.andi v129 v126
  let v131 : BitVec 32 := Scalar.addi v125 v124
  let v132 : BitVec 32 := Scalar.select v130 v131 v125
  let c512_i32_79 : BitVec 32 := 512#32
  let v133 : BitVec 32 := Scalar.muli v132 c512_i32_79
  let v134 : Index := Scalar.indexCast v133
  let c0 : Index := 0#32
  ![v134.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_86 : BitVec 32 := 1#32
  let v144 : BitVec 32 := Scalar.addi v12 c1_i32_86
  let c4_i32_87 : BitVec 32 := 4#32
  let c0_i32_88 : BitVec 32 := 0#32
  let v145 : BitVec 1 := Scalar.cmpi .eq c4_i32_87 c0_i32_88
  let c1_i32_89 : BitVec 32 := 1#32
  let v146 : BitVec 32 := Scalar.select v145 c1_i32_89 c4_i32_87
  let v147 : BitVec 32 := Scalar.remsi v144 v146
  let c0_i32_91 : BitVec 32 := 0#32
  let v149 : BitVec 1 := Scalar.cmpi .slt v147 c0_i32_91
  let c0_i32_92 : BitVec 32 := 0#32
  let v150 : BitVec 1 := Scalar.cmpi .slt v146 c0_i32_92
  let v151 : BitVec 1 := Scalar.xori v149 v150
  let c0_i32_90 : BitVec 32 := 0#32
  let v148 : BitVec 1 := Scalar.cmpi .ne v147 c0_i32_90
  let v152 : BitVec 1 := Scalar.andi v151 v148
  let v153 : BitVec 32 := Scalar.addi v147 v146
  let v154 : BitVec 32 := Scalar.select v152 v153 v147
  let c512_i32_93 : BitVec 32 := 512#32
  let v155 : BitVec 32 := Scalar.muli v154 c512_i32_93
  let c256_i32 : BitVec 32 := 256#32
  let v156 : BitVec 32 := Scalar.addi v155 c256_i32
  let v157 : Index := Scalar.indexCast v156
  let c0_94 : Index := 0#32
  ![v157.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_108 : BitVec 32 := 1#32
  let v167 : BitVec 32 := Scalar.muli v42 c1_i32_108
  let v168 : BitVec 32 := Scalar.addi c0_i32_109 v167
  v168.toNat
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_120 : BitVec 32 := 1#32
  let v177 : BitVec 32 := Scalar.muli v54 c1_i32_120
  let v178 : BitVec 32 := Scalar.addi c0_i32_121 v177
  v178.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_163 : BitVec 32 := 1#32
  let v232 : BitVec 32 := Scalar.muli v42 c1_i32_163
  let v233 : BitVec 32 := Scalar.addi c0_i32_164 v232
  v233.toNat
def k0_dev10 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_175 : BitVec 32 := 1#32
  let v242 : BitVec 32 := Scalar.muli v54 c1_i32_175
  let v243 : BitVec 32 := Scalar.addi c0_i32_176 v242
  v243.toNat
def k0_off3 (d0 : Dev nD) (c0_i32_182 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_181 : BitVec 32 := 2#32
  let v252 : BitVec 32 := Scalar.addi v12 c2_i32_181
  let v253 : BitVec 32 := Scalar.subi v252 c0_i32_182
  let c4_i32_183 : BitVec 32 := 4#32
  let c0_i32_184 : BitVec 32 := 0#32
  let v254 : BitVec 1 := Scalar.cmpi .eq c4_i32_183 c0_i32_184
  let c1_i32_185 : BitVec 32 := 1#32
  let v255 : BitVec 32 := Scalar.select v254 c1_i32_185 c4_i32_183
  let v256 : BitVec 32 := Scalar.remsi v253 v255
  let c0_i32_187 : BitVec 32 := 0#32
  let v258 : BitVec 1 := Scalar.cmpi .slt v256 c0_i32_187
  let c0_i32_188 : BitVec 32 := 0#32
  let v259 : BitVec 1 := Scalar.cmpi .slt v255 c0_i32_188
  let v260 : BitVec 1 := Scalar.xori v258 v259
  let c0_i32_186 : BitVec 32 := 0#32
  let v257 : BitVec 1 := Scalar.cmpi .ne v256 c0_i32_186
  let v261 : BitVec 1 := Scalar.andi v260 v257
  let v262 : BitVec 32 := Scalar.addi v256 v255
  let v263 : BitVec 32 := Scalar.select v261 v262 v256
  let c512_i32_189 : BitVec 32 := 512#32
  let v264 : BitVec 32 := Scalar.muli v263 c512_i32_189
  let v265 : Index := Scalar.indexCast v264
  let c0_190 : Index := 0#32
  ![v265.toNat, 0]
def k0_off4 (d0 : Dev nD) (c0_i32_195 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_194 : BitVec 32 := 2#32
  let v271 : BitVec 32 := Scalar.addi v12 c2_i32_194
  let v272 : BitVec 32 := Scalar.addi v271 c0_i32_195
  let c4_i32_196 : BitVec 32 := 4#32
  let c0_i32_197 : BitVec 32 := 0#32
  let v273 : BitVec 1 := Scalar.cmpi .eq c4_i32_196 c0_i32_197
  let c1_i32_198 : BitVec 32 := 1#32
  let v274 : BitVec 32 := Scalar.select v273 c1_i32_198 c4_i32_196
  let v275 : BitVec 32 := Scalar.remsi v272 v274
  let c0_i32_200 : BitVec 32 := 0#32
  let v277 : BitVec 1 := Scalar.cmpi .slt v275 c0_i32_200
  let c0_i32_201 : BitVec 32 := 0#32
  let v278 : BitVec 1 := Scalar.cmpi .slt v274 c0_i32_201
  let v279 : BitVec 1 := Scalar.xori v277 v278
  let c0_i32_199 : BitVec 32 := 0#32
  let v276 : BitVec 1 := Scalar.cmpi .ne v275 c0_i32_199
  let v280 : BitVec 1 := Scalar.andi v279 v276
  let v281 : BitVec 32 := Scalar.addi v275 v274
  let v282 : BitVec 32 := Scalar.select v280 v281 v275
  let c512_i32_202 : BitVec 32 := 512#32
  let v283 : BitVec 32 := Scalar.muli v282 c512_i32_202
  let c256_i32_203 : BitVec 32 := 256#32
  let v284 : BitVec 32 := Scalar.addi v283 c256_i32_203
  let v285 : Index := Scalar.indexCast v284
  let c0_204 : Index := 0#32
  ![v285.toNat, 0]
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_276 : BitVec 32 := 1#32
  let v335 : BitVec 32 := Scalar.muli v42 c1_i32_276
  let v336 : BitVec 32 := Scalar.addi c0_i32_277 v335
  v336.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_288 : BitVec 32 := 1#32
  let v345 : BitVec 32 := Scalar.muli v54 c1_i32_288
  let v346 : BitVec 32 := Scalar.addi c0_i32_289 v345
  v346.toNat
def k0_dev13 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_331 : BitVec 32 := 1#32
  let v400 : BitVec 32 := Scalar.muli v42 c1_i32_331
  let v401 : BitVec 32 := Scalar.addi c0_i32_332 v400
  v401.toNat
def k0_dev14 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_343 : BitVec 32 := 1#32
  let v410 : BitVec 32 := Scalar.muli v54 c1_i32_343
  let v411 : BitVec 32 := Scalar.addi c0_i32_344 v410
  v411.toNat
def k0_dev15 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_444 : BitVec 32 := 1#32
  let v503 : BitVec 32 := Scalar.muli v42 c1_i32_444
  let v504 : BitVec 32 := Scalar.addi c0_i32_445 v503
  v504.toNat
def k0_dev16 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_456 : BitVec 32 := 1#32
  let v513 : BitVec 32 := Scalar.muli v54 c1_i32_456
  let v514 : BitVec 32 := Scalar.addi c0_i32_457 v513
  v514.toNat
def k0_dev17 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_557 : BitVec 32 := 1#32
  let v606 : BitVec 32 := Scalar.muli v42 c1_i32_557
  let v607 : BitVec 32 := Scalar.addi c0_i32_558 v606
  v607.toNat
def k0_dev18 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_569 : BitVec 32 := 1#32
  let v616 : BitVec 32 := Scalar.muli v54 c1_i32_569
  let v617 : BitVec 32 := Scalar.addi c0_i32_570 v616
  v617.toNat
def k0_dev19 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_611 : BitVec 32 := 1#32
  let v671 : BitVec 32 := Scalar.muli v42 c1_i32_611
  let v672 : BitVec 32 := Scalar.addi c0_i32_612 v671
  v672.toNat
def k0_dev20 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_623 : BitVec 32 := 1#32
  let v681 : BitVec 32 := Scalar.muli v54 c1_i32_623
  let v682 : BitVec 32 := Scalar.addi c0_i32_624 v681
  v682.toNat
def k0_dev21 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_723 : BitVec 32 := 1#32
  let v774 : BitVec 32 := Scalar.muli v42 c1_i32_723
  let v775 : BitVec 32 := Scalar.addi c0_i32_724 v774
  v775.toNat
def k0_dev22 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_735 : BitVec 32 := 1#32
  let v784 : BitVec 32 := Scalar.muli v54 c1_i32_735
  let v785 : BitVec 32 := Scalar.addi c0_i32_736 v784
  v785.toNat
def k0_dev23 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_835 : BitVec 32 := 1#32
  let v877 : BitVec 32 := Scalar.muli v42 c1_i32_835
  let v878 : BitVec 32 := Scalar.addi c0_i32_836 v877
  v878.toNat
def k0_dev24 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_847 : BitVec 32 := 1#32
  let v887 : BitVec 32 := Scalar.muli v54 c1_i32_847
  let v888 : BitVec 32 := Scalar.addi c0_i32_848 v887
  v888.toNat
def k0_off5 (d0 : Dev nD) (c0_i32_948 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v993 : BitVec 32 := Scalar.addi c0_i32_948 v29
  ![v993.toNat]
def k0_off6 (d0 : Dev nD) : Fin 3 → Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_947 : BitVec 32 := 128#32
  let v992 : BitVec 32 := Scalar.muli v29 c128_i32_947
  let c0_i32_962 : BitVec 32 := 0#32
  ![0, v992.toNat, 0]
def k0_off7 (d0 : Dev nD) (c1_i32_939 : BitVec 32) : Fin 3 → Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v980 : BitVec 32 := Scalar.addi v29 c1_i32_939
  let c4_i32_940 : BitVec 32 := 4#32
  let c0_i32_941 : BitVec 32 := 0#32
  let v981 : BitVec 1 := Scalar.cmpi .eq c4_i32_940 c0_i32_941
  let c1_i32_942 : BitVec 32 := 1#32
  let v982 : BitVec 32 := Scalar.select v981 c1_i32_942 c4_i32_940
  let v983 : BitVec 32 := Scalar.remsi v980 v982
  let c0_i32_944 : BitVec 32 := 0#32
  let v985 : BitVec 1 := Scalar.cmpi .slt v983 c0_i32_944
  let c0_i32_945 : BitVec 32 := 0#32
  let v986 : BitVec 1 := Scalar.cmpi .slt v982 c0_i32_945
  let v987 : BitVec 1 := Scalar.xori v985 v986
  let c0_i32_943 : BitVec 32 := 0#32
  let v984 : BitVec 1 := Scalar.cmpi .ne v983 c0_i32_943
  let v988 : BitVec 1 := Scalar.andi v987 v984
  let v989 : BitVec 32 := Scalar.addi v983 v982
  let v990 : BitVec 32 := Scalar.select v988 v989 v983
  let c128_i32_946 : BitVec 32 := 128#32
  let v991 : BitVec 32 := Scalar.muli v990 c128_i32_946
  let c0_i32_963 : BitVec 32 := 0#32
  ![0, v991.toNat, 0]
def k0_dev25 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_949 : BitVec 32 := 1#32
  let v994 : BitVec 32 := Scalar.addi v29 c1_i32_949
  let c4_i32_950 : BitVec 32 := 4#32
  let c0_i32_951 : BitVec 32 := 0#32
  let v995 : BitVec 1 := Scalar.cmpi .eq c4_i32_950 c0_i32_951
  let c1_i32_952 : BitVec 32 := 1#32
  let v996 : BitVec 32 := Scalar.select v995 c1_i32_952 c4_i32_950
  let v997 : BitVec 32 := Scalar.remsi v994 v996
  let c0_i32_954 : BitVec 32 := 0#32
  let v999 : BitVec 1 := Scalar.cmpi .slt v997 c0_i32_954
  let c0_i32_955 : BitVec 32 := 0#32
  let v1000 : BitVec 1 := Scalar.cmpi .slt v996 c0_i32_955
  let v1001 : BitVec 1 := Scalar.xori v999 v1000
  let c0_i32_953 : BitVec 32 := 0#32
  let v998 : BitVec 1 := Scalar.cmpi .ne v997 c0_i32_953
  let v1002 : BitVec 1 := Scalar.andi v1001 v998
  let v1003 : BitVec 32 := Scalar.addi v997 v996
  let v1004 : BitVec 32 := Scalar.select v1002 v1003 v997
  let c4_i32_956 : BitVec 32 := 4#32
  let v1005 : BitVec 32 := Scalar.muli v1004 c4_i32_956
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1006 : BitVec 32 := Scalar.addi v1005 v12
  let c1_i32_960 : BitVec 32 := 1#32
  let v1007 : BitVec 32 := Scalar.muli v1006 c1_i32_960
  let v1008 : BitVec 32 := Scalar.addi c0_i32_961 v1007
  v1008.toNat
def k0_dev26 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_974 : BitVec 32 := 2#32
  let v1031 : BitVec 32 := Scalar.addi v29 c2_i32_974
  let c4_i32_975 : BitVec 32 := 4#32
  let c0_i32_976 : BitVec 32 := 0#32
  let v1032 : BitVec 1 := Scalar.cmpi .eq c4_i32_975 c0_i32_976
  let c1_i32_977 : BitVec 32 := 1#32
  let v1033 : BitVec 32 := Scalar.select v1032 c1_i32_977 c4_i32_975
  let v1034 : BitVec 32 := Scalar.remsi v1031 v1033
  let c0_i32_979 : BitVec 32 := 0#32
  let v1036 : BitVec 1 := Scalar.cmpi .slt v1034 c0_i32_979
  let c0_i32_980 : BitVec 32 := 0#32
  let v1037 : BitVec 1 := Scalar.cmpi .slt v1033 c0_i32_980
  let v1038 : BitVec 1 := Scalar.xori v1036 v1037
  let c0_i32_978 : BitVec 32 := 0#32
  let v1035 : BitVec 1 := Scalar.cmpi .ne v1034 c0_i32_978
  let v1039 : BitVec 1 := Scalar.andi v1038 v1035
  let v1040 : BitVec 32 := Scalar.addi v1034 v1033
  let v1041 : BitVec 32 := Scalar.select v1039 v1040 v1034
  let c4_i32_981 : BitVec 32 := 4#32
  let v1042 : BitVec 32 := Scalar.muli v1041 c4_i32_981
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1043 : BitVec 32 := Scalar.addi v1042 v12
  let c1_i32_985 : BitVec 32 := 1#32
  let v1044 : BitVec 32 := Scalar.muli v1043 c1_i32_985
  let v1045 : BitVec 32 := Scalar.addi c0_i32_986 v1044
  v1045.toNat
def k0_dev27 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_999 : BitVec 32 := 3#32
  let v1068 : BitVec 32 := Scalar.addi v29 c3_i32_999
  let c4_i32_1000 : BitVec 32 := 4#32
  let c0_i32_1001 : BitVec 32 := 0#32
  let v1069 : BitVec 1 := Scalar.cmpi .eq c4_i32_1000 c0_i32_1001
  let c1_i32_1002 : BitVec 32 := 1#32
  let v1070 : BitVec 32 := Scalar.select v1069 c1_i32_1002 c4_i32_1000
  let v1071 : BitVec 32 := Scalar.remsi v1068 v1070
  let c0_i32_1004 : BitVec 32 := 0#32
  let v1073 : BitVec 1 := Scalar.cmpi .slt v1071 c0_i32_1004
  let c0_i32_1005 : BitVec 32 := 0#32
  let v1074 : BitVec 1 := Scalar.cmpi .slt v1070 c0_i32_1005
  let v1075 : BitVec 1 := Scalar.xori v1073 v1074
  let c0_i32_1003 : BitVec 32 := 0#32
  let v1072 : BitVec 1 := Scalar.cmpi .ne v1071 c0_i32_1003
  let v1076 : BitVec 1 := Scalar.andi v1075 v1072
  let v1077 : BitVec 32 := Scalar.addi v1071 v1070
  let v1078 : BitVec 32 := Scalar.select v1076 v1077 v1071
  let c4_i32_1006 : BitVec 32 := 4#32
  let v1079 : BitVec 32 := Scalar.muli v1078 c4_i32_1006
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1080 : BitVec 32 := Scalar.addi v1079 v12
  let c1_i32_1010 : BitVec 32 := 1#32
  let v1081 : BitVec 32 := Scalar.muli v1080 c1_i32_1010
  let v1082 : BitVec 32 := Scalar.addi c0_i32_1011 v1081
  v1082.toNat
def k0_dev28 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1108 : BitVec 32 := 1#32
  let v1174 : BitVec 32 := Scalar.muli v42 c1_i32_1108
  let v1175 : BitVec 32 := Scalar.addi c0_i32_1109 v1174
  v1175.toNat
def k0_dev29 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1120 : BitVec 32 := 1#32
  let v1184 : BitVec 32 := Scalar.muli v54 c1_i32_1120
  let v1185 : BitVec 32 := Scalar.addi c0_i32_1121 v1184
  v1185.toNat
def k0_dev30 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1220 : BitVec 32 := 1#32
  let v1277 : BitVec 32 := Scalar.muli v42 c1_i32_1220
  let v1278 : BitVec 32 := Scalar.addi c0_i32_1221 v1277
  v1278.toNat
def k0_dev31 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1232 : BitVec 32 := 1#32
  let v1287 : BitVec 32 := Scalar.muli v54 c1_i32_1232
  let v1288 : BitVec 32 := Scalar.addi c0_i32_1233 v1287
  v1288.toNat
def k0_off8 (d0 : Dev nD) : Fin 3 → Nat :=
  let c0_1239 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_1238 : BitVec 32 := 128#32
  let v1297 : BitVec 32 := Scalar.muli v29 c128_i32_1238
  let v1298 : Index := Scalar.indexCast v1297
  let c0_1240 : Index := 0#32
  ![0, v1298.toNat, 0]
def k0_off9 (d0 : Dev nD) (c0_i32_1249 : BitVec 32) (c1_i32_1241 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1302 : BitVec 32 := Scalar.addi v29 c1_i32_1241
  let c4_i32_1242 : BitVec 32 := 4#32
  let c0_i32_1243 : BitVec 32 := 0#32
  let v1303 : BitVec 1 := Scalar.cmpi .eq c4_i32_1242 c0_i32_1243
  let c1_i32_1244 : BitVec 32 := 1#32
  let v1304 : BitVec 32 := Scalar.select v1303 c1_i32_1244 c4_i32_1242
  let v1305 : BitVec 32 := Scalar.remsi v1302 v1304
  let c0_i32_1246 : BitVec 32 := 0#32
  let v1307 : BitVec 1 := Scalar.cmpi .slt v1305 c0_i32_1246
  let c0_i32_1247 : BitVec 32 := 0#32
  let v1308 : BitVec 1 := Scalar.cmpi .slt v1304 c0_i32_1247
  let v1309 : BitVec 1 := Scalar.xori v1307 v1308
  let c0_i32_1245 : BitVec 32 := 0#32
  let v1306 : BitVec 1 := Scalar.cmpi .ne v1305 c0_i32_1245
  let v1310 : BitVec 1 := Scalar.andi v1309 v1306
  let v1311 : BitVec 32 := Scalar.addi v1305 v1304
  let v1312 : BitVec 32 := Scalar.select v1310 v1311 v1305
  let v1314 : BitVec 32 := Scalar.addi c0_i32_1249 v1312
  ![v1314.toNat]
def k0_off10 (d0 : Dev nD) (c1_i32_1241 : BitVec 32) : Fin 3 → Nat :=
  let c0_1258 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1302 : BitVec 32 := Scalar.addi v29 c1_i32_1241
  let c4_i32_1242 : BitVec 32 := 4#32
  let c0_i32_1243 : BitVec 32 := 0#32
  let v1303 : BitVec 1 := Scalar.cmpi .eq c4_i32_1242 c0_i32_1243
  let c1_i32_1244 : BitVec 32 := 1#32
  let v1304 : BitVec 32 := Scalar.select v1303 c1_i32_1244 c4_i32_1242
  let v1305 : BitVec 32 := Scalar.remsi v1302 v1304
  let c0_i32_1246 : BitVec 32 := 0#32
  let v1307 : BitVec 1 := Scalar.cmpi .slt v1305 c0_i32_1246
  let c0_i32_1247 : BitVec 32 := 0#32
  let v1308 : BitVec 1 := Scalar.cmpi .slt v1304 c0_i32_1247
  let v1309 : BitVec 1 := Scalar.xori v1307 v1308
  let c0_i32_1245 : BitVec 32 := 0#32
  let v1306 : BitVec 1 := Scalar.cmpi .ne v1305 c0_i32_1245
  let v1310 : BitVec 1 := Scalar.andi v1309 v1306
  let v1311 : BitVec 32 := Scalar.addi v1305 v1304
  let v1312 : BitVec 32 := Scalar.select v1310 v1311 v1305
  let c128_i32_1257 : BitVec 32 := 128#32
  let v1323 : BitVec 32 := Scalar.muli v1312 c128_i32_1257
  let v1324 : Index := Scalar.indexCast v1323
  let c0_1259 : Index := 0#32
  ![0, v1324.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let v1390 : Index := Scalar.indexCast v57
  let c0_1300 : Index := 0#32
  ![v1390.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let c0_i32_1313 : BitVec 32 := 0#32
  ![v57.toNat, 0]
def k0_dev32 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1302 : BitVec 32 := 1#32
  let v1393 : BitVec 32 := Scalar.addi v29 c1_i32_1302
  let c4_i32_1303 : BitVec 32 := 4#32
  let c0_i32_1304 : BitVec 32 := 0#32
  let v1394 : BitVec 1 := Scalar.cmpi .eq c4_i32_1303 c0_i32_1304
  let c1_i32_1305 : BitVec 32 := 1#32
  let v1395 : BitVec 32 := Scalar.select v1394 c1_i32_1305 c4_i32_1303
  let v1396 : BitVec 32 := Scalar.remsi v1393 v1395
  let c0_i32_1307 : BitVec 32 := 0#32
  let v1398 : BitVec 1 := Scalar.cmpi .slt v1396 c0_i32_1307
  let c0_i32_1308 : BitVec 32 := 0#32
  let v1399 : BitVec 1 := Scalar.cmpi .slt v1395 c0_i32_1308
  let v1400 : BitVec 1 := Scalar.xori v1398 v1399
  let c0_i32_1306 : BitVec 32 := 0#32
  let v1397 : BitVec 1 := Scalar.cmpi .ne v1396 c0_i32_1306
  let v1401 : BitVec 1 := Scalar.andi v1400 v1397
  let v1402 : BitVec 32 := Scalar.addi v1396 v1395
  let v1403 : BitVec 32 := Scalar.select v1401 v1402 v1396
  let c4_i32_1309 : BitVec 32 := 4#32
  let v1404 : BitVec 32 := Scalar.muli v1403 c4_i32_1309
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1405 : BitVec 32 := Scalar.addi v1404 v12
  let c1_i32_1311 : BitVec 32 := 1#32
  let v1406 : BitVec 32 := Scalar.muli v1405 c1_i32_1311
  let v1407 : BitVec 32 := Scalar.addi c0_i32_1312 v1406
  v1407.toNat
def k0_dev33 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1316 : BitVec 32 := 2#32
  let v1415 : BitVec 32 := Scalar.addi v29 c2_i32_1316
  let c4_i32_1317 : BitVec 32 := 4#32
  let c0_i32_1318 : BitVec 32 := 0#32
  let v1416 : BitVec 1 := Scalar.cmpi .eq c4_i32_1317 c0_i32_1318
  let c1_i32_1319 : BitVec 32 := 1#32
  let v1417 : BitVec 32 := Scalar.select v1416 c1_i32_1319 c4_i32_1317
  let v1418 : BitVec 32 := Scalar.remsi v1415 v1417
  let c0_i32_1321 : BitVec 32 := 0#32
  let v1420 : BitVec 1 := Scalar.cmpi .slt v1418 c0_i32_1321
  let c0_i32_1322 : BitVec 32 := 0#32
  let v1421 : BitVec 1 := Scalar.cmpi .slt v1417 c0_i32_1322
  let v1422 : BitVec 1 := Scalar.xori v1420 v1421
  let c0_i32_1320 : BitVec 32 := 0#32
  let v1419 : BitVec 1 := Scalar.cmpi .ne v1418 c0_i32_1320
  let v1423 : BitVec 1 := Scalar.andi v1422 v1419
  let v1424 : BitVec 32 := Scalar.addi v1418 v1417
  let v1425 : BitVec 32 := Scalar.select v1423 v1424 v1418
  let c4_i32_1323 : BitVec 32 := 4#32
  let v1426 : BitVec 32 := Scalar.muli v1425 c4_i32_1323
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1427 : BitVec 32 := Scalar.addi v1426 v12
  let c1_i32_1325 : BitVec 32 := 1#32
  let v1428 : BitVec 32 := Scalar.muli v1427 c1_i32_1325
  let v1429 : BitVec 32 := Scalar.addi c0_i32_1326 v1428
  v1429.toNat
def k0_dev34 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1330 : BitVec 32 := 3#32
  let v1437 : BitVec 32 := Scalar.addi v29 c3_i32_1330
  let c4_i32_1331 : BitVec 32 := 4#32
  let c0_i32_1332 : BitVec 32 := 0#32
  let v1438 : BitVec 1 := Scalar.cmpi .eq c4_i32_1331 c0_i32_1332
  let c1_i32_1333 : BitVec 32 := 1#32
  let v1439 : BitVec 32 := Scalar.select v1438 c1_i32_1333 c4_i32_1331
  let v1440 : BitVec 32 := Scalar.remsi v1437 v1439
  let c0_i32_1335 : BitVec 32 := 0#32
  let v1442 : BitVec 1 := Scalar.cmpi .slt v1440 c0_i32_1335
  let c0_i32_1336 : BitVec 32 := 0#32
  let v1443 : BitVec 1 := Scalar.cmpi .slt v1439 c0_i32_1336
  let v1444 : BitVec 1 := Scalar.xori v1442 v1443
  let c0_i32_1334 : BitVec 32 := 0#32
  let v1441 : BitVec 1 := Scalar.cmpi .ne v1440 c0_i32_1334
  let v1445 : BitVec 1 := Scalar.andi v1444 v1441
  let v1446 : BitVec 32 := Scalar.addi v1440 v1439
  let v1447 : BitVec 32 := Scalar.select v1445 v1446 v1440
  let c4_i32_1337 : BitVec 32 := 4#32
  let v1448 : BitVec 32 := Scalar.muli v1447 c4_i32_1337
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1449 : BitVec 32 := Scalar.addi v1448 v12
  let c1_i32_1339 : BitVec 32 := 1#32
  let v1450 : BitVec 32 := Scalar.muli v1449 c1_i32_1339
  let v1451 : BitVec 32 := Scalar.addi c0_i32_1340 v1450
  v1451.toNat
def k0_off13 (d0 : Dev nD) : Fin 3 → Nat :=
  let c1_i32_1449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_1438 : BitVec 32 := 128#32
  let v1553 : BitVec 32 := Scalar.muli v29 c128_i32_1438
  let c0_i32_1453 : BitVec 32 := 0#32
  ![1, v1553.toNat, 0]
def k0_off14 (d0 : Dev nD) (c1_i32_1430 : BitVec 32) : Fin 3 → Nat :=
  let c1_i32_1448 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1541 : BitVec 32 := Scalar.addi v29 c1_i32_1430
  let c4_i32_1431 : BitVec 32 := 4#32
  let c0_i32_1432 : BitVec 32 := 0#32
  let v1542 : BitVec 1 := Scalar.cmpi .eq c4_i32_1431 c0_i32_1432
  let c1_i32_1433 : BitVec 32 := 1#32
  let v1543 : BitVec 32 := Scalar.select v1542 c1_i32_1433 c4_i32_1431
  let v1544 : BitVec 32 := Scalar.remsi v1541 v1543
  let c0_i32_1435 : BitVec 32 := 0#32
  let v1546 : BitVec 1 := Scalar.cmpi .slt v1544 c0_i32_1435
  let c0_i32_1436 : BitVec 32 := 0#32
  let v1547 : BitVec 1 := Scalar.cmpi .slt v1543 c0_i32_1436
  let v1548 : BitVec 1 := Scalar.xori v1546 v1547
  let c0_i32_1434 : BitVec 32 := 0#32
  let v1545 : BitVec 1 := Scalar.cmpi .ne v1544 c0_i32_1434
  let v1549 : BitVec 1 := Scalar.andi v1548 v1545
  let v1550 : BitVec 32 := Scalar.addi v1544 v1543
  let v1551 : BitVec 32 := Scalar.select v1549 v1550 v1544
  let c128_i32_1437 : BitVec 32 := 128#32
  let v1552 : BitVec 32 := Scalar.muli v1551 c128_i32_1437
  let c0_i32_1454 : BitVec 32 := 0#32
  ![1, v1552.toNat, 0]
def k0_dev35 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1440 : BitVec 32 := 1#32
  let v1555 : BitVec 32 := Scalar.addi v29 c1_i32_1440
  let c4_i32_1441 : BitVec 32 := 4#32
  let c0_i32_1442 : BitVec 32 := 0#32
  let v1556 : BitVec 1 := Scalar.cmpi .eq c4_i32_1441 c0_i32_1442
  let c1_i32_1443 : BitVec 32 := 1#32
  let v1557 : BitVec 32 := Scalar.select v1556 c1_i32_1443 c4_i32_1441
  let v1558 : BitVec 32 := Scalar.remsi v1555 v1557
  let c0_i32_1445 : BitVec 32 := 0#32
  let v1560 : BitVec 1 := Scalar.cmpi .slt v1558 c0_i32_1445
  let c0_i32_1446 : BitVec 32 := 0#32
  let v1561 : BitVec 1 := Scalar.cmpi .slt v1557 c0_i32_1446
  let v1562 : BitVec 1 := Scalar.xori v1560 v1561
  let c0_i32_1444 : BitVec 32 := 0#32
  let v1559 : BitVec 1 := Scalar.cmpi .ne v1558 c0_i32_1444
  let v1563 : BitVec 1 := Scalar.andi v1562 v1559
  let v1564 : BitVec 32 := Scalar.addi v1558 v1557
  let v1565 : BitVec 32 := Scalar.select v1563 v1564 v1558
  let c4_i32_1447 : BitVec 32 := 4#32
  let v1566 : BitVec 32 := Scalar.muli v1565 c4_i32_1447
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1567 : BitVec 32 := Scalar.addi v1566 v12
  let c1_i32_1451 : BitVec 32 := 1#32
  let v1568 : BitVec 32 := Scalar.muli v1567 c1_i32_1451
  let v1569 : BitVec 32 := Scalar.addi c0_i32_1452 v1568
  v1569.toNat
def k0_dev36 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1465 : BitVec 32 := 2#32
  let v1592 : BitVec 32 := Scalar.addi v29 c2_i32_1465
  let c4_i32_1466 : BitVec 32 := 4#32
  let c0_i32_1467 : BitVec 32 := 0#32
  let v1593 : BitVec 1 := Scalar.cmpi .eq c4_i32_1466 c0_i32_1467
  let c1_i32_1468 : BitVec 32 := 1#32
  let v1594 : BitVec 32 := Scalar.select v1593 c1_i32_1468 c4_i32_1466
  let v1595 : BitVec 32 := Scalar.remsi v1592 v1594
  let c0_i32_1470 : BitVec 32 := 0#32
  let v1597 : BitVec 1 := Scalar.cmpi .slt v1595 c0_i32_1470
  let c0_i32_1471 : BitVec 32 := 0#32
  let v1598 : BitVec 1 := Scalar.cmpi .slt v1594 c0_i32_1471
  let v1599 : BitVec 1 := Scalar.xori v1597 v1598
  let c0_i32_1469 : BitVec 32 := 0#32
  let v1596 : BitVec 1 := Scalar.cmpi .ne v1595 c0_i32_1469
  let v1600 : BitVec 1 := Scalar.andi v1599 v1596
  let v1601 : BitVec 32 := Scalar.addi v1595 v1594
  let v1602 : BitVec 32 := Scalar.select v1600 v1601 v1595
  let c4_i32_1472 : BitVec 32 := 4#32
  let v1603 : BitVec 32 := Scalar.muli v1602 c4_i32_1472
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1604 : BitVec 32 := Scalar.addi v1603 v12
  let c1_i32_1476 : BitVec 32 := 1#32
  let v1605 : BitVec 32 := Scalar.muli v1604 c1_i32_1476
  let v1606 : BitVec 32 := Scalar.addi c0_i32_1477 v1605
  v1606.toNat
def k0_dev37 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1490 : BitVec 32 := 3#32
  let v1629 : BitVec 32 := Scalar.addi v29 c3_i32_1490
  let c4_i32_1491 : BitVec 32 := 4#32
  let c0_i32_1492 : BitVec 32 := 0#32
  let v1630 : BitVec 1 := Scalar.cmpi .eq c4_i32_1491 c0_i32_1492
  let c1_i32_1493 : BitVec 32 := 1#32
  let v1631 : BitVec 32 := Scalar.select v1630 c1_i32_1493 c4_i32_1491
  let v1632 : BitVec 32 := Scalar.remsi v1629 v1631
  let c0_i32_1495 : BitVec 32 := 0#32
  let v1634 : BitVec 1 := Scalar.cmpi .slt v1632 c0_i32_1495
  let c0_i32_1496 : BitVec 32 := 0#32
  let v1635 : BitVec 1 := Scalar.cmpi .slt v1631 c0_i32_1496
  let v1636 : BitVec 1 := Scalar.xori v1634 v1635
  let c0_i32_1494 : BitVec 32 := 0#32
  let v1633 : BitVec 1 := Scalar.cmpi .ne v1632 c0_i32_1494
  let v1637 : BitVec 1 := Scalar.andi v1636 v1633
  let v1638 : BitVec 32 := Scalar.addi v1632 v1631
  let v1639 : BitVec 32 := Scalar.select v1637 v1638 v1632
  let c4_i32_1497 : BitVec 32 := 4#32
  let v1640 : BitVec 32 := Scalar.muli v1639 c4_i32_1497
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1641 : BitVec 32 := Scalar.addi v1640 v12
  let c1_i32_1501 : BitVec 32 := 1#32
  let v1642 : BitVec 32 := Scalar.muli v1641 c1_i32_1501
  let v1643 : BitVec 32 := Scalar.addi c0_i32_1502 v1642
  v1643.toNat
def k0_dev38 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1599 : BitVec 32 := 1#32
  let v1735 : BitVec 32 := Scalar.muli v42 c1_i32_1599
  let v1736 : BitVec 32 := Scalar.addi c0_i32_1600 v1735
  v1736.toNat
def k0_dev39 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1611 : BitVec 32 := 1#32
  let v1745 : BitVec 32 := Scalar.muli v54 c1_i32_1611
  let v1746 : BitVec 32 := Scalar.addi c0_i32_1612 v1745
  v1746.toNat
def k0_off15 (d0 : Dev nD) (c1_i32_1617 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_1624 : BitVec 32 := 512#32
  let v1766 : BitVec 32 := Scalar.muli v12 c512_i32_1624
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1755 : BitVec 32 := Scalar.addi v29 c1_i32_1617
  let c4_i32_1618 : BitVec 32 := 4#32
  let c0_i32_1619 : BitVec 32 := 0#32
  let v1756 : BitVec 1 := Scalar.cmpi .eq c4_i32_1618 c0_i32_1619
  let c1_i32_1620 : BitVec 32 := 1#32
  let v1757 : BitVec 32 := Scalar.select v1756 c1_i32_1620 c4_i32_1618
  let v1758 : BitVec 32 := Scalar.remsi v1755 v1757
  let c0_i32_1622 : BitVec 32 := 0#32
  let v1760 : BitVec 1 := Scalar.cmpi .slt v1758 c0_i32_1622
  let c0_i32_1623 : BitVec 32 := 0#32
  let v1761 : BitVec 1 := Scalar.cmpi .slt v1757 c0_i32_1623
  let v1762 : BitVec 1 := Scalar.xori v1760 v1761
  let c0_i32_1621 : BitVec 32 := 0#32
  let v1759 : BitVec 1 := Scalar.cmpi .ne v1758 c0_i32_1621
  let v1763 : BitVec 1 := Scalar.andi v1762 v1759
  let v1764 : BitVec 32 := Scalar.addi v1758 v1757
  let v1765 : BitVec 32 := Scalar.select v1763 v1764 v1758
  let c128_i32_1625 : BitVec 32 := 128#32
  let v1767 : BitVec 32 := Scalar.muli v1765 c128_i32_1625
  let v1768 : BitVec 32 := Scalar.addi v1766 v1767
  let c0_i32_1630 : BitVec 32 := 0#32
  ![v1768.toNat, 0]
def k0_off16 (d0 : Dev nD) : Fin 3 → Nat :=
  let c1_1663 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_1662 : BitVec 32 := 128#32
  let v1818 : BitVec 32 := Scalar.muli v29 c128_i32_1662
  let v1819 : Index := Scalar.indexCast v1818
  let c0_1664 : Index := 0#32
  ![1, v1819.toNat, 0]
def k0_off17 (d0 : Dev nD) (c1_i32_1665 : BitVec 32) : Fin 3 → Nat :=
  let c1_1682 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1823 : BitVec 32 := Scalar.addi v29 c1_i32_1665
  let c4_i32_1666 : BitVec 32 := 4#32
  let c0_i32_1667 : BitVec 32 := 0#32
  let v1824 : BitVec 1 := Scalar.cmpi .eq c4_i32_1666 c0_i32_1667
  let c1_i32_1668 : BitVec 32 := 1#32
  let v1825 : BitVec 32 := Scalar.select v1824 c1_i32_1668 c4_i32_1666
  let v1826 : BitVec 32 := Scalar.remsi v1823 v1825
  let c0_i32_1670 : BitVec 32 := 0#32
  let v1828 : BitVec 1 := Scalar.cmpi .slt v1826 c0_i32_1670
  let c0_i32_1671 : BitVec 32 := 0#32
  let v1829 : BitVec 1 := Scalar.cmpi .slt v1825 c0_i32_1671
  let v1830 : BitVec 1 := Scalar.xori v1828 v1829
  let c0_i32_1669 : BitVec 32 := 0#32
  let v1827 : BitVec 1 := Scalar.cmpi .ne v1826 c0_i32_1669
  let v1831 : BitVec 1 := Scalar.andi v1830 v1827
  let v1832 : BitVec 32 := Scalar.addi v1826 v1825
  let v1833 : BitVec 32 := Scalar.select v1831 v1832 v1826
  let c128_i32_1681 : BitVec 32 := 128#32
  let v1844 : BitVec 32 := Scalar.muli v1833 c128_i32_1681
  let v1845 : Index := Scalar.indexCast v1844
  let c0_1683 : Index := 0#32
  ![1, v1845.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let v1911 : Index := Scalar.indexCast v57
  let c512_1724 : Index := 512#32
  ![v1911.toNat, 512]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let c512_i32_1737 : BitVec 32 := 512#32
  ![v57.toNat, 512]
def k0_dev40 (d0 : Dev nD) : Nat :=
  let c0_i32_1736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1726 : BitVec 32 := 1#32
  let v1914 : BitVec 32 := Scalar.addi v29 c1_i32_1726
  let c4_i32_1727 : BitVec 32 := 4#32
  let c0_i32_1728 : BitVec 32 := 0#32
  let v1915 : BitVec 1 := Scalar.cmpi .eq c4_i32_1727 c0_i32_1728
  let c1_i32_1729 : BitVec 32 := 1#32
  let v1916 : BitVec 32 := Scalar.select v1915 c1_i32_1729 c4_i32_1727
  let v1917 : BitVec 32 := Scalar.remsi v1914 v1916
  let c0_i32_1731 : BitVec 32 := 0#32
  let v1919 : BitVec 1 := Scalar.cmpi .slt v1917 c0_i32_1731
  let c0_i32_1732 : BitVec 32 := 0#32
  let v1920 : BitVec 1 := Scalar.cmpi .slt v1916 c0_i32_1732
  let v1921 : BitVec 1 := Scalar.xori v1919 v1920
  let c0_i32_1730 : BitVec 32 := 0#32
  let v1918 : BitVec 1 := Scalar.cmpi .ne v1917 c0_i32_1730
  let v1922 : BitVec 1 := Scalar.andi v1921 v1918
  let v1923 : BitVec 32 := Scalar.addi v1917 v1916
  let v1924 : BitVec 32 := Scalar.select v1922 v1923 v1917
  let c4_i32_1733 : BitVec 32 := 4#32
  let v1925 : BitVec 32 := Scalar.muli v1924 c4_i32_1733
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1926 : BitVec 32 := Scalar.addi v1925 v12
  let c1_i32_1735 : BitVec 32 := 1#32
  let v1927 : BitVec 32 := Scalar.muli v1926 c1_i32_1735
  let v1928 : BitVec 32 := Scalar.addi c0_i32_1736 v1927
  v1928.toNat
def k0_dev41 (d0 : Dev nD) : Nat :=
  let c0_i32_1750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1740 : BitVec 32 := 2#32
  let v1936 : BitVec 32 := Scalar.addi v29 c2_i32_1740
  let c4_i32_1741 : BitVec 32 := 4#32
  let c0_i32_1742 : BitVec 32 := 0#32
  let v1937 : BitVec 1 := Scalar.cmpi .eq c4_i32_1741 c0_i32_1742
  let c1_i32_1743 : BitVec 32 := 1#32
  let v1938 : BitVec 32 := Scalar.select v1937 c1_i32_1743 c4_i32_1741
  let v1939 : BitVec 32 := Scalar.remsi v1936 v1938
  let c0_i32_1745 : BitVec 32 := 0#32
  let v1941 : BitVec 1 := Scalar.cmpi .slt v1939 c0_i32_1745
  let c0_i32_1746 : BitVec 32 := 0#32
  let v1942 : BitVec 1 := Scalar.cmpi .slt v1938 c0_i32_1746
  let v1943 : BitVec 1 := Scalar.xori v1941 v1942
  let c0_i32_1744 : BitVec 32 := 0#32
  let v1940 : BitVec 1 := Scalar.cmpi .ne v1939 c0_i32_1744
  let v1944 : BitVec 1 := Scalar.andi v1943 v1940
  let v1945 : BitVec 32 := Scalar.addi v1939 v1938
  let v1946 : BitVec 32 := Scalar.select v1944 v1945 v1939
  let c4_i32_1747 : BitVec 32 := 4#32
  let v1947 : BitVec 32 := Scalar.muli v1946 c4_i32_1747
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1948 : BitVec 32 := Scalar.addi v1947 v12
  let c1_i32_1749 : BitVec 32 := 1#32
  let v1949 : BitVec 32 := Scalar.muli v1948 c1_i32_1749
  let v1950 : BitVec 32 := Scalar.addi c0_i32_1750 v1949
  v1950.toNat
def k0_dev42 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1754 : BitVec 32 := 3#32
  let v1958 : BitVec 32 := Scalar.addi v29 c3_i32_1754
  let c4_i32_1755 : BitVec 32 := 4#32
  let c0_i32_1756 : BitVec 32 := 0#32
  let v1959 : BitVec 1 := Scalar.cmpi .eq c4_i32_1755 c0_i32_1756
  let c1_i32_1757 : BitVec 32 := 1#32
  let v1960 : BitVec 32 := Scalar.select v1959 c1_i32_1757 c4_i32_1755
  let v1961 : BitVec 32 := Scalar.remsi v1958 v1960
  let c0_i32_1759 : BitVec 32 := 0#32
  let v1963 : BitVec 1 := Scalar.cmpi .slt v1961 c0_i32_1759
  let c0_i32_1760 : BitVec 32 := 0#32
  let v1964 : BitVec 1 := Scalar.cmpi .slt v1960 c0_i32_1760
  let v1965 : BitVec 1 := Scalar.xori v1963 v1964
  let c0_i32_1758 : BitVec 32 := 0#32
  let v1962 : BitVec 1 := Scalar.cmpi .ne v1961 c0_i32_1758
  let v1966 : BitVec 1 := Scalar.andi v1965 v1962
  let v1967 : BitVec 32 := Scalar.addi v1961 v1960
  let v1968 : BitVec 32 := Scalar.select v1966 v1967 v1961
  let c4_i32_1761 : BitVec 32 := 4#32
  let v1969 : BitVec 32 := Scalar.muli v1968 c4_i32_1761
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1970 : BitVec 32 := Scalar.addi v1969 v12
  let c1_i32_1763 : BitVec 32 := 1#32
  let v1971 : BitVec 32 := Scalar.muli v1970 c1_i32_1763
  let v1972 : BitVec 32 := Scalar.addi c0_i32_1764 v1971
  v1972.toNat
def k0_off20 (d0 : Dev nD) (c0_i32_1775 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1991 : BitVec 32 := Scalar.subi v12 c0_i32_1775
  let c4_i32_1776 : BitVec 32 := 4#32
  let c0_i32_1777 : BitVec 32 := 0#32
  let v1992 : BitVec 1 := Scalar.cmpi .eq c4_i32_1776 c0_i32_1777
  let c1_i32_1778 : BitVec 32 := 1#32
  let v1993 : BitVec 32 := Scalar.select v1992 c1_i32_1778 c4_i32_1776
  let v1994 : BitVec 32 := Scalar.remsi v1991 v1993
  let c0_i32_1780 : BitVec 32 := 0#32
  let v1996 : BitVec 1 := Scalar.cmpi .slt v1994 c0_i32_1780
  let c0_i32_1781 : BitVec 32 := 0#32
  let v1997 : BitVec 1 := Scalar.cmpi .slt v1993 c0_i32_1781
  let v1998 : BitVec 1 := Scalar.xori v1996 v1997
  let c0_i32_1779 : BitVec 32 := 0#32
  let v1995 : BitVec 1 := Scalar.cmpi .ne v1994 c0_i32_1779
  let v1999 : BitVec 1 := Scalar.andi v1998 v1995
  let v2000 : BitVec 32 := Scalar.addi v1994 v1993
  let v2001 : BitVec 32 := Scalar.select v1999 v2000 v1994
  let c512_i32_1782 : BitVec 32 := 512#32
  let v2002 : BitVec 32 := Scalar.muli v2001 c512_i32_1782
  let c0_i32_1805 : BitVec 32 := 0#32
  ![v2002.toNat, 0]
def k0_dev43 (d0 : Dev nD) : Nat :=
  let c0_i32_1804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1803 : BitVec 32 := 1#32
  let v2029 : BitVec 32 := Scalar.muli v42 c1_i32_1803
  let v2030 : BitVec 32 := Scalar.addi c0_i32_1804 v2029
  v2030.toNat
def k0_off21 (d0 : Dev nD) (c0_i32_1792 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2016 : BitVec 32 := Scalar.addi v12 c0_i32_1792
  let c4_i32_1793 : BitVec 32 := 4#32
  let c0_i32_1794 : BitVec 32 := 0#32
  let v2017 : BitVec 1 := Scalar.cmpi .eq c4_i32_1793 c0_i32_1794
  let c1_i32_1795 : BitVec 32 := 1#32
  let v2018 : BitVec 32 := Scalar.select v2017 c1_i32_1795 c4_i32_1793
  let v2019 : BitVec 32 := Scalar.remsi v2016 v2018
  let c0_i32_1797 : BitVec 32 := 0#32
  let v2021 : BitVec 1 := Scalar.cmpi .slt v2019 c0_i32_1797
  let c0_i32_1798 : BitVec 32 := 0#32
  let v2022 : BitVec 1 := Scalar.cmpi .slt v2018 c0_i32_1798
  let v2023 : BitVec 1 := Scalar.xori v2021 v2022
  let c0_i32_1796 : BitVec 32 := 0#32
  let v2020 : BitVec 1 := Scalar.cmpi .ne v2019 c0_i32_1796
  let v2024 : BitVec 1 := Scalar.andi v2023 v2020
  let v2025 : BitVec 32 := Scalar.addi v2019 v2018
  let v2026 : BitVec 32 := Scalar.select v2024 v2025 v2019
  let c512_i32_1799 : BitVec 32 := 512#32
  let v2027 : BitVec 32 := Scalar.muli v2026 c512_i32_1799
  let c256_i32_1800 : BitVec 32 := 256#32
  let v2028 : BitVec 32 := Scalar.addi v2027 c256_i32_1800
  let c0_i32_1811 : BitVec 32 := 0#32
  ![v2028.toNat, 0]
def k0_dev44 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1809 : BitVec 32 := 1#32
  let v2037 : BitVec 32 := Scalar.muli v54 c1_i32_1809
  let v2038 : BitVec 32 := Scalar.addi c0_i32_1810 v2037
  v2038.toNat
def k0_off22 (d0 : Dev nD) : Fin 3 → Nat :=
  let c2_i32_1919 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_1908 : BitVec 32 := 128#32
  let v2140 : BitVec 32 := Scalar.muli v29 c128_i32_1908
  let c0_i32_1923 : BitVec 32 := 0#32
  ![2, v2140.toNat, 0]
def k0_off23 (d0 : Dev nD) (c1_i32_1900 : BitVec 32) : Fin 3 → Nat :=
  let c2_i32_1918 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2128 : BitVec 32 := Scalar.addi v29 c1_i32_1900
  let c4_i32_1901 : BitVec 32 := 4#32
  let c0_i32_1902 : BitVec 32 := 0#32
  let v2129 : BitVec 1 := Scalar.cmpi .eq c4_i32_1901 c0_i32_1902
  let c1_i32_1903 : BitVec 32 := 1#32
  let v2130 : BitVec 32 := Scalar.select v2129 c1_i32_1903 c4_i32_1901
  let v2131 : BitVec 32 := Scalar.remsi v2128 v2130
  let c0_i32_1905 : BitVec 32 := 0#32
  let v2133 : BitVec 1 := Scalar.cmpi .slt v2131 c0_i32_1905
  let c0_i32_1906 : BitVec 32 := 0#32
  let v2134 : BitVec 1 := Scalar.cmpi .slt v2130 c0_i32_1906
  let v2135 : BitVec 1 := Scalar.xori v2133 v2134
  let c0_i32_1904 : BitVec 32 := 0#32
  let v2132 : BitVec 1 := Scalar.cmpi .ne v2131 c0_i32_1904
  let v2136 : BitVec 1 := Scalar.andi v2135 v2132
  let v2137 : BitVec 32 := Scalar.addi v2131 v2130
  let v2138 : BitVec 32 := Scalar.select v2136 v2137 v2131
  let c128_i32_1907 : BitVec 32 := 128#32
  let v2139 : BitVec 32 := Scalar.muli v2138 c128_i32_1907
  let c0_i32_1924 : BitVec 32 := 0#32
  ![2, v2139.toNat, 0]
def k0_dev45 (d0 : Dev nD) : Nat :=
  let c0_i32_1922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1910 : BitVec 32 := 1#32
  let v2142 : BitVec 32 := Scalar.addi v29 c1_i32_1910
  let c4_i32_1911 : BitVec 32 := 4#32
  let c0_i32_1912 : BitVec 32 := 0#32
  let v2143 : BitVec 1 := Scalar.cmpi .eq c4_i32_1911 c0_i32_1912
  let c1_i32_1913 : BitVec 32 := 1#32
  let v2144 : BitVec 32 := Scalar.select v2143 c1_i32_1913 c4_i32_1911
  let v2145 : BitVec 32 := Scalar.remsi v2142 v2144
  let c0_i32_1915 : BitVec 32 := 0#32
  let v2147 : BitVec 1 := Scalar.cmpi .slt v2145 c0_i32_1915
  let c0_i32_1916 : BitVec 32 := 0#32
  let v2148 : BitVec 1 := Scalar.cmpi .slt v2144 c0_i32_1916
  let v2149 : BitVec 1 := Scalar.xori v2147 v2148
  let c0_i32_1914 : BitVec 32 := 0#32
  let v2146 : BitVec 1 := Scalar.cmpi .ne v2145 c0_i32_1914
  let v2150 : BitVec 1 := Scalar.andi v2149 v2146
  let v2151 : BitVec 32 := Scalar.addi v2145 v2144
  let v2152 : BitVec 32 := Scalar.select v2150 v2151 v2145
  let c4_i32_1917 : BitVec 32 := 4#32
  let v2153 : BitVec 32 := Scalar.muli v2152 c4_i32_1917
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2154 : BitVec 32 := Scalar.addi v2153 v12
  let c1_i32_1921 : BitVec 32 := 1#32
  let v2155 : BitVec 32 := Scalar.muli v2154 c1_i32_1921
  let v2156 : BitVec 32 := Scalar.addi c0_i32_1922 v2155
  v2156.toNat
def k0_dev46 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1935 : BitVec 32 := 2#32
  let v2179 : BitVec 32 := Scalar.addi v29 c2_i32_1935
  let c4_i32_1936 : BitVec 32 := 4#32
  let c0_i32_1937 : BitVec 32 := 0#32
  let v2180 : BitVec 1 := Scalar.cmpi .eq c4_i32_1936 c0_i32_1937
  let c1_i32_1938 : BitVec 32 := 1#32
  let v2181 : BitVec 32 := Scalar.select v2180 c1_i32_1938 c4_i32_1936
  let v2182 : BitVec 32 := Scalar.remsi v2179 v2181
  let c0_i32_1940 : BitVec 32 := 0#32
  let v2184 : BitVec 1 := Scalar.cmpi .slt v2182 c0_i32_1940
  let c0_i32_1941 : BitVec 32 := 0#32
  let v2185 : BitVec 1 := Scalar.cmpi .slt v2181 c0_i32_1941
  let v2186 : BitVec 1 := Scalar.xori v2184 v2185
  let c0_i32_1939 : BitVec 32 := 0#32
  let v2183 : BitVec 1 := Scalar.cmpi .ne v2182 c0_i32_1939
  let v2187 : BitVec 1 := Scalar.andi v2186 v2183
  let v2188 : BitVec 32 := Scalar.addi v2182 v2181
  let v2189 : BitVec 32 := Scalar.select v2187 v2188 v2182
  let c4_i32_1942 : BitVec 32 := 4#32
  let v2190 : BitVec 32 := Scalar.muli v2189 c4_i32_1942
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2191 : BitVec 32 := Scalar.addi v2190 v12
  let c1_i32_1946 : BitVec 32 := 1#32
  let v2192 : BitVec 32 := Scalar.muli v2191 c1_i32_1946
  let v2193 : BitVec 32 := Scalar.addi c0_i32_1947 v2192
  v2193.toNat
def k0_dev47 (d0 : Dev nD) : Nat :=
  let c0_i32_1972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1960 : BitVec 32 := 3#32
  let v2216 : BitVec 32 := Scalar.addi v29 c3_i32_1960
  let c4_i32_1961 : BitVec 32 := 4#32
  let c0_i32_1962 : BitVec 32 := 0#32
  let v2217 : BitVec 1 := Scalar.cmpi .eq c4_i32_1961 c0_i32_1962
  let c1_i32_1963 : BitVec 32 := 1#32
  let v2218 : BitVec 32 := Scalar.select v2217 c1_i32_1963 c4_i32_1961
  let v2219 : BitVec 32 := Scalar.remsi v2216 v2218
  let c0_i32_1965 : BitVec 32 := 0#32
  let v2221 : BitVec 1 := Scalar.cmpi .slt v2219 c0_i32_1965
  let c0_i32_1966 : BitVec 32 := 0#32
  let v2222 : BitVec 1 := Scalar.cmpi .slt v2218 c0_i32_1966
  let v2223 : BitVec 1 := Scalar.xori v2221 v2222
  let c0_i32_1964 : BitVec 32 := 0#32
  let v2220 : BitVec 1 := Scalar.cmpi .ne v2219 c0_i32_1964
  let v2224 : BitVec 1 := Scalar.andi v2223 v2220
  let v2225 : BitVec 32 := Scalar.addi v2219 v2218
  let v2226 : BitVec 32 := Scalar.select v2224 v2225 v2219
  let c4_i32_1967 : BitVec 32 := 4#32
  let v2227 : BitVec 32 := Scalar.muli v2226 c4_i32_1967
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2228 : BitVec 32 := Scalar.addi v2227 v12
  let c1_i32_1971 : BitVec 32 := 1#32
  let v2229 : BitVec 32 := Scalar.muli v2228 c1_i32_1971
  let v2230 : BitVec 32 := Scalar.addi c0_i32_1972 v2229
  v2230.toNat
def k0_off24 (d0 : Dev nD) (c0_i32_1975 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2239 : BitVec 32 := Scalar.subi v12 c0_i32_1975
  let c1_i32_1976 : BitVec 32 := 1#32
  let v2240 : BitVec 32 := Scalar.subi v2239 c1_i32_1976
  let c4_i32_1977 : BitVec 32 := 4#32
  let c0_i32_1978 : BitVec 32 := 0#32
  let v2241 : BitVec 1 := Scalar.cmpi .eq c4_i32_1977 c0_i32_1978
  let c1_i32_1979 : BitVec 32 := 1#32
  let v2242 : BitVec 32 := Scalar.select v2241 c1_i32_1979 c4_i32_1977
  let v2243 : BitVec 32 := Scalar.remsi v2240 v2242
  let c0_i32_1981 : BitVec 32 := 0#32
  let v2245 : BitVec 1 := Scalar.cmpi .slt v2243 c0_i32_1981
  let c0_i32_1982 : BitVec 32 := 0#32
  let v2246 : BitVec 1 := Scalar.cmpi .slt v2242 c0_i32_1982
  let v2247 : BitVec 1 := Scalar.xori v2245 v2246
  let c0_i32_1980 : BitVec 32 := 0#32
  let v2244 : BitVec 1 := Scalar.cmpi .ne v2243 c0_i32_1980
  let v2248 : BitVec 1 := Scalar.andi v2247 v2244
  let v2249 : BitVec 32 := Scalar.addi v2243 v2242
  let v2250 : BitVec 32 := Scalar.select v2248 v2249 v2243
  let c512_i32_1983 : BitVec 32 := 512#32
  let v2251 : BitVec 32 := Scalar.muli v2250 c512_i32_1983
  let c0_i32_1988 : BitVec 32 := 0#32
  ![v2251.toNat, 0]
def k0_off25 (d0 : Dev nD) (c0_i32_1990 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2258 : BitVec 32 := Scalar.addi v12 c0_i32_1990
  let c1_i32_1991 : BitVec 32 := 1#32
  let v2259 : BitVec 32 := Scalar.addi v2258 c1_i32_1991
  let c4_i32_1992 : BitVec 32 := 4#32
  let c0_i32_1993 : BitVec 32 := 0#32
  let v2260 : BitVec 1 := Scalar.cmpi .eq c4_i32_1992 c0_i32_1993
  let c1_i32_1994 : BitVec 32 := 1#32
  let v2261 : BitVec 32 := Scalar.select v2260 c1_i32_1994 c4_i32_1992
  let v2262 : BitVec 32 := Scalar.remsi v2259 v2261
  let c0_i32_1996 : BitVec 32 := 0#32
  let v2264 : BitVec 1 := Scalar.cmpi .slt v2262 c0_i32_1996
  let c0_i32_1997 : BitVec 32 := 0#32
  let v2265 : BitVec 1 := Scalar.cmpi .slt v2261 c0_i32_1997
  let v2266 : BitVec 1 := Scalar.xori v2264 v2265
  let c0_i32_1995 : BitVec 32 := 0#32
  let v2263 : BitVec 1 := Scalar.cmpi .ne v2262 c0_i32_1995
  let v2267 : BitVec 1 := Scalar.andi v2266 v2263
  let v2268 : BitVec 32 := Scalar.addi v2262 v2261
  let v2269 : BitVec 32 := Scalar.select v2267 v2268 v2262
  let c512_i32_1998 : BitVec 32 := 512#32
  let v2270 : BitVec 32 := Scalar.muli v2269 c512_i32_1998
  let c256_i32_1999 : BitVec 32 := 256#32
  let v2271 : BitVec 32 := Scalar.addi v2270 c256_i32_1999
  let c0_i32_2004 : BitVec 32 := 0#32
  ![v2271.toNat, 0]
def k0_dev48 (d0 : Dev nD) : Nat :=
  let c0_i32_2043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2042 : BitVec 32 := 1#32
  let v2328 : BitVec 32 := Scalar.muli v42 c1_i32_2042
  let v2329 : BitVec 32 := Scalar.addi c0_i32_2043 v2328
  v2329.toNat
def k0_dev49 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2048 : BitVec 32 := 1#32
  let v2336 : BitVec 32 := Scalar.muli v54 c1_i32_2048
  let v2337 : BitVec 32 := Scalar.addi c0_i32_2049 v2336
  v2337.toNat
def k0_off26 (d0 : Dev nD) (c1_i32_2052 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_2059 : BitVec 32 := 512#32
  let v2355 : BitVec 32 := Scalar.muli v12 c512_i32_2059
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2344 : BitVec 32 := Scalar.addi v29 c1_i32_2052
  let c4_i32_2053 : BitVec 32 := 4#32
  let c0_i32_2054 : BitVec 32 := 0#32
  let v2345 : BitVec 1 := Scalar.cmpi .eq c4_i32_2053 c0_i32_2054
  let c1_i32_2055 : BitVec 32 := 1#32
  let v2346 : BitVec 32 := Scalar.select v2345 c1_i32_2055 c4_i32_2053
  let v2347 : BitVec 32 := Scalar.remsi v2344 v2346
  let c0_i32_2057 : BitVec 32 := 0#32
  let v2349 : BitVec 1 := Scalar.cmpi .slt v2347 c0_i32_2057
  let c0_i32_2058 : BitVec 32 := 0#32
  let v2350 : BitVec 1 := Scalar.cmpi .slt v2346 c0_i32_2058
  let v2351 : BitVec 1 := Scalar.xori v2349 v2350
  let c0_i32_2056 : BitVec 32 := 0#32
  let v2348 : BitVec 1 := Scalar.cmpi .ne v2347 c0_i32_2056
  let v2352 : BitVec 1 := Scalar.andi v2351 v2348
  let v2353 : BitVec 32 := Scalar.addi v2347 v2346
  let v2354 : BitVec 32 := Scalar.select v2352 v2353 v2347
  let c128_i32_2060 : BitVec 32 := 128#32
  let v2356 : BitVec 32 := Scalar.muli v2354 c128_i32_2060
  let v2357 : BitVec 32 := Scalar.addi v2355 v2356
  let c512_i32_2065 : BitVec 32 := 512#32
  ![v2357.toNat, 512]
def k0_off27 (d0 : Dev nD) : Fin 3 → Nat :=
  let c3_i32_2202 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_2192 : BitVec 32 := 128#32
  let v2502 : BitVec 32 := Scalar.muli v29 c128_i32_2192
  let c0_i32_2206 : BitVec 32 := 0#32
  ![3, v2502.toNat, 0]
def k0_off28 (d0 : Dev nD) (c1_i32_2184 : BitVec 32) : Fin 3 → Nat :=
  let c3_i32_2201 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2490 : BitVec 32 := Scalar.addi v29 c1_i32_2184
  let c4_i32_2185 : BitVec 32 := 4#32
  let c0_i32_2186 : BitVec 32 := 0#32
  let v2491 : BitVec 1 := Scalar.cmpi .eq c4_i32_2185 c0_i32_2186
  let c1_i32_2187 : BitVec 32 := 1#32
  let v2492 : BitVec 32 := Scalar.select v2491 c1_i32_2187 c4_i32_2185
  let v2493 : BitVec 32 := Scalar.remsi v2490 v2492
  let c0_i32_2189 : BitVec 32 := 0#32
  let v2495 : BitVec 1 := Scalar.cmpi .slt v2493 c0_i32_2189
  let c0_i32_2190 : BitVec 32 := 0#32
  let v2496 : BitVec 1 := Scalar.cmpi .slt v2492 c0_i32_2190
  let v2497 : BitVec 1 := Scalar.xori v2495 v2496
  let c0_i32_2188 : BitVec 32 := 0#32
  let v2494 : BitVec 1 := Scalar.cmpi .ne v2493 c0_i32_2188
  let v2498 : BitVec 1 := Scalar.andi v2497 v2494
  let v2499 : BitVec 32 := Scalar.addi v2493 v2492
  let v2500 : BitVec 32 := Scalar.select v2498 v2499 v2493
  let c128_i32_2191 : BitVec 32 := 128#32
  let v2501 : BitVec 32 := Scalar.muli v2500 c128_i32_2191
  let c0_i32_2207 : BitVec 32 := 0#32
  ![3, v2501.toNat, 0]
def k0_dev50 (d0 : Dev nD) : Nat :=
  let c0_i32_2205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2193 : BitVec 32 := 1#32
  let v2504 : BitVec 32 := Scalar.addi v29 c1_i32_2193
  let c4_i32_2194 : BitVec 32 := 4#32
  let c0_i32_2195 : BitVec 32 := 0#32
  let v2505 : BitVec 1 := Scalar.cmpi .eq c4_i32_2194 c0_i32_2195
  let c1_i32_2196 : BitVec 32 := 1#32
  let v2506 : BitVec 32 := Scalar.select v2505 c1_i32_2196 c4_i32_2194
  let v2507 : BitVec 32 := Scalar.remsi v2504 v2506
  let c0_i32_2198 : BitVec 32 := 0#32
  let v2509 : BitVec 1 := Scalar.cmpi .slt v2507 c0_i32_2198
  let c0_i32_2199 : BitVec 32 := 0#32
  let v2510 : BitVec 1 := Scalar.cmpi .slt v2506 c0_i32_2199
  let v2511 : BitVec 1 := Scalar.xori v2509 v2510
  let c0_i32_2197 : BitVec 32 := 0#32
  let v2508 : BitVec 1 := Scalar.cmpi .ne v2507 c0_i32_2197
  let v2512 : BitVec 1 := Scalar.andi v2511 v2508
  let v2513 : BitVec 32 := Scalar.addi v2507 v2506
  let v2514 : BitVec 32 := Scalar.select v2512 v2513 v2507
  let c4_i32_2200 : BitVec 32 := 4#32
  let v2515 : BitVec 32 := Scalar.muli v2514 c4_i32_2200
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2516 : BitVec 32 := Scalar.addi v2515 v12
  let c1_i32_2204 : BitVec 32 := 1#32
  let v2517 : BitVec 32 := Scalar.muli v2516 c1_i32_2204
  let v2518 : BitVec 32 := Scalar.addi c0_i32_2205 v2517
  v2518.toNat
def k0_dev51 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2218 : BitVec 32 := 2#32
  let v2541 : BitVec 32 := Scalar.addi v29 c2_i32_2218
  let c4_i32_2219 : BitVec 32 := 4#32
  let c0_i32_2220 : BitVec 32 := 0#32
  let v2542 : BitVec 1 := Scalar.cmpi .eq c4_i32_2219 c0_i32_2220
  let c1_i32_2221 : BitVec 32 := 1#32
  let v2543 : BitVec 32 := Scalar.select v2542 c1_i32_2221 c4_i32_2219
  let v2544 : BitVec 32 := Scalar.remsi v2541 v2543
  let c0_i32_2223 : BitVec 32 := 0#32
  let v2546 : BitVec 1 := Scalar.cmpi .slt v2544 c0_i32_2223
  let c0_i32_2224 : BitVec 32 := 0#32
  let v2547 : BitVec 1 := Scalar.cmpi .slt v2543 c0_i32_2224
  let v2548 : BitVec 1 := Scalar.xori v2546 v2547
  let c0_i32_2222 : BitVec 32 := 0#32
  let v2545 : BitVec 1 := Scalar.cmpi .ne v2544 c0_i32_2222
  let v2549 : BitVec 1 := Scalar.andi v2548 v2545
  let v2550 : BitVec 32 := Scalar.addi v2544 v2543
  let v2551 : BitVec 32 := Scalar.select v2549 v2550 v2544
  let c4_i32_2225 : BitVec 32 := 4#32
  let v2552 : BitVec 32 := Scalar.muli v2551 c4_i32_2225
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2553 : BitVec 32 := Scalar.addi v2552 v12
  let c1_i32_2229 : BitVec 32 := 1#32
  let v2554 : BitVec 32 := Scalar.muli v2553 c1_i32_2229
  let v2555 : BitVec 32 := Scalar.addi c0_i32_2230 v2554
  v2555.toNat
def k0_dev52 (d0 : Dev nD) : Nat :=
  let c0_i32_2255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2243 : BitVec 32 := 3#32
  let v2578 : BitVec 32 := Scalar.addi v29 c3_i32_2243
  let c4_i32_2244 : BitVec 32 := 4#32
  let c0_i32_2245 : BitVec 32 := 0#32
  let v2579 : BitVec 1 := Scalar.cmpi .eq c4_i32_2244 c0_i32_2245
  let c1_i32_2246 : BitVec 32 := 1#32
  let v2580 : BitVec 32 := Scalar.select v2579 c1_i32_2246 c4_i32_2244
  let v2581 : BitVec 32 := Scalar.remsi v2578 v2580
  let c0_i32_2248 : BitVec 32 := 0#32
  let v2583 : BitVec 1 := Scalar.cmpi .slt v2581 c0_i32_2248
  let c0_i32_2249 : BitVec 32 := 0#32
  let v2584 : BitVec 1 := Scalar.cmpi .slt v2580 c0_i32_2249
  let v2585 : BitVec 1 := Scalar.xori v2583 v2584
  let c0_i32_2247 : BitVec 32 := 0#32
  let v2582 : BitVec 1 := Scalar.cmpi .ne v2581 c0_i32_2247
  let v2586 : BitVec 1 := Scalar.andi v2585 v2582
  let v2587 : BitVec 32 := Scalar.addi v2581 v2580
  let v2588 : BitVec 32 := Scalar.select v2586 v2587 v2581
  let c4_i32_2250 : BitVec 32 := 4#32
  let v2589 : BitVec 32 := Scalar.muli v2588 c4_i32_2250
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2590 : BitVec 32 := Scalar.addi v2589 v12
  let c1_i32_2254 : BitVec 32 := 1#32
  let v2591 : BitVec 32 := Scalar.muli v2590 c1_i32_2254
  let v2592 : BitVec 32 := Scalar.addi c0_i32_2255 v2591
  v2592.toNat
def k0_off29 (d0 : Dev nD) : Fin 3 → Nat :=
  let c2_2259 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_2258 : BitVec 32 := 128#32
  let v2601 : BitVec 32 := Scalar.muli v29 c128_i32_2258
  let v2602 : Index := Scalar.indexCast v2601
  let c0_2260 : Index := 0#32
  ![2, v2602.toNat, 0]
def k0_off30 (d0 : Dev nD) (c1_i32_2261 : BitVec 32) : Fin 3 → Nat :=
  let c2_2278 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2606 : BitVec 32 := Scalar.addi v29 c1_i32_2261
  let c4_i32_2262 : BitVec 32 := 4#32
  let c0_i32_2263 : BitVec 32 := 0#32
  let v2607 : BitVec 1 := Scalar.cmpi .eq c4_i32_2262 c0_i32_2263
  let c1_i32_2264 : BitVec 32 := 1#32
  let v2608 : BitVec 32 := Scalar.select v2607 c1_i32_2264 c4_i32_2262
  let v2609 : BitVec 32 := Scalar.remsi v2606 v2608
  let c0_i32_2266 : BitVec 32 := 0#32
  let v2611 : BitVec 1 := Scalar.cmpi .slt v2609 c0_i32_2266
  let c0_i32_2267 : BitVec 32 := 0#32
  let v2612 : BitVec 1 := Scalar.cmpi .slt v2608 c0_i32_2267
  let v2613 : BitVec 1 := Scalar.xori v2611 v2612
  let c0_i32_2265 : BitVec 32 := 0#32
  let v2610 : BitVec 1 := Scalar.cmpi .ne v2609 c0_i32_2265
  let v2614 : BitVec 1 := Scalar.andi v2613 v2610
  let v2615 : BitVec 32 := Scalar.addi v2609 v2608
  let v2616 : BitVec 32 := Scalar.select v2614 v2615 v2609
  let c128_i32_2277 : BitVec 32 := 128#32
  let v2627 : BitVec 32 := Scalar.muli v2616 c128_i32_2277
  let v2628 : Index := Scalar.indexCast v2627
  let c0_2279 : Index := 0#32
  ![2, v2628.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let v2694 : Index := Scalar.indexCast v57
  let c1024_2320 : Index := 1024#32
  ![v2694.toNat, 1024]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let c1024_i32 : BitVec 32 := 1024#32
  ![v57.toNat, 1024]
def k0_dev53 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2322 : BitVec 32 := 1#32
  let v2697 : BitVec 32 := Scalar.addi v29 c1_i32_2322
  let c4_i32_2323 : BitVec 32 := 4#32
  let c0_i32_2324 : BitVec 32 := 0#32
  let v2698 : BitVec 1 := Scalar.cmpi .eq c4_i32_2323 c0_i32_2324
  let c1_i32_2325 : BitVec 32 := 1#32
  let v2699 : BitVec 32 := Scalar.select v2698 c1_i32_2325 c4_i32_2323
  let v2700 : BitVec 32 := Scalar.remsi v2697 v2699
  let c0_i32_2327 : BitVec 32 := 0#32
  let v2702 : BitVec 1 := Scalar.cmpi .slt v2700 c0_i32_2327
  let c0_i32_2328 : BitVec 32 := 0#32
  let v2703 : BitVec 1 := Scalar.cmpi .slt v2699 c0_i32_2328
  let v2704 : BitVec 1 := Scalar.xori v2702 v2703
  let c0_i32_2326 : BitVec 32 := 0#32
  let v2701 : BitVec 1 := Scalar.cmpi .ne v2700 c0_i32_2326
  let v2705 : BitVec 1 := Scalar.andi v2704 v2701
  let v2706 : BitVec 32 := Scalar.addi v2700 v2699
  let v2707 : BitVec 32 := Scalar.select v2705 v2706 v2700
  let c4_i32_2329 : BitVec 32 := 4#32
  let v2708 : BitVec 32 := Scalar.muli v2707 c4_i32_2329
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2709 : BitVec 32 := Scalar.addi v2708 v12
  let c1_i32_2331 : BitVec 32 := 1#32
  let v2710 : BitVec 32 := Scalar.muli v2709 c1_i32_2331
  let v2711 : BitVec 32 := Scalar.addi c0_i32_2332 v2710
  v2711.toNat
def k0_dev54 (d0 : Dev nD) : Nat :=
  let c0_i32_2345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2335 : BitVec 32 := 2#32
  let v2719 : BitVec 32 := Scalar.addi v29 c2_i32_2335
  let c4_i32_2336 : BitVec 32 := 4#32
  let c0_i32_2337 : BitVec 32 := 0#32
  let v2720 : BitVec 1 := Scalar.cmpi .eq c4_i32_2336 c0_i32_2337
  let c1_i32_2338 : BitVec 32 := 1#32
  let v2721 : BitVec 32 := Scalar.select v2720 c1_i32_2338 c4_i32_2336
  let v2722 : BitVec 32 := Scalar.remsi v2719 v2721
  let c0_i32_2340 : BitVec 32 := 0#32
  let v2724 : BitVec 1 := Scalar.cmpi .slt v2722 c0_i32_2340
  let c0_i32_2341 : BitVec 32 := 0#32
  let v2725 : BitVec 1 := Scalar.cmpi .slt v2721 c0_i32_2341
  let v2726 : BitVec 1 := Scalar.xori v2724 v2725
  let c0_i32_2339 : BitVec 32 := 0#32
  let v2723 : BitVec 1 := Scalar.cmpi .ne v2722 c0_i32_2339
  let v2727 : BitVec 1 := Scalar.andi v2726 v2723
  let v2728 : BitVec 32 := Scalar.addi v2722 v2721
  let v2729 : BitVec 32 := Scalar.select v2727 v2728 v2722
  let c4_i32_2342 : BitVec 32 := 4#32
  let v2730 : BitVec 32 := Scalar.muli v2729 c4_i32_2342
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2731 : BitVec 32 := Scalar.addi v2730 v12
  let c1_i32_2344 : BitVec 32 := 1#32
  let v2732 : BitVec 32 := Scalar.muli v2731 c1_i32_2344
  let v2733 : BitVec 32 := Scalar.addi c0_i32_2345 v2732
  v2733.toNat
def k0_dev55 (d0 : Dev nD) : Nat :=
  let c0_i32_2359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2349 : BitVec 32 := 3#32
  let v2741 : BitVec 32 := Scalar.addi v29 c3_i32_2349
  let c4_i32_2350 : BitVec 32 := 4#32
  let c0_i32_2351 : BitVec 32 := 0#32
  let v2742 : BitVec 1 := Scalar.cmpi .eq c4_i32_2350 c0_i32_2351
  let c1_i32_2352 : BitVec 32 := 1#32
  let v2743 : BitVec 32 := Scalar.select v2742 c1_i32_2352 c4_i32_2350
  let v2744 : BitVec 32 := Scalar.remsi v2741 v2743
  let c0_i32_2354 : BitVec 32 := 0#32
  let v2746 : BitVec 1 := Scalar.cmpi .slt v2744 c0_i32_2354
  let c0_i32_2355 : BitVec 32 := 0#32
  let v2747 : BitVec 1 := Scalar.cmpi .slt v2743 c0_i32_2355
  let v2748 : BitVec 1 := Scalar.xori v2746 v2747
  let c0_i32_2353 : BitVec 32 := 0#32
  let v2745 : BitVec 1 := Scalar.cmpi .ne v2744 c0_i32_2353
  let v2749 : BitVec 1 := Scalar.andi v2748 v2745
  let v2750 : BitVec 32 := Scalar.addi v2744 v2743
  let v2751 : BitVec 32 := Scalar.select v2749 v2750 v2744
  let c4_i32_2356 : BitVec 32 := 4#32
  let v2752 : BitVec 32 := Scalar.muli v2751 c4_i32_2356
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2753 : BitVec 32 := Scalar.addi v2752 v12
  let c1_i32_2358 : BitVec 32 := 1#32
  let v2754 : BitVec 32 := Scalar.muli v2753 c1_i32_2358
  let v2755 : BitVec 32 := Scalar.addi c0_i32_2359 v2754
  v2755.toNat
def k0_off33 (d0 : Dev nD) (c0_i32_2370 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2774 : BitVec 32 := Scalar.subi v12 c0_i32_2370
  let c4_i32_2371 : BitVec 32 := 4#32
  let c0_i32_2372 : BitVec 32 := 0#32
  let v2775 : BitVec 1 := Scalar.cmpi .eq c4_i32_2371 c0_i32_2372
  let c1_i32_2373 : BitVec 32 := 1#32
  let v2776 : BitVec 32 := Scalar.select v2775 c1_i32_2373 c4_i32_2371
  let v2777 : BitVec 32 := Scalar.remsi v2774 v2776
  let c0_i32_2375 : BitVec 32 := 0#32
  let v2779 : BitVec 1 := Scalar.cmpi .slt v2777 c0_i32_2375
  let c0_i32_2376 : BitVec 32 := 0#32
  let v2780 : BitVec 1 := Scalar.cmpi .slt v2776 c0_i32_2376
  let v2781 : BitVec 1 := Scalar.xori v2779 v2780
  let c0_i32_2374 : BitVec 32 := 0#32
  let v2778 : BitVec 1 := Scalar.cmpi .ne v2777 c0_i32_2374
  let v2782 : BitVec 1 := Scalar.andi v2781 v2778
  let v2783 : BitVec 32 := Scalar.addi v2777 v2776
  let v2784 : BitVec 32 := Scalar.select v2782 v2783 v2777
  let c512_i32_2377 : BitVec 32 := 512#32
  let v2785 : BitVec 32 := Scalar.muli v2784 c512_i32_2377
  let c512_i32_2400 : BitVec 32 := 512#32
  ![v2785.toNat, 512]
def k0_dev56 (d0 : Dev nD) : Nat :=
  let c0_i32_2399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2398 : BitVec 32 := 1#32
  let v2812 : BitVec 32 := Scalar.muli v42 c1_i32_2398
  let v2813 : BitVec 32 := Scalar.addi c0_i32_2399 v2812
  v2813.toNat
def k0_off34 (d0 : Dev nD) (c0_i32_2387 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2799 : BitVec 32 := Scalar.addi v12 c0_i32_2387
  let c4_i32_2388 : BitVec 32 := 4#32
  let c0_i32_2389 : BitVec 32 := 0#32
  let v2800 : BitVec 1 := Scalar.cmpi .eq c4_i32_2388 c0_i32_2389
  let c1_i32_2390 : BitVec 32 := 1#32
  let v2801 : BitVec 32 := Scalar.select v2800 c1_i32_2390 c4_i32_2388
  let v2802 : BitVec 32 := Scalar.remsi v2799 v2801
  let c0_i32_2392 : BitVec 32 := 0#32
  let v2804 : BitVec 1 := Scalar.cmpi .slt v2802 c0_i32_2392
  let c0_i32_2393 : BitVec 32 := 0#32
  let v2805 : BitVec 1 := Scalar.cmpi .slt v2801 c0_i32_2393
  let v2806 : BitVec 1 := Scalar.xori v2804 v2805
  let c0_i32_2391 : BitVec 32 := 0#32
  let v2803 : BitVec 1 := Scalar.cmpi .ne v2802 c0_i32_2391
  let v2807 : BitVec 1 := Scalar.andi v2806 v2803
  let v2808 : BitVec 32 := Scalar.addi v2802 v2801
  let v2809 : BitVec 32 := Scalar.select v2807 v2808 v2802
  let c512_i32_2394 : BitVec 32 := 512#32
  let v2810 : BitVec 32 := Scalar.muli v2809 c512_i32_2394
  let c256_i32_2395 : BitVec 32 := 256#32
  let v2811 : BitVec 32 := Scalar.addi v2810 c256_i32_2395
  let c512_i32_2406 : BitVec 32 := 512#32
  ![v2811.toNat, 512]
def k0_dev57 (d0 : Dev nD) : Nat :=
  let c0_i32_2405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2404 : BitVec 32 := 1#32
  let v2820 : BitVec 32 := Scalar.muli v54 c1_i32_2404
  let v2821 : BitVec 32 := Scalar.addi c0_i32_2405 v2820
  v2821.toNat
def k0_dev58 (d0 : Dev nD) : Nat :=
  let c0_i32_2476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2475 : BitVec 32 := 1#32
  let v2917 : BitVec 32 := Scalar.muli v42 c1_i32_2475
  let v2918 : BitVec 32 := Scalar.addi c0_i32_2476 v2917
  v2918.toNat
def k0_dev59 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2481 : BitVec 32 := 1#32
  let v2925 : BitVec 32 := Scalar.muli v54 c1_i32_2481
  let v2926 : BitVec 32 := Scalar.addi c0_i32_2482 v2925
  v2926.toNat
def k0_off35 (d0 : Dev nD) (c1_i32_2485 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_2492 : BitVec 32 := 512#32
  let v2944 : BitVec 32 := Scalar.muli v12 c512_i32_2492
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2933 : BitVec 32 := Scalar.addi v29 c1_i32_2485
  let c4_i32_2486 : BitVec 32 := 4#32
  let c0_i32_2487 : BitVec 32 := 0#32
  let v2934 : BitVec 1 := Scalar.cmpi .eq c4_i32_2486 c0_i32_2487
  let c1_i32_2488 : BitVec 32 := 1#32
  let v2935 : BitVec 32 := Scalar.select v2934 c1_i32_2488 c4_i32_2486
  let v2936 : BitVec 32 := Scalar.remsi v2933 v2935
  let c0_i32_2490 : BitVec 32 := 0#32
  let v2938 : BitVec 1 := Scalar.cmpi .slt v2936 c0_i32_2490
  let c0_i32_2491 : BitVec 32 := 0#32
  let v2939 : BitVec 1 := Scalar.cmpi .slt v2935 c0_i32_2491
  let v2940 : BitVec 1 := Scalar.xori v2938 v2939
  let c0_i32_2489 : BitVec 32 := 0#32
  let v2937 : BitVec 1 := Scalar.cmpi .ne v2936 c0_i32_2489
  let v2941 : BitVec 1 := Scalar.andi v2940 v2937
  let v2942 : BitVec 32 := Scalar.addi v2936 v2935
  let v2943 : BitVec 32 := Scalar.select v2941 v2942 v2936
  let c128_i32_2493 : BitVec 32 := 128#32
  let v2945 : BitVec 32 := Scalar.muli v2943 c128_i32_2493
  let v2946 : BitVec 32 := Scalar.addi v2944 v2945
  let c1024_i32_2498 : BitVec 32 := 1024#32
  ![v2946.toNat, 1024]
def k0_off36 (d0 : Dev nD) : Fin 3 → Nat :=
  let c3_2531 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_2530 : BitVec 32 := 128#32
  let v2996 : BitVec 32 := Scalar.muli v29 c128_i32_2530
  let v2997 : Index := Scalar.indexCast v2996
  let c0_2532 : Index := 0#32
  ![3, v2997.toNat, 0]
def k0_off37 (d0 : Dev nD) (c1_i32_2533 : BitVec 32) : Fin 3 → Nat :=
  let c3_2550 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v3001 : BitVec 32 := Scalar.addi v29 c1_i32_2533
  let c4_i32_2534 : BitVec 32 := 4#32
  let c0_i32_2535 : BitVec 32 := 0#32
  let v3002 : BitVec 1 := Scalar.cmpi .eq c4_i32_2534 c0_i32_2535
  let c1_i32_2536 : BitVec 32 := 1#32
  let v3003 : BitVec 32 := Scalar.select v3002 c1_i32_2536 c4_i32_2534
  let v3004 : BitVec 32 := Scalar.remsi v3001 v3003
  let c0_i32_2538 : BitVec 32 := 0#32
  let v3006 : BitVec 1 := Scalar.cmpi .slt v3004 c0_i32_2538
  let c0_i32_2539 : BitVec 32 := 0#32
  let v3007 : BitVec 1 := Scalar.cmpi .slt v3003 c0_i32_2539
  let v3008 : BitVec 1 := Scalar.xori v3006 v3007
  let c0_i32_2537 : BitVec 32 := 0#32
  let v3005 : BitVec 1 := Scalar.cmpi .ne v3004 c0_i32_2537
  let v3009 : BitVec 1 := Scalar.andi v3008 v3005
  let v3010 : BitVec 32 := Scalar.addi v3004 v3003
  let v3011 : BitVec 32 := Scalar.select v3009 v3010 v3004
  let c128_i32_2549 : BitVec 32 := 128#32
  let v3022 : BitVec 32 := Scalar.muli v3011 c128_i32_2549
  let v3023 : Index := Scalar.indexCast v3022
  let c0_2551 : Index := 0#32
  ![3, v3023.toNat, 0]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let v3089 : Index := Scalar.indexCast v57
  let c1536_2592 : Index := 1536#32
  ![v3089.toNat, 1536]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v55 : BitVec 32 := Scalar.muli v12 c512_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32 : BitVec 32 := 128#32
  let v56 : BitVec 32 := Scalar.muli v29 c128_i32
  let v57 : BitVec 32 := Scalar.addi v55 v56
  let c1536_i32 : BitVec 32 := 1536#32
  ![v57.toNat, 1536]
def k0_dev60 (d0 : Dev nD) : Nat :=
  let c0_i32_2604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2594 : BitVec 32 := 1#32
  let v3092 : BitVec 32 := Scalar.addi v29 c1_i32_2594
  let c4_i32_2595 : BitVec 32 := 4#32
  let c0_i32_2596 : BitVec 32 := 0#32
  let v3093 : BitVec 1 := Scalar.cmpi .eq c4_i32_2595 c0_i32_2596
  let c1_i32_2597 : BitVec 32 := 1#32
  let v3094 : BitVec 32 := Scalar.select v3093 c1_i32_2597 c4_i32_2595
  let v3095 : BitVec 32 := Scalar.remsi v3092 v3094
  let c0_i32_2599 : BitVec 32 := 0#32
  let v3097 : BitVec 1 := Scalar.cmpi .slt v3095 c0_i32_2599
  let c0_i32_2600 : BitVec 32 := 0#32
  let v3098 : BitVec 1 := Scalar.cmpi .slt v3094 c0_i32_2600
  let v3099 : BitVec 1 := Scalar.xori v3097 v3098
  let c0_i32_2598 : BitVec 32 := 0#32
  let v3096 : BitVec 1 := Scalar.cmpi .ne v3095 c0_i32_2598
  let v3100 : BitVec 1 := Scalar.andi v3099 v3096
  let v3101 : BitVec 32 := Scalar.addi v3095 v3094
  let v3102 : BitVec 32 := Scalar.select v3100 v3101 v3095
  let c4_i32_2601 : BitVec 32 := 4#32
  let v3103 : BitVec 32 := Scalar.muli v3102 c4_i32_2601
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3104 : BitVec 32 := Scalar.addi v3103 v12
  let c1_i32_2603 : BitVec 32 := 1#32
  let v3105 : BitVec 32 := Scalar.muli v3104 c1_i32_2603
  let v3106 : BitVec 32 := Scalar.addi c0_i32_2604 v3105
  v3106.toNat
def k0_dev61 (d0 : Dev nD) : Nat :=
  let c0_i32_2617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2607 : BitVec 32 := 2#32
  let v3114 : BitVec 32 := Scalar.addi v29 c2_i32_2607
  let c4_i32_2608 : BitVec 32 := 4#32
  let c0_i32_2609 : BitVec 32 := 0#32
  let v3115 : BitVec 1 := Scalar.cmpi .eq c4_i32_2608 c0_i32_2609
  let c1_i32_2610 : BitVec 32 := 1#32
  let v3116 : BitVec 32 := Scalar.select v3115 c1_i32_2610 c4_i32_2608
  let v3117 : BitVec 32 := Scalar.remsi v3114 v3116
  let c0_i32_2612 : BitVec 32 := 0#32
  let v3119 : BitVec 1 := Scalar.cmpi .slt v3117 c0_i32_2612
  let c0_i32_2613 : BitVec 32 := 0#32
  let v3120 : BitVec 1 := Scalar.cmpi .slt v3116 c0_i32_2613
  let v3121 : BitVec 1 := Scalar.xori v3119 v3120
  let c0_i32_2611 : BitVec 32 := 0#32
  let v3118 : BitVec 1 := Scalar.cmpi .ne v3117 c0_i32_2611
  let v3122 : BitVec 1 := Scalar.andi v3121 v3118
  let v3123 : BitVec 32 := Scalar.addi v3117 v3116
  let v3124 : BitVec 32 := Scalar.select v3122 v3123 v3117
  let c4_i32_2614 : BitVec 32 := 4#32
  let v3125 : BitVec 32 := Scalar.muli v3124 c4_i32_2614
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3126 : BitVec 32 := Scalar.addi v3125 v12
  let c1_i32_2616 : BitVec 32 := 1#32
  let v3127 : BitVec 32 := Scalar.muli v3126 c1_i32_2616
  let v3128 : BitVec 32 := Scalar.addi c0_i32_2617 v3127
  v3128.toNat
def k0_dev62 (d0 : Dev nD) : Nat :=
  let c0_i32_2631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2621 : BitVec 32 := 3#32
  let v3136 : BitVec 32 := Scalar.addi v29 c3_i32_2621
  let c4_i32_2622 : BitVec 32 := 4#32
  let c0_i32_2623 : BitVec 32 := 0#32
  let v3137 : BitVec 1 := Scalar.cmpi .eq c4_i32_2622 c0_i32_2623
  let c1_i32_2624 : BitVec 32 := 1#32
  let v3138 : BitVec 32 := Scalar.select v3137 c1_i32_2624 c4_i32_2622
  let v3139 : BitVec 32 := Scalar.remsi v3136 v3138
  let c0_i32_2626 : BitVec 32 := 0#32
  let v3141 : BitVec 1 := Scalar.cmpi .slt v3139 c0_i32_2626
  let c0_i32_2627 : BitVec 32 := 0#32
  let v3142 : BitVec 1 := Scalar.cmpi .slt v3138 c0_i32_2627
  let v3143 : BitVec 1 := Scalar.xori v3141 v3142
  let c0_i32_2625 : BitVec 32 := 0#32
  let v3140 : BitVec 1 := Scalar.cmpi .ne v3139 c0_i32_2625
  let v3144 : BitVec 1 := Scalar.andi v3143 v3140
  let v3145 : BitVec 32 := Scalar.addi v3139 v3138
  let v3146 : BitVec 32 := Scalar.select v3144 v3145 v3139
  let c4_i32_2628 : BitVec 32 := 4#32
  let v3147 : BitVec 32 := Scalar.muli v3146 c4_i32_2628
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3148 : BitVec 32 := Scalar.addi v3147 v12
  let c1_i32_2630 : BitVec 32 := 1#32
  let v3149 : BitVec 32 := Scalar.muli v3148 c1_i32_2630
  let v3150 : BitVec 32 := Scalar.addi c0_i32_2631 v3149
  v3150.toNat
def k0_off40 (d0 : Dev nD) (c0_i32_2642 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3169 : BitVec 32 := Scalar.subi v12 c0_i32_2642
  let c4_i32_2643 : BitVec 32 := 4#32
  let c0_i32_2644 : BitVec 32 := 0#32
  let v3170 : BitVec 1 := Scalar.cmpi .eq c4_i32_2643 c0_i32_2644
  let c1_i32_2645 : BitVec 32 := 1#32
  let v3171 : BitVec 32 := Scalar.select v3170 c1_i32_2645 c4_i32_2643
  let v3172 : BitVec 32 := Scalar.remsi v3169 v3171
  let c0_i32_2647 : BitVec 32 := 0#32
  let v3174 : BitVec 1 := Scalar.cmpi .slt v3172 c0_i32_2647
  let c0_i32_2648 : BitVec 32 := 0#32
  let v3175 : BitVec 1 := Scalar.cmpi .slt v3171 c0_i32_2648
  let v3176 : BitVec 1 := Scalar.xori v3174 v3175
  let c0_i32_2646 : BitVec 32 := 0#32
  let v3173 : BitVec 1 := Scalar.cmpi .ne v3172 c0_i32_2646
  let v3177 : BitVec 1 := Scalar.andi v3176 v3173
  let v3178 : BitVec 32 := Scalar.addi v3172 v3171
  let v3179 : BitVec 32 := Scalar.select v3177 v3178 v3172
  let c512_i32_2649 : BitVec 32 := 512#32
  let v3180 : BitVec 32 := Scalar.muli v3179 c512_i32_2649
  let c1024_i32_2672 : BitVec 32 := 1024#32
  ![v3180.toNat, 1024]
def k0_dev63 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2670 : BitVec 32 := 1#32
  let v3207 : BitVec 32 := Scalar.muli v42 c1_i32_2670
  let v3208 : BitVec 32 := Scalar.addi c0_i32_2671 v3207
  v3208.toNat
def k0_off41 (d0 : Dev nD) (c0_i32_2659 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3194 : BitVec 32 := Scalar.addi v12 c0_i32_2659
  let c4_i32_2660 : BitVec 32 := 4#32
  let c0_i32_2661 : BitVec 32 := 0#32
  let v3195 : BitVec 1 := Scalar.cmpi .eq c4_i32_2660 c0_i32_2661
  let c1_i32_2662 : BitVec 32 := 1#32
  let v3196 : BitVec 32 := Scalar.select v3195 c1_i32_2662 c4_i32_2660
  let v3197 : BitVec 32 := Scalar.remsi v3194 v3196
  let c0_i32_2664 : BitVec 32 := 0#32
  let v3199 : BitVec 1 := Scalar.cmpi .slt v3197 c0_i32_2664
  let c0_i32_2665 : BitVec 32 := 0#32
  let v3200 : BitVec 1 := Scalar.cmpi .slt v3196 c0_i32_2665
  let v3201 : BitVec 1 := Scalar.xori v3199 v3200
  let c0_i32_2663 : BitVec 32 := 0#32
  let v3198 : BitVec 1 := Scalar.cmpi .ne v3197 c0_i32_2663
  let v3202 : BitVec 1 := Scalar.andi v3201 v3198
  let v3203 : BitVec 32 := Scalar.addi v3197 v3196
  let v3204 : BitVec 32 := Scalar.select v3202 v3203 v3197
  let c512_i32_2666 : BitVec 32 := 512#32
  let v3205 : BitVec 32 := Scalar.muli v3204 c512_i32_2666
  let c256_i32_2667 : BitVec 32 := 256#32
  let v3206 : BitVec 32 := Scalar.addi v3205 c256_i32_2667
  let c1024_i32_2677 : BitVec 32 := 1024#32
  ![v3206.toNat, 1024]
def k0_dev64 (d0 : Dev nD) : Nat :=
  let c0_i32_2676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2675 : BitVec 32 := 1#32
  let v3215 : BitVec 32 := Scalar.muli v54 c1_i32_2675
  let v3216 : BitVec 32 := Scalar.addi c0_i32_2676 v3215
  v3216.toNat
def k0_off42 (d0 : Dev nD) (c0_i32_2679 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3223 : BitVec 32 := Scalar.subi v12 c0_i32_2679
  let c1_i32_2680 : BitVec 32 := 1#32
  let v3224 : BitVec 32 := Scalar.subi v3223 c1_i32_2680
  let c4_i32_2681 : BitVec 32 := 4#32
  let c0_i32_2682 : BitVec 32 := 0#32
  let v3225 : BitVec 1 := Scalar.cmpi .eq c4_i32_2681 c0_i32_2682
  let c1_i32_2683 : BitVec 32 := 1#32
  let v3226 : BitVec 32 := Scalar.select v3225 c1_i32_2683 c4_i32_2681
  let v3227 : BitVec 32 := Scalar.remsi v3224 v3226
  let c0_i32_2685 : BitVec 32 := 0#32
  let v3229 : BitVec 1 := Scalar.cmpi .slt v3227 c0_i32_2685
  let c0_i32_2686 : BitVec 32 := 0#32
  let v3230 : BitVec 1 := Scalar.cmpi .slt v3226 c0_i32_2686
  let v3231 : BitVec 1 := Scalar.xori v3229 v3230
  let c0_i32_2684 : BitVec 32 := 0#32
  let v3228 : BitVec 1 := Scalar.cmpi .ne v3227 c0_i32_2684
  let v3232 : BitVec 1 := Scalar.andi v3231 v3228
  let v3233 : BitVec 32 := Scalar.addi v3227 v3226
  let v3234 : BitVec 32 := Scalar.select v3232 v3233 v3227
  let c512_i32_2687 : BitVec 32 := 512#32
  let v3235 : BitVec 32 := Scalar.muli v3234 c512_i32_2687
  let c512_i32_2692 : BitVec 32 := 512#32
  ![v3235.toNat, 512]
def k0_off43 (d0 : Dev nD) (c0_i32_2694 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3242 : BitVec 32 := Scalar.addi v12 c0_i32_2694
  let c1_i32_2695 : BitVec 32 := 1#32
  let v3243 : BitVec 32 := Scalar.addi v3242 c1_i32_2695
  let c4_i32_2696 : BitVec 32 := 4#32
  let c0_i32_2697 : BitVec 32 := 0#32
  let v3244 : BitVec 1 := Scalar.cmpi .eq c4_i32_2696 c0_i32_2697
  let c1_i32_2698 : BitVec 32 := 1#32
  let v3245 : BitVec 32 := Scalar.select v3244 c1_i32_2698 c4_i32_2696
  let v3246 : BitVec 32 := Scalar.remsi v3243 v3245
  let c0_i32_2700 : BitVec 32 := 0#32
  let v3248 : BitVec 1 := Scalar.cmpi .slt v3246 c0_i32_2700
  let c0_i32_2701 : BitVec 32 := 0#32
  let v3249 : BitVec 1 := Scalar.cmpi .slt v3245 c0_i32_2701
  let v3250 : BitVec 1 := Scalar.xori v3248 v3249
  let c0_i32_2699 : BitVec 32 := 0#32
  let v3247 : BitVec 1 := Scalar.cmpi .ne v3246 c0_i32_2699
  let v3251 : BitVec 1 := Scalar.andi v3250 v3247
  let v3252 : BitVec 32 := Scalar.addi v3246 v3245
  let v3253 : BitVec 32 := Scalar.select v3251 v3252 v3246
  let c512_i32_2702 : BitVec 32 := 512#32
  let v3254 : BitVec 32 := Scalar.muli v3253 c512_i32_2702
  let c256_i32_2703 : BitVec 32 := 256#32
  let v3255 : BitVec 32 := Scalar.addi v3254 c256_i32_2703
  let c512_i32_2708 : BitVec 32 := 512#32
  ![v3255.toNat, 512]
def k0_dev65 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2746 : BitVec 32 := 1#32
  let v3312 : BitVec 32 := Scalar.muli v42 c1_i32_2746
  let v3313 : BitVec 32 := Scalar.addi c0_i32_2747 v3312
  v3313.toNat
def k0_dev66 (d0 : Dev nD) : Nat :=
  let c0_i32_2753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2752 : BitVec 32 := 1#32
  let v3320 : BitVec 32 := Scalar.muli v54 c1_i32_2752
  let v3321 : BitVec 32 := Scalar.addi c0_i32_2753 v3320
  v3321.toNat
def k0_off44 (d0 : Dev nD) (c1_i32_2787 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_2794 : BitVec 32 := 512#32
  let v3378 : BitVec 32 := Scalar.muli v12 c512_i32_2794
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v3367 : BitVec 32 := Scalar.addi v29 c1_i32_2787
  let c4_i32_2788 : BitVec 32 := 4#32
  let c0_i32_2789 : BitVec 32 := 0#32
  let v3368 : BitVec 1 := Scalar.cmpi .eq c4_i32_2788 c0_i32_2789
  let c1_i32_2790 : BitVec 32 := 1#32
  let v3369 : BitVec 32 := Scalar.select v3368 c1_i32_2790 c4_i32_2788
  let v3370 : BitVec 32 := Scalar.remsi v3367 v3369
  let c0_i32_2792 : BitVec 32 := 0#32
  let v3372 : BitVec 1 := Scalar.cmpi .slt v3370 c0_i32_2792
  let c0_i32_2793 : BitVec 32 := 0#32
  let v3373 : BitVec 1 := Scalar.cmpi .slt v3369 c0_i32_2793
  let v3374 : BitVec 1 := Scalar.xori v3372 v3373
  let c0_i32_2791 : BitVec 32 := 0#32
  let v3371 : BitVec 1 := Scalar.cmpi .ne v3370 c0_i32_2791
  let v3375 : BitVec 1 := Scalar.andi v3374 v3371
  let v3376 : BitVec 32 := Scalar.addi v3370 v3369
  let v3377 : BitVec 32 := Scalar.select v3375 v3376 v3370
  let c128_i32_2795 : BitVec 32 := 128#32
  let v3379 : BitVec 32 := Scalar.muli v3377 c128_i32_2795
  let v3380 : BitVec 32 := Scalar.addi v3378 v3379
  let c1536_i32_2800 : BitVec 32 := 1536#32
  ![v3380.toNat, 1536]
def k0_off45 (d0 : Dev nD) (c0_i32_2832 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3430 : BitVec 32 := Scalar.subi v12 c0_i32_2832
  let c1_i32_2833 : BitVec 32 := 1#32
  let v3431 : BitVec 32 := Scalar.subi v3430 c1_i32_2833
  let c4_i32_2834 : BitVec 32 := 4#32
  let c0_i32_2835 : BitVec 32 := 0#32
  let v3432 : BitVec 1 := Scalar.cmpi .eq c4_i32_2834 c0_i32_2835
  let c1_i32_2836 : BitVec 32 := 1#32
  let v3433 : BitVec 32 := Scalar.select v3432 c1_i32_2836 c4_i32_2834
  let v3434 : BitVec 32 := Scalar.remsi v3431 v3433
  let c0_i32_2838 : BitVec 32 := 0#32
  let v3436 : BitVec 1 := Scalar.cmpi .slt v3434 c0_i32_2838
  let c0_i32_2839 : BitVec 32 := 0#32
  let v3437 : BitVec 1 := Scalar.cmpi .slt v3433 c0_i32_2839
  let v3438 : BitVec 1 := Scalar.xori v3436 v3437
  let c0_i32_2837 : BitVec 32 := 0#32
  let v3435 : BitVec 1 := Scalar.cmpi .ne v3434 c0_i32_2837
  let v3439 : BitVec 1 := Scalar.andi v3438 v3435
  let v3440 : BitVec 32 := Scalar.addi v3434 v3433
  let v3441 : BitVec 32 := Scalar.select v3439 v3440 v3434
  let c512_i32_2840 : BitVec 32 := 512#32
  let v3442 : BitVec 32 := Scalar.muli v3441 c512_i32_2840
  let c1024_i32_2845 : BitVec 32 := 1024#32
  ![v3442.toNat, 1024]
def k0_off46 (d0 : Dev nD) (c0_i32_2847 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3449 : BitVec 32 := Scalar.addi v12 c0_i32_2847
  let c1_i32_2848 : BitVec 32 := 1#32
  let v3450 : BitVec 32 := Scalar.addi v3449 c1_i32_2848
  let c4_i32_2849 : BitVec 32 := 4#32
  let c0_i32_2850 : BitVec 32 := 0#32
  let v3451 : BitVec 1 := Scalar.cmpi .eq c4_i32_2849 c0_i32_2850
  let c1_i32_2851 : BitVec 32 := 1#32
  let v3452 : BitVec 32 := Scalar.select v3451 c1_i32_2851 c4_i32_2849
  let v3453 : BitVec 32 := Scalar.remsi v3450 v3452
  let c0_i32_2853 : BitVec 32 := 0#32
  let v3455 : BitVec 1 := Scalar.cmpi .slt v3453 c0_i32_2853
  let c0_i32_2854 : BitVec 32 := 0#32
  let v3456 : BitVec 1 := Scalar.cmpi .slt v3452 c0_i32_2854
  let v3457 : BitVec 1 := Scalar.xori v3455 v3456
  let c0_i32_2852 : BitVec 32 := 0#32
  let v3454 : BitVec 1 := Scalar.cmpi .ne v3453 c0_i32_2852
  let v3458 : BitVec 1 := Scalar.andi v3457 v3454
  let v3459 : BitVec 32 := Scalar.addi v3453 v3452
  let v3460 : BitVec 32 := Scalar.select v3458 v3459 v3453
  let c512_i32_2855 : BitVec 32 := 512#32
  let v3461 : BitVec 32 := Scalar.muli v3460 c512_i32_2855
  let c256_i32_2856 : BitVec 32 := 256#32
  let v3462 : BitVec 32 := Scalar.addi v3461 c256_i32_2856
  let c1024_i32_2861 : BitVec 32 := 1024#32
  ![v3462.toNat, 1024]
def k0_dev67 (d0 : Dev nD) : Nat :=
  let c0_i32_2899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2898 : BitVec 32 := 1#32
  let v3519 : BitVec 32 := Scalar.muli v42 c1_i32_2898
  let v3520 : BitVec 32 := Scalar.addi c0_i32_2899 v3519
  v3520.toNat
def k0_dev68 (d0 : Dev nD) : Nat :=
  let c0_i32_2905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2904 : BitVec 32 := 1#32
  let v3527 : BitVec 32 := Scalar.muli v54 c1_i32_2904
  let v3528 : BitVec 32 := Scalar.addi c0_i32_2905 v3527
  v3528.toNat
def k0_off47 (d0 : Dev nD) (c0_i32_2916 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3547 : BitVec 32 := Scalar.subi v12 c0_i32_2916
  let c4_i32_2917 : BitVec 32 := 4#32
  let c0_i32_2918 : BitVec 32 := 0#32
  let v3548 : BitVec 1 := Scalar.cmpi .eq c4_i32_2917 c0_i32_2918
  let c1_i32_2919 : BitVec 32 := 1#32
  let v3549 : BitVec 32 := Scalar.select v3548 c1_i32_2919 c4_i32_2917
  let v3550 : BitVec 32 := Scalar.remsi v3547 v3549
  let c0_i32_2921 : BitVec 32 := 0#32
  let v3552 : BitVec 1 := Scalar.cmpi .slt v3550 c0_i32_2921
  let c0_i32_2922 : BitVec 32 := 0#32
  let v3553 : BitVec 1 := Scalar.cmpi .slt v3549 c0_i32_2922
  let v3554 : BitVec 1 := Scalar.xori v3552 v3553
  let c0_i32_2920 : BitVec 32 := 0#32
  let v3551 : BitVec 1 := Scalar.cmpi .ne v3550 c0_i32_2920
  let v3555 : BitVec 1 := Scalar.andi v3554 v3551
  let v3556 : BitVec 32 := Scalar.addi v3550 v3549
  let v3557 : BitVec 32 := Scalar.select v3555 v3556 v3550
  let c512_i32_2923 : BitVec 32 := 512#32
  let v3558 : BitVec 32 := Scalar.muli v3557 c512_i32_2923
  let c1536_i32_2945 : BitVec 32 := 1536#32
  ![v3558.toNat, 1536]
def k0_dev69 (d0 : Dev nD) : Nat :=
  let c0_i32_2944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2943 : BitVec 32 := 1#32
  let v3585 : BitVec 32 := Scalar.muli v42 c1_i32_2943
  let v3586 : BitVec 32 := Scalar.addi c0_i32_2944 v3585
  v3586.toNat
def k0_off48 (d0 : Dev nD) (c0_i32_2933 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3572 : BitVec 32 := Scalar.addi v12 c0_i32_2933
  let c4_i32_2934 : BitVec 32 := 4#32
  let c0_i32_2935 : BitVec 32 := 0#32
  let v3573 : BitVec 1 := Scalar.cmpi .eq c4_i32_2934 c0_i32_2935
  let c1_i32_2936 : BitVec 32 := 1#32
  let v3574 : BitVec 32 := Scalar.select v3573 c1_i32_2936 c4_i32_2934
  let v3575 : BitVec 32 := Scalar.remsi v3572 v3574
  let c0_i32_2938 : BitVec 32 := 0#32
  let v3577 : BitVec 1 := Scalar.cmpi .slt v3575 c0_i32_2938
  let c0_i32_2939 : BitVec 32 := 0#32
  let v3578 : BitVec 1 := Scalar.cmpi .slt v3574 c0_i32_2939
  let v3579 : BitVec 1 := Scalar.xori v3577 v3578
  let c0_i32_2937 : BitVec 32 := 0#32
  let v3576 : BitVec 1 := Scalar.cmpi .ne v3575 c0_i32_2937
  let v3580 : BitVec 1 := Scalar.andi v3579 v3576
  let v3581 : BitVec 32 := Scalar.addi v3575 v3574
  let v3582 : BitVec 32 := Scalar.select v3580 v3581 v3575
  let c512_i32_2940 : BitVec 32 := 512#32
  let v3583 : BitVec 32 := Scalar.muli v3582 c512_i32_2940
  let c256_i32_2941 : BitVec 32 := 256#32
  let v3584 : BitVec 32 := Scalar.addi v3583 c256_i32_2941
  let c1536_i32_2950 : BitVec 32 := 1536#32
  ![v3584.toNat, 1536]
def k0_dev70 (d0 : Dev nD) : Nat :=
  let c0_i32_2949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2948 : BitVec 32 := 1#32
  let v3593 : BitVec 32 := Scalar.muli v54 c1_i32_2948
  let v3594 : BitVec 32 := Scalar.addi c0_i32_2949 v3593
  v3594.toNat
def k0_dev71 (d0 : Dev nD) : Nat :=
  let c0_i32_3020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3019 : BitVec 32 := 1#32
  let v3690 : BitVec 32 := Scalar.muli v42 c1_i32_3019
  let v3691 : BitVec 32 := Scalar.addi c0_i32_3020 v3690
  v3691.toNat
def k0_dev72 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3025 : BitVec 32 := 1#32
  let v3698 : BitVec 32 := Scalar.muli v54 c1_i32_3025
  let v3699 : BitVec 32 := Scalar.addi c0_i32_3026 v3698
  v3699.toNat
def k0_dev73 (d0 : Dev nD) : Nat :=
  let c0_i32_3096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3095 : BitVec 32 := 1#32
  let v3795 : BitVec 32 := Scalar.muli v42 c1_i32_3095
  let v3796 : BitVec 32 := Scalar.addi c0_i32_3096 v3795
  v3796.toNat
def k0_dev74 (d0 : Dev nD) : Nat :=
  let c0_i32_3101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3100 : BitVec 32 := 1#32
  let v3803 : BitVec 32 := Scalar.muli v54 c1_i32_3100
  let v3804 : BitVec 32 := Scalar.addi c0_i32_3101 v3803
  v3804.toNat
def k0_off49 (d0 : Dev nD) (c0_i32_3104 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3811 : BitVec 32 := Scalar.subi v12 c0_i32_3104
  let c1_i32_3105 : BitVec 32 := 1#32
  let v3812 : BitVec 32 := Scalar.subi v3811 c1_i32_3105
  let c4_i32_3106 : BitVec 32 := 4#32
  let c0_i32_3107 : BitVec 32 := 0#32
  let v3813 : BitVec 1 := Scalar.cmpi .eq c4_i32_3106 c0_i32_3107
  let c1_i32_3108 : BitVec 32 := 1#32
  let v3814 : BitVec 32 := Scalar.select v3813 c1_i32_3108 c4_i32_3106
  let v3815 : BitVec 32 := Scalar.remsi v3812 v3814
  let c0_i32_3110 : BitVec 32 := 0#32
  let v3817 : BitVec 1 := Scalar.cmpi .slt v3815 c0_i32_3110
  let c0_i32_3111 : BitVec 32 := 0#32
  let v3818 : BitVec 1 := Scalar.cmpi .slt v3814 c0_i32_3111
  let v3819 : BitVec 1 := Scalar.xori v3817 v3818
  let c0_i32_3109 : BitVec 32 := 0#32
  let v3816 : BitVec 1 := Scalar.cmpi .ne v3815 c0_i32_3109
  let v3820 : BitVec 1 := Scalar.andi v3819 v3816
  let v3821 : BitVec 32 := Scalar.addi v3815 v3814
  let v3822 : BitVec 32 := Scalar.select v3820 v3821 v3815
  let c512_i32_3112 : BitVec 32 := 512#32
  let v3823 : BitVec 32 := Scalar.muli v3822 c512_i32_3112
  let c1536_i32_3117 : BitVec 32 := 1536#32
  ![v3823.toNat, 1536]
def k0_off50 (d0 : Dev nD) (c0_i32_3119 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3830 : BitVec 32 := Scalar.addi v12 c0_i32_3119
  let c1_i32_3120 : BitVec 32 := 1#32
  let v3831 : BitVec 32 := Scalar.addi v3830 c1_i32_3120
  let c4_i32_3121 : BitVec 32 := 4#32
  let c0_i32_3122 : BitVec 32 := 0#32
  let v3832 : BitVec 1 := Scalar.cmpi .eq c4_i32_3121 c0_i32_3122
  let c1_i32_3123 : BitVec 32 := 1#32
  let v3833 : BitVec 32 := Scalar.select v3832 c1_i32_3123 c4_i32_3121
  let v3834 : BitVec 32 := Scalar.remsi v3831 v3833
  let c0_i32_3125 : BitVec 32 := 0#32
  let v3836 : BitVec 1 := Scalar.cmpi .slt v3834 c0_i32_3125
  let c0_i32_3126 : BitVec 32 := 0#32
  let v3837 : BitVec 1 := Scalar.cmpi .slt v3833 c0_i32_3126
  let v3838 : BitVec 1 := Scalar.xori v3836 v3837
  let c0_i32_3124 : BitVec 32 := 0#32
  let v3835 : BitVec 1 := Scalar.cmpi .ne v3834 c0_i32_3124
  let v3839 : BitVec 1 := Scalar.andi v3838 v3835
  let v3840 : BitVec 32 := Scalar.addi v3834 v3833
  let v3841 : BitVec 32 := Scalar.select v3839 v3840 v3834
  let c512_i32_3127 : BitVec 32 := 512#32
  let v3842 : BitVec 32 := Scalar.muli v3841 c512_i32_3127
  let c256_i32_3128 : BitVec 32 := 256#32
  let v3843 : BitVec 32 := Scalar.addi v3842 c256_i32_3128
  let c1536_i32_3133 : BitVec 32 := 1536#32
  ![v3843.toNat, 1536]
def k0_dev75 (d0 : Dev nD) : Nat :=
  let c0_i32_3171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3170 : BitVec 32 := 1#32
  let v3900 : BitVec 32 := Scalar.muli v42 c1_i32_3170
  let v3901 : BitVec 32 := Scalar.addi c0_i32_3171 v3900
  v3901.toNat
def k0_dev76 (d0 : Dev nD) : Nat :=
  let c0_i32_3176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3175 : BitVec 32 := 1#32
  let v3908 : BitVec 32 := Scalar.muli v54 c1_i32_3175
  let v3909 : BitVec 32 := Scalar.addi c0_i32_3176 v3908
  v3909.toNat
def k0_dev77 (d0 : Dev nD) : Nat :=
  let c0_i32_3308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3307 : BitVec 32 := 1#32
  let v4083 : BitVec 32 := Scalar.muli v42 c1_i32_3307
  let v4084 : BitVec 32 := Scalar.addi c0_i32_3308 v4083
  v4084.toNat
def k0_dev78 (d0 : Dev nD) : Nat :=
  let c0_i32_3313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3312 : BitVec 32 := 1#32
  let v4091 : BitVec 32 := Scalar.muli v54 c1_i32_3312
  let v4092 : BitVec 32 := Scalar.addi c0_i32_3313 v4091
  v4092.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Geo.lean ====
/-
The geometry of the kernel: where, on device `c` of the 4 × 4 mesh (`c = 4 z + p`, row `z`, place
`p` in the row), each load, store, copy and wait of the kernel looks. `Geo` collects these offsets
and device numbers with the facts that the operations ask of them; `geo c` gives them in closed
form, and `geoP c` is the same record with the printed integer chains in its fields.
-/
module

public import proofs.«01_k».proof.Proof.Gen.KernelIdeal
public import Idealize.ShloMosaic.Lib.Pipeline.Kit

@[expose] public section

noncomputable section

namespace Cert.KernelIdeal.Silu

open Idealize.ShloMosaic Idealize.ShloMosaic.TcCoe
open Idealize.SL Idealize.SL.Sem
open Cert.KernelIdeal.Gen

/-- A rectangle of these sizes at this offset lies in the shape. -/
abbrev Inb (s t : Shape) (h : t.rank = s.rank) (off : Fin s.rank → ℕ) : Prop :=
  ∀ a, off a + t.size (a.cast h.symm) ≤ s.size a

/-- The offsets and device numbers of the kernel's operations on one device. -/
structure Geo where
  stT : Fin 2 → ℕ
  stB : Fin 2 → ℕ
  rdT : Fin 3 → Fin 2 → ℕ
  rdB : Fin 3 → Fin 2 → ℕ
  zSlot : Fin 4 → Fin 3 → ℕ
  zOwn : Fin 4 → Fin 3 → ℕ
  zChunk : Fin 4 → Fin 3 → Fin 3 → ℕ
  zLd : Fin 4 → Fin 3 → Fin 3 → ℕ
  oSt : Fin 4 → Fin 2 → ℕ
  oMy : Fin 4 → Fin 2 → ℕ
  oPeer : Fin 4 → Fin 3 → Fin 2 → ℕ
  gTS : Fin 4 → Fin 3 → Fin 2 → ℕ
  gBS : Fin 4 → Fin 3 → Fin 2 → ℕ
  gTR : Fin 4 → Fin 3 → Fin 2 → ℕ
  gBR : Fin 4 → Fin 3 → Fin 2 → ℕ
  mOwn : Fin 4 → Fin 1 → ℕ
  mPeer : Fin 4 → Fin 3 → Fin 1 → ℕ
  dev : Fin 6 → Fin 4 → Fin 3 → ℕ
  bar : Fin 6 → ℕ
  stT_inb : ∀ a, stT a + S256x1024.size a ≤ S2048x1024.size a
  stB_inb : ∀ a, stB a + S256x1024.size a ≤ S2048x1024.size a
  rdT_inb : ∀ s a, rdT s a + S256x1024.size a ≤ S2048x1024.size a
  rdB_inb : ∀ s a, rdB s a + S256x1024.size a ≤ S2048x1024.size a
  zSlot_inb : ∀ h a, zSlot h a + S1x128x512.size a ≤ S4x512x512.size a
  zOwn_inb : ∀ h a, zOwn h a + S1x128x512.size a ≤ S4x512x512.size a
  zChunk_inb : ∀ h z a, zChunk h z a + S1x128x512.size a ≤ S4x512x512.size a
  zLd_inb : ∀ h z a, zLd h z a + S1x128x512.size a ≤ S4x512x512.size a
  oSt_inb : ∀ h a, oSt h a + S128x512.size a ≤ S2048x2048.size a
  oMy_inb : ∀ h a, oMy h a + S128x512.size a ≤ S2048x2048.size a
  oPeer_inb : ∀ h z a, oPeer h z a + S128x512.size a ≤ S2048x2048.size a
  gTS_inb : ∀ h s a, gTS h s a + S256x512.size a ≤ S2048x2048.size a
  gBS_inb : ∀ h s a, gBS h s a + S256x512.size a ≤ S2048x2048.size a
  gTR_inb : ∀ h s a, gTR h s a + S256x512.size a ≤ S2048x2048.size a
  gBR_inb : ∀ h s a, gBR h s a + S256x512.size a ≤ S2048x2048.size a
  mOwn_inb : ∀ h a, mOwn h a + S1.size a ≤ S16.size a
  mPeer_inb : ∀ h z a, mPeer h z a + S1.size a ≤ S16.size a
  zSlot_w : ∀ h, (Rect.unit (s := S4x512x512) (zSlot h) S1x128x512.size (zSlot_inb h)).WholeWords (EltTy.packing .bf16)
  zChunk_w : ∀ h z, (Rect.unit (s := S4x512x512) (zChunk h z) S1x128x512.size (zChunk_inb h z)).WholeWords (EltTy.packing .bf16)
  oSt_p : ∀ h, (Rect.unit (s := S2048x2048) (oSt h) S128x512.size (oSt_inb h)).PackedRows (EltTy.packing .bf16)
  oMy_w : ∀ h, (Rect.unit (s := S2048x2048) (oMy h) S128x512.size (oMy_inb h)).WholeWords (EltTy.packing .bf16)
  oPeer_w : ∀ h z, (Rect.unit (s := S2048x2048) (oPeer h z) S128x512.size (oPeer_inb h z)).WholeWords (EltTy.packing .bf16)
  gTS_w : ∀ h s, (Rect.unit (s := S2048x2048) (gTS h s) S256x512.size (gTS_inb h s)).WholeWords (EltTy.packing .bf16)
  gBS_w : ∀ h s, (Rect.unit (s := S2048x2048) (gBS h s) S256x512.size (gBS_inb h s)).WholeWords (EltTy.packing .bf16)
  gTR_w : ∀ h s, (Rect.unit (s := S2048x2048) (gTR h s) S256x512.size (gTR_inb h s)).WholeWords (EltTy.packing .bf16)
  gBR_w : ∀ h s, (Rect.unit (s := S2048x2048) (gBR h s) S256x512.size (gBR_inb h s)).WholeWords (EltTy.packing .bf16)
  dev_lt : ∀ k h s, dev k h s < nD
  bar_lt : ∀ k, bar k < nD

/-- The place of a device in its row, and its row. -/
def pp (c : Dev nD) : ℕ := c.val % 4
def zz (c : Dev nD) : ℕ := c.val / 4

theorem pp_lt (c : Dev nD) : pp c < 4 := Nat.mod_lt _ (by decide)
theorem zz_lt (c : Dev nD) : zz c < 4 := by have : c.val < 16 := c.isLt; unfold zz; omega

/-- The device in row `z` at place `p`, both read modulo 4. -/
def mk (z p : ℕ) : Dev nD := ⟨4 * (z % 4) + p % 4, by show _ < 16; omega⟩

/-- The six families of copies: the two rings of the reduce-scatter (0 to the right, 1 to the
    left), the exchange of partial sums in a column (2), that of finished chunks in a column (3),
    and the two rings of the all-gather (4 to the right, 5 to the left). `dst k s c` is the device
    to which device `c` sends copy `s` of family `k`, `src k s c` the one from which `c` has it. -/
def dst (k : Fin 6) (s : Fin 3) (c : Dev nD) : Dev nD :=
  match k with
  | 0 => mk (zz c) (pp c + 1)
  | 1 => mk (zz c) (pp c + 3)
  | 2 => mk (zz c + 1 + s.val) (pp c)
  | 3 => mk (zz c + 1 + s.val) (pp c)
  | 4 => mk (zz c) (pp c + 1)
  | 5 => mk (zz c) (pp c + 3)

def src (k : Fin 6) (s : Fin 3) (c : Dev nD) : Dev nD :=
  match k with
  | 0 => mk (zz c) (pp c + 3)
  | 1 => mk (zz c) (pp c + 1)
  | 2 => mk (zz c + 3 - s.val) (pp c)
  | 3 => mk (zz c + 3 - s.val) (pp c)
  | 4 => mk (zz c) (pp c + 3)
  | 5 => mk (zz c) (pp c + 1)

theorem dst_src : ∀ k s c, dst k s (src k s c) = c := by decide +kernel
theorem src_dst : ∀ k s c, src k s (dst k s c) = c := by decide +kernel

/-- The six devices that the barrier's signals of device `c` go to. -/
def barTo (k : Fin 6) (c : Dev nD) : Dev nD :=
  match k with
  | 0 => mk (zz c) (pp c + 3)
  | 1 => mk (zz c) (pp c + 1)
  | 2 => mk (zz c) (pp c + 2)
  | 3 => mk (zz c + 1) (pp c)
  | 4 => mk (zz c + 2) (pp c)
  | 5 => mk (zz c + 3) (pp c)

/-- A rectangle of the result: 128 or 256 rows from `r`, the 512 columns of lane `h`. -/
def oOff (r : ℕ) (h : Fin 4) : Fin 2 → ℕ := ![r, 512 * h.val]
/-- A rectangle of the scratch of the column exchange. -/
def zOff (h : Fin 4) (z : ℕ) : Fin 3 → ℕ := ![h.val, 128 * z, 0]
/-- The rows of the first operand that feed half `b` (0 or 1) of row group `g`. -/
def aOff (g b : ℕ) : Fin 2 → ℕ := ![512 * g + 256 * b, 0]

theorem oOff_inb128 {r : ℕ} (h : Fin 4) (hr : r + 128 ≤ 2048) : ∀ a, oOff r h a + S128x512.size a ≤ S2048x2048.size a := by
  intro a; have := h.isLt
  fin_cases a
  · show r + 128 ≤ 2048; omega
  · show 512 * h.val + 512 ≤ 2048; omega
theorem oOff_inb256 {r : ℕ} (h : Fin 4) (hr : r + 256 ≤ 2048) : ∀ a, oOff r h a + S256x512.size a ≤ S2048x2048.size a := by
  intro a; have := h.isLt
  fin_cases a
  · show r + 256 ≤ 2048; omega
  · show 512 * h.val + 512 ≤ 2048; omega
theorem zOff_inb (h : Fin 4) {z : ℕ} (hz : z < 4) : ∀ a, zOff h z a + S1x128x512.size a ≤ S4x512x512.size a := by
  intro a; have := h.isLt
  fin_cases a
  · show h.val + 1 ≤ 4; omega
  · show 128 * z + 128 ≤ 512; omega
  · show 0 + 512 ≤ 512; omega
theorem aOff_inb {g b : ℕ} (hg : g < 4) (hb : b < 2) : ∀ a, aOff g b a + S256x1024.size a ≤ S2048x1024.size a := by
  intro a
  fin_cases a
  · show 512 * g + 256 * b + 256 ≤ 2048; omega
  · show 0 + 1024 ≤ 1024; omega
theorem mOff_inb (h : Fin 4) {z : ℕ} (hz : z < 4) : ∀ a, (![4 * h.val + z] : Fin 1 → ℕ) a + S1.size a ≤ S16.size a := by
  intro a; have := h.isLt
  fin_cases a
  show 4 * h.val + z + 1 ≤ 16; omega

theorem oOff_p128 {r : ℕ} (h : Fin 4) (hr : ∀ a, oOff r h a + S128x512.size a ≤ S2048x2048.size a) (h2 : 2 ∣ r) :
    (Rect.unit (s := S2048x2048) (oOff r h) S128x512.size hr).PackedRows (EltTy.packing .bf16) :=
  by
  refine .inr ⟨(by decide : 2 ≤ 2), rfl, .inl ⟨?_, ?_⟩⟩
  · exact h2
  · exact (by decide : 2 ∣ 128)
theorem oOff_p256 {r : ℕ} (h : Fin 4) (hr : ∀ a, oOff r h a + S256x512.size a ≤ S2048x2048.size a) (h2 : 2 ∣ r) :
    (Rect.unit (s := S2048x2048) (oOff r h) S256x512.size hr).PackedRows (EltTy.packing .bf16) :=
  by
  refine .inr ⟨(by decide : 2 ≤ 2), rfl, .inl ⟨?_, ?_⟩⟩
  · exact h2
  · exact (by decide : 2 ∣ 256)
theorem zOff_p (h : Fin 4) {z : ℕ} (hr : ∀ a, zOff h z a + S1x128x512.size a ≤ S4x512x512.size a) :
    (Rect.unit (s := S4x512x512) (zOff h z) S1x128x512.size hr).PackedRows (EltTy.packing .bf16) :=
  by
  refine .inr ⟨(by decide : 2 ≤ 3), rfl, .inl ⟨?_, ?_⟩⟩
  · exact ⟨64 * z, by show 128 * z = 2 * (64 * z); omega⟩
  · exact (by decide : 2 ∣ 128)

/-- The row groups that the operations of a device look at. -/
def gRdT (c : Dev nD) (s : ℕ) : ℕ := (pp c + 6 - s) % 4
def gRdB (c : Dev nD) (s : ℕ) : ℕ := (pp c + 2 + s) % 4
def gST (c : Dev nD) (s : ℕ) : ℕ := (pp c + 4 - s) % 4
def gSB (c : Dev nD) (s : ℕ) : ℕ := (pp c + s) % 4
/-- The row of the peer `s` in a device's column. -/
def zPeer (c : Dev nD) (s : ℕ) : ℕ := (zz c + 1 + s) % 4

/-- The kernel's geometry in closed form. -/
def geo (c : Dev nD) : Geo where
  stT := aOff ((pp c + 3) % 4) 0
  stB := aOff ((pp c + 1) % 4) 1
  rdT s := aOff (gRdT c s.val) 0
  rdB s := aOff (gRdB c s.val) 1
  zSlot h := zOff h (zz c)
  zOwn h := zOff h (zz c)
  zChunk h s := zOff h (zPeer c s.val)
  zLd h s := zOff h (zPeer c s.val)
  oSt h := oOff (512 * pp c + 128 * zz c) h
  oMy h := oOff (512 * pp c + 128 * zz c) h
  oPeer h s := oOff (512 * pp c + 128 * zPeer c s.val) h
  gTS h s := oOff (512 * gST c s.val) h
  gBS h s := oOff (512 * gSB c s.val + 256) h
  gTR h s := oOff (512 * gST c (s.val + 1)) h
  gBR h s := oOff (512 * gSB c (s.val + 1) + 256) h
  mOwn h := ![4 * h.val + zz c]
  mPeer h s := ![4 * h.val + zPeer c s.val]
  dev k _ s := (dst k s c).val
  bar k := (barTo k c).val
  stT_inb := aOff_inb (Nat.mod_lt _ (by decide)) (by decide)
  stB_inb := aOff_inb (Nat.mod_lt _ (by decide)) (by decide)
  rdT_inb _ := aOff_inb (Nat.mod_lt _ (by decide)) (by decide)
  rdB_inb _ := aOff_inb (Nat.mod_lt _ (by decide)) (by decide)
  zSlot_inb h := zOff_inb h (zz_lt c)
  zOwn_inb h := zOff_inb h (zz_lt c)
  zChunk_inb h _ := zOff_inb h (Nat.mod_lt _ (by decide))
  zLd_inb h _ := zOff_inb h (Nat.mod_lt _ (by decide))
  oSt_inb h := oOff_inb128 h (by have := pp_lt c; have := zz_lt c; omega)
  oMy_inb h := oOff_inb128 h (by have := pp_lt c; have := zz_lt c; omega)
  oPeer_inb h s := oOff_inb128 h (by have := pp_lt c; unfold zPeer; omega)
  gTS_inb h s := oOff_inb256 h (by unfold gST; omega)
  gBS_inb h s := oOff_inb256 h (by unfold gSB; omega)
  gTR_inb h s := oOff_inb256 h (by unfold gST; omega)
  gBR_inb h s := oOff_inb256 h (by unfold gSB; omega)
  mOwn_inb h := mOff_inb h (zz_lt c)
  mPeer_inb h _ := mOff_inb h (Nat.mod_lt _ (by decide))
  zSlot_w h := (zOff_p h _).wholeWords
  zChunk_w h _ := (zOff_p h _).wholeWords
  oSt_p h := oOff_p128 h _ (by omega)
  oMy_w h := (oOff_p128 h _ (by omega)).wholeWords
  oPeer_w h _ := (oOff_p128 h _ (by omega)).wholeWords
  gTS_w h _ := (oOff_p256 h _ (by omega)).wholeWords
  gBS_w h _ := (oOff_p256 h _ (by omega)).wholeWords
  gTR_w h _ := (oOff_p256 h _ (by omega)).wholeWords
  gBR_w h _ := (oOff_p256 h _ (by omega)).wholeWords
  dev_lt k _ s := (dst k s c).isLt
  bar_lt k := (barTo k c).isLt

/-! ### The printed chains, by family, lane and copy -/

def w3 (s : Fin 3) : BitVec 32 := BitVec.ofNat 32 (1 + s.val)
def wl (h : Fin 4) : BitVec 32 := BitVec.ofNat 32 (4 * h.val)
def w0 (s : Fin 3) : BitVec 32 := BitVec.ofNat 32 s.val

def pZSlot (c : Dev nD) : Fin 4 → Fin 3 → ℕ := ![k0_off6 c, k0_off13 c, k0_off22 c, k0_off27 c]
def pZOwn (c : Dev nD) : Fin 4 → Fin 3 → ℕ := ![k0_off8 c, k0_off16 c, k0_off29 c, k0_off36 c]
def pZChunk (c : Dev nD) (h : Fin 4) (s : Fin 3) : Fin 3 → ℕ :=
  (![k0_off7, k0_off14, k0_off23, k0_off28] : Fin 4 → _) h c (w3 s)
def pZLd (c : Dev nD) (h : Fin 4) (s : Fin 3) : Fin 3 → ℕ :=
  (![k0_off10, k0_off17, k0_off30, k0_off37] : Fin 4 → _) h c (w3 s)
def pOSt (c : Dev nD) : Fin 4 → Fin 2 → ℕ := ![k0_off11 c, k0_off18 c, k0_off31 c, k0_off38 c]
def pOMy (c : Dev nD) : Fin 4 → Fin 2 → ℕ := ![k0_off12 c, k0_off19 c, k0_off32 c, k0_off39 c]
def pOPeer (c : Dev nD) (h : Fin 4) (s : Fin 3) : Fin 2 → ℕ :=
  (![k0_off15, k0_off26, k0_off35, k0_off44] : Fin 4 → _) h c (w3 s)
def pGTS (c : Dev nD) (h : Fin 4) (s : Fin 3) : Fin 2 → ℕ :=
  (![k0_off20, k0_off33, k0_off40, k0_off47] : Fin 4 → _) h c (w0 s)
def pGBS (c : Dev nD) (h : Fin 4) (s : Fin 3) : Fin 2 → ℕ :=
  (![k0_off21, k0_off34, k0_off41, k0_off48] : Fin 4 → _) h c (w0 s)
def pGTR (c : Dev nD) (h : Fin 4) (s : Fin 3) : Fin 2 → ℕ :=
  (![k0_off24, k0_off42, k0_off45, k0_off49] : Fin 4 → _) h c (w0 s)
def pGBR (c : Dev nD) (h : Fin 4) (s : Fin 3) : Fin 2 → ℕ :=
  (![k0_off25, k0_off43, k0_off46, k0_off50] : Fin 4 → _) h c (w0 s)

/-- The printed device number of each copy. -/
def pDev : Fin 6 → Fin 4 → Fin 3 → Dev nD → ℕ :=
  ![![![k0_dev7, k0_dev11, k0_dev17], ![k0_dev9, k0_dev15, k0_dev23], ![k0_dev13, k0_dev21, k0_dev30], ![k0_dev19, k0_dev28, k0_dev38]],
    ![![k0_dev8, k0_dev12, k0_dev18], ![k0_dev10, k0_dev16, k0_dev24], ![k0_dev14, k0_dev22, k0_dev31], ![k0_dev20, k0_dev29, k0_dev39]],
    ![![k0_dev25, k0_dev26, k0_dev27], ![k0_dev35, k0_dev36, k0_dev37], ![k0_dev45, k0_dev46, k0_dev47], ![k0_dev50, k0_dev51, k0_dev52]],
    ![![k0_dev32, k0_dev33, k0_dev34], ![k0_dev40, k0_dev41, k0_dev42], ![k0_dev53, k0_dev54, k0_dev55], ![k0_dev60, k0_dev61, k0_dev62]],
    ![![k0_dev43, k0_dev48, k0_dev58], ![k0_dev56, k0_dev65, k0_dev71], ![k0_dev63, k0_dev67, k0_dev73], ![k0_dev69, k0_dev75, k0_dev77]],
    ![![k0_dev44, k0_dev49, k0_dev59], ![k0_dev57, k0_dev66, k0_dev72], ![k0_dev64, k0_dev68, k0_dev74], ![k0_dev70, k0_dev76, k0_dev78]]]
def pBar : Fin 6 → Dev nD → ℕ := ![k0_dev1, k0_dev2, k0_dev3, k0_dev4, k0_dev5, k0_dev6]

set_option maxRecDepth 100000
theorem e_stT : ∀ c, k0_off1 c = (geo c).stT := by decide +kernel
theorem e_stB : ∀ c, k0_off2 c = (geo c).stB := by decide +kernel
theorem e_rdT : ∀ c, ∀ s, k0_off3 c (w0 s) = (geo c).rdT s := by decide +kernel
theorem e_rdB : ∀ c, ∀ s, k0_off4 c (w0 s) = (geo c).rdB s := by decide +kernel
theorem e_zSlot : ∀ c, ∀ h, pZSlot c h = (geo c).zSlot h := by decide +kernel
theorem e_zOwn : ∀ c, ∀ h, pZOwn c h = (geo c).zOwn h := by decide +kernel
theorem e_zChunk : ∀ c, ∀ h s, pZChunk c h s = (geo c).zChunk h s := by decide +kernel
theorem e_zLd : ∀ c, ∀ h s, pZLd c h s = (geo c).zLd h s := by decide +kernel
theorem e_oSt : ∀ c, ∀ h, pOSt c h = (geo c).oSt h := by decide +kernel
theorem e_oMy : ∀ c, ∀ h, pOMy c h = (geo c).oMy h := by decide +kernel
theorem e_oPeer : ∀ c, ∀ h s, pOPeer c h s = (geo c).oPeer h s := by decide +kernel
theorem e_gTS : ∀ c, ∀ h s, pGTS c h s = (geo c).gTS h s := by decide +kernel
theorem e_gBS : ∀ c, ∀ h s, pGBS c h s = (geo c).gBS h s := by decide +kernel
theorem e_gTR : ∀ c, ∀ h s, pGTR c h s = (geo c).gTR h s := by decide +kernel
theorem e_gBR : ∀ c, ∀ h s, pGBR c h s = (geo c).gBR h s := by decide +kernel
theorem e_mOwn : ∀ c, ∀ h, k0_off5 c (wl h) = (geo c).mOwn h := by decide +kernel
theorem e_mPeer : ∀ c, ∀ h s, k0_off9 c (wl h) (w3 s) = (geo c).mPeer h s := by decide +kernel
theorem e_dev : ∀ c, ∀ k h s, pDev k h s c = (geo c).dev k h s := by decide +kernel
theorem e_bar : ∀ c, ∀ k, pBar k c = (geo c).bar k := by decide +kernel

/-- The closed forms' facts hold of fields equal to them. -/
def Geo.transport (g : Geo) (stT stB : Fin 2 → ℕ) (rdT rdB : Fin 3 → Fin 2 → ℕ) (zSlot zOwn : Fin 4 → Fin 3 → ℕ)
    (zChunk zLd : Fin 4 → Fin 3 → Fin 3 → ℕ) (oSt oMy : Fin 4 → Fin 2 → ℕ)
    (oPeer gTS gBS gTR gBR : Fin 4 → Fin 3 → Fin 2 → ℕ) (mOwn : Fin 4 → Fin 1 → ℕ) (mPeer : Fin 4 → Fin 3 → Fin 1 → ℕ)
    (dev : Fin 6 → Fin 4 → Fin 3 → ℕ) (bar : Fin 6 → ℕ)
    (h1 : stT = g.stT) (h2 : stB = g.stB) (h3 : rdT = g.rdT) (h4 : rdB = g.rdB) (h5 : zSlot = g.zSlot) (h6 : zOwn = g.zOwn)
    (h7 : zChunk = g.zChunk) (h8 : zLd = g.zLd) (h9 : oSt = g.oSt) (h10 : oMy = g.oMy) (h11 : oPeer = g.oPeer)
    (h12 : gTS = g.gTS) (h13 : gBS = g.gBS) (h14 : gTR = g.gTR) (h15 : gBR = g.gBR) (h16 : mOwn = g.mOwn)
    (h17 : mPeer = g.mPeer) (h18 : dev = g.dev) (h19 : bar = g.bar) : Geo where
  stT := stT
  stB := stB
  rdT := rdT
  rdB := rdB
  zSlot := zSlot
  zOwn := zOwn
  zChunk := zChunk
  zLd := zLd
  oSt := oSt
  oMy := oMy
  oPeer := oPeer
  gTS := gTS
  gBS := gBS
  gTR := gTR
  gBR := gBR
  mOwn := mOwn
  mPeer := mPeer
  dev := dev
  bar := bar
  stT_inb := by subst h1; exact g.stT_inb
  stB_inb := by subst h2; exact g.stB_inb
  rdT_inb := by subst h3; exact g.rdT_inb
  rdB_inb := by subst h4; exact g.rdB_inb
  zSlot_inb := by subst h5; exact g.zSlot_inb
  zOwn_inb := by subst h6; exact g.zOwn_inb
  zChunk_inb := by subst h7; exact g.zChunk_inb
  zLd_inb := by subst h8; exact g.zLd_inb
  oSt_inb := by subst h9; exact g.oSt_inb
  oMy_inb := by subst h10; exact g.oMy_inb
  oPeer_inb := by subst h11; exact g.oPeer_inb
  gTS_inb := by subst h12; exact g.gTS_inb
  gBS_inb := by subst h13; exact g.gBS_inb
  gTR_inb := by subst h14; exact g.gTR_inb
  gBR_inb := by subst h15; exact g.gBR_inb
  mOwn_inb := by subst h16; exact g.mOwn_inb
  mPeer_inb := by subst h17; exact g.mPeer_inb
  zSlot_w := by subst h5; exact g.zSlot_w
  zChunk_w := by subst h7; exact g.zChunk_w
  oSt_p := by subst h9; exact g.oSt_p
  oMy_w := by subst h10; exact g.oMy_w
  oPeer_w := by subst h11; exact g.oPeer_w
  gTS_w := by subst h12; exact g.gTS_w
  gBS_w := by subst h13; exact g.gBS_w
  gTR_w := by subst h14; exact g.gTR_w
  gBR_w := by subst h15; exact g.gBR_w
  dev_lt := by subst h18; exact g.dev_lt
  bar_lt := by subst h19; exact g.bar_lt

theorem Geo.transport_eq (g : Geo) (stT stB : Fin 2 → ℕ) (rdT rdB : Fin 3 → Fin 2 → ℕ) (zSlot zOwn : Fin 4 → Fin 3 → ℕ)
    (zChunk zLd : Fin 4 → Fin 3 → Fin 3 → ℕ) (oSt oMy : Fin 4 → Fin 2 → ℕ)
    (oPeer gTS gBS gTR gBR : Fin 4 → Fin 3 → Fin 2 → ℕ) (mOwn : Fin 4 → Fin 1 → ℕ) (mPeer : Fin 4 → Fin 3 → Fin 1 → ℕ)
    (dev : Fin 6 → Fin 4 → Fin 3 → ℕ) (bar : Fin 6 → ℕ) (h1 h2 h3 h4 h5 h6 h7 h8 h9 h10 h11 h12 h13 h14 h15 h16 h17 h18 h19) :
    g.transport stT stB rdT rdB zSlot zOwn zChunk zLd oSt oMy oPeer gTS gBS gTR gBR mOwn mPeer dev bar
      h1 h2 h3 h4 h5 h6 h7 h8 h9 h10 h11 h12 h13 h14 h15 h16 h17 h18 h19 = g := by
  subst h1 h2 h3 h4 h5 h6 h7 h8 h9 h10 h11 h12 h13 h14 h15 h16 h17 h18 h19
  rfl

/-- The geometry as printed. -/
def geoP (c : Dev nD) : Geo :=
  (geo c).transport (k0_off1 c) (k0_off2 c) (fun s => k0_off3 c (w0 s)) (fun s => k0_off4 c (w0 s)) (pZSlot c) (pZOwn c)
    (pZChunk c) (pZLd c) (pOSt c) (pOMy c) (pOPeer c) (pGTS c) (pGBS c) (pGTR c) (pGBR c) (fun h => k0_off5 c (wl h))
    (fun h s => k0_off9 c (wl h) (w3 s)) (fun k h s => pDev k h s c) (fun k => pBar k c)
    (e_stT c) (e_stB c) (funext (e_rdT c)) (funext (e_rdB c)) (funext (e_zSlot c)) (funext (e_zOwn c))
    (funext fun h => funext (e_zChunk c h)) (funext fun h => funext (e_zLd c h)) (funext (e_oSt c)) (funext (e_oMy c))
    (funext fun h => funext (e_oPeer c h)) (funext fun h => funext (e_gTS c h)) (funext fun h => funext (e_gBS c h))
    (funext fun h => funext (e_gTR c h)) (funext fun h => funext (e_gBR c h)) (funext (e_mOwn c))
    (funext fun h => funext (e_mPeer c h)) (funext fun k => funext fun h => funext (e_dev c k h)) (funext (e_bar c))

theorem geoP_eq (c : Dev nD) : geoP c = geo c := Geo.transport_eq ..

end Cert.KernelIdeal.Silu

end
-- ==== Proof.Prog.lean ====
/-
The kernel's body as the kernel is written: its column lanes `h`, each going through the same 22
steps, interleaved in one order. `step g h n` is step `n` of lane `h` on the geometry `g`; `body_eq`
says that the printed body is these steps in the order `sched`, after the barrier.
-/
module

public import proofs.«01_k».proof.Proof.Geo

@[expose] public section

noncomputable section

namespace Cert.KernelIdeal.Silu

open Idealize.ShloMosaic Idealize.ShloMosaic.TcCoe
open Idealize.SL Idealize.SL.Sem
open Cert.KernelIdeal.Gen

variable {F : FTy → Type} [FloatOps F]

/-- A TensorCore program that returns nothing. -/
abbrev Prg (F : FTy → Type) [FloatOps F] := Prog (TpuEff nD τ sig (Elt F) Λ₀ .tc) PUnit

/-! ### The buffers -/

abbrev bA : Memref sig .tc .vmem S2048x1024 .f32 := Memref.whole cc0_stg0_0
abbrev bB : Memref sig .tc .vmem S1024x2048 .f32 := Memref.whole cc0_stg1_0
abbrev bO : Memref sig .tc .vmem S2048x2048 .bf16 := Memref.whole cc0_stg2_0
abbrev bR : Memref sig .tc .vmem S4x4x256x512 .bf16 := Memref.whole cc0_scratch0
abbrev bL : Memref sig .tc .vmem S4x4x256x512 .bf16 := Memref.whole cc0_scratch1
abbrev bZ : Memref sig .tc .vmem S4x512x512 .bf16 := Memref.whole cc0_scratch2
abbrev bX : Memref sig .tc .vmem S4x512x512 .bf16 := Memref.whole cc0_scratch3

theorem slot_inb (h t : Fin 4) : ∀ a, (![h.val, t.val, 0, 0] : Fin 4 → ℕ) a + S1x1x256x512.size a ≤ S4x4x256x512.size a := by
  revert h t; decide
theorem slot_p (h t : Fin 4) : (Rect.unit (s := S4x4x256x512) ![h.val, t.val, 0, 0] S1x1x256x512.size (slot_inb h t)).PackedRows (EltTy.packing .bf16) := by
  revert h t; decide
theorem half_inb (h : Fin 4) (b : Fin 2) : ∀ a, (![h.val, 256 * b.val, 0] : Fin 3 → ℕ) a + S1x256x512.size a ≤ S4x512x512.size a := by
  revert h b; decide
theorem half_p (h : Fin 4) (b : Fin 2) : (Rect.unit (s := S4x512x512) ![h.val, 256 * b.val, 0] S1x256x512.size (half_inb h b)).PackedRows (EltTy.packing .bf16) := by
  revert h b; decide
theorem cols_inb (h : Fin 4) : ∀ a, (![0, 512 * h.val] : Fin 2 → ℕ) a + S1024x512.size a ≤ S1024x2048.size a := by
  revert h; decide
theorem i12_inb (i : Fin 12) : ∀ a, (![i.val] : Fin 1 → ℕ) a + S1.size a ≤ S12.size a := by
  revert i; decide
theorem i24_inb (i : Fin 24) : ∀ a, (![i.val] : Fin 1 → ℕ) a + S1.size a ≤ S24.size a := by
  revert i; decide

abbrev rSlot (h t : Fin 4) : Rect S4x4x256x512 := Rect.unit (s := S4x4x256x512) ![h.val, t.val, 0, 0] S1x1x256x512.size (slot_inb h t)
abbrev rHalf (h : Fin 4) (b : Fin 2) : Rect S4x512x512 := Rect.unit (s := S4x512x512) ![h.val, 256 * b.val, 0] S1x256x512.size (half_inb h b)
abbrev rCols (h : Fin 4) : Rect S1024x2048 := Rect.unit (s := S1024x2048) ![0, 512 * h.val] S1024x512.size (cols_inb h)

/-- Slot `t` of lane `h` of a ring's buffer. -/
abbrev slot (m : Memref sig .tc .vmem S4x4x256x512 .bf16) (h t : Fin 4) : Memref sig .tc .vmem S256x512 .bf16 :=
  (m.slice (rSlot h t) (fun _ => rfl)).squeeze S256x512 squeezes_S1x1x256x512_S256x512

/-- A chunk of a column-exchange buffer at an offset. -/
abbrev zc (m : Memref sig .tc .vmem S4x512x512 .bf16) (o : Fin 3 → ℕ) (ho : ∀ a, o a + S1x128x512.size a ≤ S4x512x512.size a) :
    Memref sig .tc .vmem S128x512 .bf16 :=
  (m.slice (Rect.unit (s := S4x512x512) o S1x128x512.size ho) (fun _ => rfl)).squeeze S128x512 squeezes_S1x128x512_S128x512

abbrev oc (o : Fin 2 → ℕ) (ho : ∀ a, o a + S128x512.size a ≤ S2048x2048.size a) : Memref sig .tc .vmem S128x512 .bf16 :=
  bO.slice (Rect.unit (s := S2048x2048) o S128x512.size ho) (fun _ => rfl)
abbrev oh (o : Fin 2 → ℕ) (ho : ∀ a, o a + S256x512.size a ≤ S2048x2048.size a) : Memref sig .tc .vmem S256x512 .bf16 :=
  bO.slice (Rect.unit (s := S2048x2048) o S256x512.size ho) (fun _ => rfl)

/-! ### The semaphores -/

abbrev m12 (a : DmaSems sig S12) (i : Fin 12) : DmaSem sig :=
  ((a.slice (Rect.unit (s := S12) ![i.val] S1.size (i12_inb i))).squeeze S_ squeezes_S1_S_).sem
abbrev m24 (a : DmaSems sig S24) (i : Fin 24) : DmaSem sig :=
  ((a.slice (Rect.unit (s := S24) ![i.val] S1.size (i24_inb i))).squeeze S_ squeezes_S1_S_).sem
abbrev m16 (a : DmaSems sig S16) (o : Fin 1 → ℕ) (ho : ∀ x, o x + S1.size x ≤ S16.size x) : DmaSem sig :=
  ((a.slice (Rect.unit (s := S16) o S1.size ho)).squeeze S_ squeezes_S1_S_).sem

def i3 (h : Fin 4) (s : Fin 3) : Fin 12 := ⟨3 * h.val + s.val, by omega⟩
def i6 (h : Fin 4) (b : Fin 2) (s : Fin 3) : Fin 24 := ⟨6 * h.val + 3 * b.val + s.val, by omega⟩

/-- The semaphore that copy `s` of family `k` in lane `h` credits on its sender. -/
abbrev mS (k : Fin 6) (h : Fin 4) (s : Fin 3) : DmaSem sig :=
  match k with
  | 0 => m12 cc0_scratch4 (i3 h s)
  | 1 => m12 cc0_scratch6 (i3 h s)
  | 2 => m12 cc0_scratch8 (i3 h s)
  | 3 => m12 cc0_scratch10 (i3 h s)
  | 4 => m24 cc0_scratch12 (i6 h 0 s)
  | 5 => m24 cc0_scratch12 (i6 h 1 s)

/-! ### The operations -/

abbrev barSem : Sem sig := (SemArray.scalar (sig.barrier 0 rfl) : Sems sig S_).sem

/-- Start a copy to device `d`. -/
abbrev send {t : Shape} (a b : Memref sig .tc .vmem t .bf16) (d : ℕ) (hd : d < nD) (s r : DmaSem sig)
    (ha : a.view.WordExact) (hb : b.view.WordExact) : Prg F :=
  Prog.lift (.enqueueDma a (.remote (Dev.tc (⟨d, hd⟩ : Dev nD)) b (.dma s)) (.dma r) ha hb ⟨⟨rfl, Or.inl rfl⟩, trivial⟩)

abbrev wait {t u : Shape} (s : DmaSem sig) (a : Memref sig .tc .vmem t .bf16) (b : Memref sig .tc .vmem u .bf16)
    (ha : a.view.WordExact) (hb : b.view.WordExact) : Prg F :=
  Prog.lift (.waitDma2 s a b ha hb)

theorem slotR_x (h t : Fin 4) : (slot bR h t).view.WordExact :=
  (((Memref.isWhole_whole cc0_scratch0).wordExact_slice rfl _ (slot_p h t).wholeWords).reshape _ _)
theorem slotL_x (h t : Fin 4) : (slot bL h t).view.WordExact :=
  (((Memref.isWhole_whole cc0_scratch1).wordExact_slice rfl _ (slot_p h t).wholeWords).reshape _ _)
theorem zcZ_x (o : Fin 3 → ℕ) (ho : ∀ a, o a + S1x128x512.size a ≤ S4x512x512.size a)
    (hw : (Rect.unit (s := S4x512x512) o S1x128x512.size ho).WholeWords (EltTy.packing .bf16)) : (zc bZ o ho).view.WordExact :=
  (((Memref.isWhole_whole cc0_scratch2).wordExact_slice rfl _ hw).reshape _ _)
theorem zcX_x (o : Fin 3 → ℕ) (ho : ∀ a, o a + S1x128x512.size a ≤ S4x512x512.size a)
    (hw : (Rect.unit (s := S4x512x512) o S1x128x512.size ho).WholeWords (EltTy.packing .bf16)) : (zc bX o ho).view.WordExact :=
  (((Memref.isWhole_whole cc0_scratch3).wordExact_slice rfl _ hw).reshape _ _)
theorem oc_x (o : Fin 2 → ℕ) (ho : ∀ a, o a + S128x512.size a ≤ S2048x2048.size a)
    (hw : (Rect.unit (s := S2048x2048) o S128x512.size ho).WholeWords (EltTy.packing .bf16)) : (oc o ho).view.WordExact :=
  ((Memref.isWhole_whole cc0_stg2_0).wordExact_slice rfl _ hw)
theorem oh_x (o : Fin 2 → ℕ) (ho : ∀ a, o a + S256x512.size a ≤ S2048x2048.size a)
    (hw : (Rect.unit (s := S2048x2048) o S256x512.size ho).WholeWords (EltTy.packing .bf16)) : (oh o ho).view.WordExact :=
  ((Memref.isWhole_whole cc0_stg2_0).wordExact_slice rfl _ hw)

abbrev ldA (o : Fin 2 → ℕ) (ho : ∀ a, o a + S256x1024.size a ≤ S2048x1024.size a) :
    Prog (TpuEff nD τ sig (Elt F) Λ₀ .tc) (Vec F S256x1024 .f32) :=
  Prog.lift (.load bA (Rect.unit (s := S2048x1024) o S256x1024.size ho).toLoadRect (View.loadsAt_vmem h_S256x1024))
abbrev ldB (h : Fin 4) : Prog (TpuEff nD τ sig (Elt F) Λ₀ .tc) (Vec F S1024x512 .f32) :=
  Prog.lift (.load bB (rCols h).toLoadRect (View.loadsAt_vmem h_S1024x512))
abbrev ldS (m : Memref sig .tc .vmem S4x4x256x512 .bf16) (h t : Fin 4) :
    Prog (TpuEff nD τ sig (Elt F) Λ₀ .tc) (Vec F S1x1x256x512 .bf16) :=
  Prog.lift (.load m (rSlot h t).toLoadRect (View.loadsAt_vmem h_S1x1x256x512))
abbrev stR (h t : Fin 4) (v : FVec F S1x1x256x512 .bf16) : Prg F :=
  Prog.lift (.store bR (rSlot h t) v Finset.univ (View.stores_vmem h_S1x1x256x512
    ((Memref.isWhole_whole cc0_scratch0).storeExact_slice rfl _ (slot_p h t)) (fun _ => rfl)) (.inl rfl))
abbrev stL (h t : Fin 4) (v : FVec F S1x1x256x512 .bf16) : Prg F :=
  Prog.lift (.store bL (rSlot h t) v Finset.univ (View.stores_vmem h_S1x1x256x512
    ((Memref.isWhole_whole cc0_scratch1).storeExact_slice rfl _ (slot_p h t)) (fun _ => rfl)) (.inl rfl))
abbrev ldH (h : Fin 4) (b : Fin 2) : Prog (TpuEff nD τ sig (Elt F) Λ₀ .tc) (Vec F S1x256x512 .bf16) :=
  Prog.lift (.load bZ (rHalf h b).toLoadRect (View.loadsAt_vmem h_S1x256x512))
abbrev stH (h : Fin 4) (b : Fin 2) (v : FVec F S1x256x512 .bf16) : Prg F :=
  Prog.lift (.store bZ (rHalf h b) v Finset.univ (View.stores_vmem h_S1x256x512
    ((Memref.isWhole_whole cc0_scratch2).storeExact_slice rfl _ (half_p h b)) (fun _ => rfl)) (.inl rfl))
abbrev ldC (m : Memref sig .tc .vmem S4x512x512 .bf16) (o : Fin 3 → ℕ) (ho : ∀ a, o a + S1x128x512.size a ≤ S4x512x512.size a) :
    Prog (TpuEff nD τ sig (Elt F) Λ₀ .tc) (Vec F S1x128x512 .bf16) :=
  Prog.lift (.load m (Rect.unit (s := S4x512x512) o S1x128x512.size ho).toLoadRect (View.loadsAt_vmem h_S1x128x512))
abbrev ldO (o : Fin 2 → ℕ) (ho : ∀ a, o a + S128x512.size a ≤ S2048x2048.size a) :
    Prog (TpuEff nD τ sig (Elt F) Λ₀ .tc) (Vec F S128x512 .bf16) :=
  Prog.lift (.load bO (Rect.unit (s := S2048x2048) o S128x512.size ho).toLoadRect (View.loadsAt_vmem h_S128x512))
abbrev stO (o : Fin 2 → ℕ) (ho : ∀ a, o a + S128x512.size a ≤ S2048x2048.size a)
    (hp : (Rect.unit (s := S2048x2048) o S128x512.size ho).PackedRows (EltTy.packing .bf16)) (v : FVec F S128x512 .bf16) : Prg F :=
  Prog.lift (.store bO (Rect.unit (s := S2048x2048) o S128x512.size ho) v Finset.univ (View.stores_vmem h_S128x512
    ((Memref.isWhole_whole cc0_stg2_0).storeExact_slice rfl _ hp) (fun _ => rfl)) (.inl rfl))

/-! ### The values -/

/-- A block of 256 rows of the product of a device's parts of the operands, 512 columns wide. -/
def part (a : Vec F S256x1024 .f32) (b : Vec F S1024x512 .f32) : FVec F S256x512 .f32 :=
  matmul dot_S256x1024_S1024x512_S256x512_1_0_0_1_n_n none
    (shapeCast S256x1024 a shapeCasts_S256x1024_S256x1024) (shapeCast S1024x512 b shapeCasts_S1024x512_S1024x512)
    (constant S256x512 .f32 0x00000000#32)

/-- Such a block, narrowed. -/
def nar (x : FVec F S256x512 .f32) : FVec F S256x512 .bf16 := truncf .bf16 x bitsLt_bf16_f32
/-- What came round the ring, with the device's own block added. -/
def addIn (v : FVec F S256x512 .bf16) (x : FVec F S256x512 .f32) : FVec F S256x512 .bf16 :=
  nar (addf (extf .f32 v bitsLt_bf16_f32) x)

def toSlot (v : FVec F S256x512 .bf16) : FVec F S1x1x256x512 .bf16 := shapeCast S1x1x256x512 v shapeCasts_S256x512_S1x1x256x512
def ofSlot (v : Vec F S1x1x256x512 .bf16) : FVec F S256x512 .bf16 := shapeCast S256x512 v shapeCasts_S1x1x256x512_S256x512
def toHalf (v : FVec F S256x512 .bf16) : FVec F S1x256x512 .bf16 := shapeCast S1x256x512 v shapeCasts_S256x512_S1x256x512
def ofChunk (v : Vec F S1x128x512 .bf16) : FVec F S128x512 .bf16 := shapeCast S128x512 v shapeCasts_S1x128x512_S128x512
def wid (v : FVec F S128x512 .bf16) : FVec F S128x512 .f32 := extf .f32 v bitsLt_bf16_f32

/-- `x / (1 + exp (-x))`, narrowed. -/
def silu (x : FVec F S128x512 .f32) : FVec F S128x512 .bf16 :=
  truncf .bf16 (divf x (addf (broadcast S128x512 (Scalar.ofBits .f32 0x3F800000#32 : F .f32))
    (exp (subf (broadcast S128x512 (Scalar.ofBits .f32 0x00000000#32 : F .f32)) x)))) bitsLt_bf16_f32

def sum4 (a b c d : FVec F S128x512 .bf16) : FVec F S128x512 .f32 := addf (addf (addf (wid a) (wid b)) (wid c)) (wid d)

/-! ### The steps of a lane -/

def stage (g : Geo) (h : Fin 4) : Prg F := do
  let a ← ldA g.stT g.stT_inb
  let b ← ldB h
  let _ ← ldS bR h 0
  stR h 0 (toSlot (nar (part a b)))
  let a ← ldA g.stB g.stB_inb
  let b ← ldB h
  let _ ← ldS bL h 0
  stL h 0 (toSlot (nar (part a b)))

def start (g : Geo) (h : Fin 4) (s : Fin 3) : Prg F := do
  send (slot bR h s.castSucc) (slot bR h s.succ) (g.dev 0 h s) (g.dev_lt 0 h s) (mS 0 h s) (m12 cc0_scratch5 (i3 h s))
    (slotR_x _ _) (slotR_x _ _)
  send (slot bL h s.castSucc) (slot bL h s.succ) (g.dev 1 h s) (g.dev_lt 1 h s) (mS 1 h s) (m12 cc0_scratch7 (i3 h s))
    (slotL_x _ _) (slotL_x _ _)

/-- The common part of the steps that end a round of the rings. -/
def dots (g : Geo) (h : Fin 4) (s : Fin 3) : Prog (TpuEff nD τ sig (Elt F) Λ₀ .tc) (FVec F S256x512 .f32 × FVec F S256x512 .f32) := do
  let a ← ldA (g.rdT s) (g.rdT_inb s)
  let b ← ldB h
  let a' ← ldA (g.rdB s) (g.rdB_inb s)
  let b' ← ldB h
  wait (mS 0 h s) (slot bR h s.succ) (slot bR h s.castSucc) (slotR_x _ _) (slotR_x _ _)
  wait (m12 cc0_scratch5 (i3 h s)) (slot bR h s.castSucc) (slot bR h s.succ) (slotR_x _ _) (slotR_x _ _)
  wait (mS 1 h s) (slot bL h s.succ) (slot bL h s.castSucc) (slotL_x _ _) (slotL_x _ _)
  wait (m12 cc0_scratch7 (i3 h s)) (slot bL h s.castSucc) (slot bL h s.succ) (slotL_x _ _) (slotL_x _ _)
  pure (part a b, part a' b')

def finA (g : Geo) (h : Fin 4) (s : Fin 3) : Prg F := do
  let x ← dots g h s
  let v ← ldS bR h s.succ
  let _ ← ldS bR h s.succ
  stR h s.succ (toSlot (addIn (ofSlot v) x.1))
  let v ← ldS bL h s.succ
  let _ ← ldS bL h s.succ
  stL h s.succ (toSlot (addIn (ofSlot v) x.2))

def finB (g : Geo) (h : Fin 4) : Prg F := do
  let x ← dots g h 2
  let v ← ldS bR h 3
  let _ ← ldH h 0
  stH h 0 (toHalf (addIn (ofSlot v) x.1))
  let v ← ldS bL h 3
  let _ ← ldH h 1
  stH h 1 (toHalf (addIn (ofSlot v) x.2))

def sendZ (g : Geo) (h : Fin 4) (s : Fin 3) : Prg F :=
  send (zc bZ (g.zChunk h s) (g.zChunk_inb h s)) (zc bX (g.zSlot h) (g.zSlot_inb h)) (g.dev 2 h s) (g.dev_lt 2 h s) (mS 2 h s)
    (m16 cc0_scratch9 (g.mOwn h) (g.mOwn_inb h)) (zcZ_x _ _ (g.zChunk_w h s)) (zcX_x _ _ (g.zSlot_w h))

def send2 (g : Geo) (h : Fin 4) : Prg F := do
  sendZ g h 0
  sendZ g h 1
  sendZ g h 2

def waitX (g : Geo) (h : Fin 4) (s : Fin 3) : Prg F :=
  wait (m16 cc0_scratch9 (g.mPeer h s) (g.mPeer_inb h s)) (zc bX (g.zChunk h s) (g.zChunk_inb h s)) (zc bX (g.zChunk h s) (g.zChunk_inb h s))
    (zcX_x _ _ (g.zChunk_w h s)) (zcX_x _ _ (g.zChunk_w h s))

def red (g : Geo) (h : Fin 4) : Prg F := do
  let a ← ldC bZ (g.zOwn h) (g.zOwn_inb h)
  waitX g h 0
  let b ← ldC bX (g.zLd h 0) (g.zLd_inb h 0)
  waitX g h 1
  let c ← ldC bX (g.zLd h 1) (g.zLd_inb h 1)
  waitX g h 2
  let d ← ldC bX (g.zLd h 2) (g.zLd_inb h 2)
  let _ ← ldO (g.oSt h) (g.oSt_inb h)
  stO (g.oSt h) (g.oSt_inb h) (g.oSt_p h) (silu (sum4 (ofChunk a) (ofChunk b) (ofChunk c) (ofChunk d)))

def sendO (g : Geo) (h : Fin 4) (s : Fin 3) : Prg F :=
  send (oc (g.oMy h) (g.oMy_inb h)) (oc (g.oMy h) (g.oMy_inb h)) (g.dev 3 h s) (g.dev_lt 3 h s) (mS 3 h s)
    (m16 cc0_scratch11 (g.mOwn h) (g.mOwn_inb h)) (oc_x _ _ (g.oMy_w h)) (oc_x _ _ (g.oMy_w h))

def send3 (g : Geo) (h : Fin 4) : Prg F := do
  sendO g h 0
  sendO g h 1
  sendO g h 2

def waitO (g : Geo) (h : Fin 4) (s : Fin 3) : Prg F :=
  wait (m16 cc0_scratch11 (g.mPeer h s) (g.mPeer_inb h s)) (oc (g.oPeer h s) (g.oPeer_inb h s)) (oc (g.oPeer h s) (g.oPeer_inb h s))
    (oc_x _ _ (g.oPeer_w h s)) (oc_x _ _ (g.oPeer_w h s))

def wait3 (g : Geo) (h : Fin 4) : Prg F := do
  waitO g h 0
  waitO g h 1
  waitO g h 2

def send4 (g : Geo) (h : Fin 4) (s : Fin 3) : Prg F := do
  send (oh (g.gTS h s) (g.gTS_inb h s)) (oh (g.gTS h s) (g.gTS_inb h s)) (g.dev 4 h s) (g.dev_lt 4 h s) (mS 4 h s)
    (m24 cc0_scratch13 (i6 h 0 s)) (oh_x _ _ (g.gTS_w h s)) (oh_x _ _ (g.gTS_w h s))
  send (oh (g.gBS h s) (g.gBS_inb h s)) (oh (g.gBS h s) (g.gBS_inb h s)) (g.dev 5 h s) (g.dev_lt 5 h s) (mS 5 h s)
    (m24 cc0_scratch13 (i6 h 1 s)) (oh_x _ _ (g.gBS_w h s)) (oh_x _ _ (g.gBS_w h s))

def wait4 (g : Geo) (h : Fin 4) (s : Fin 3) : Prg F := do
  wait (m24 cc0_scratch13 (i6 h 0 s)) (oh (g.gTR h s) (g.gTR_inb h s)) (oh (g.gTR h s) (g.gTR_inb h s))
    (oh_x _ _ (g.gTR_w h s)) (oh_x _ _ (g.gTR_w h s))
  wait (m24 cc0_scratch13 (i6 h 1 s)) (oh (g.gBR h s) (g.gBR_inb h s)) (oh (g.gBR h s) (g.gBR_inb h s))
    (oh_x _ _ (g.gBR_w h s)) (oh_x _ _ (g.gBR_w h s))

def drainZ (g : Geo) (h : Fin 4) (s : Fin 3) : Prg F :=
  wait (mS 2 h s) (zc bX (g.zSlot h) (g.zSlot_inb h)) (zc bZ (g.zChunk h s) (g.zChunk_inb h s))
    (zcX_x _ _ (g.zSlot_w h)) (zcZ_x _ _ (g.zChunk_w h s))

def drain2 (g : Geo) (h : Fin 4) : Prg F := do
  drainZ g h 0
  drainZ g h 1
  drainZ g h 2

def drainO (g : Geo) (h : Fin 4) (s : Fin 3) : Prg F :=
  wait (mS 3 h s) (oc (g.oMy h) (g.oMy_inb h)) (oc (g.oMy h) (g.oMy_inb h)) (oc_x _ _ (g.oMy_w h)) (oc_x _ _ (g.oMy_w h))

def drain3 (g : Geo) (h : Fin 4) : Prg F := do
  drainO g h 0
  drainO g h 1
  drainO g h 2

def drain4 (g : Geo) (h : Fin 4) (s : Fin 3) : Prg F := do
  wait (mS 4 h s) (oh (g.gTS h s) (g.gTS_inb h s)) (oh (g.gTS h s) (g.gTS_inb h s)) (oh_x _ _ (g.gTS_w h s)) (oh_x _ _ (g.gTS_w h s))
  wait (mS 5 h s) (oh (g.gBS h s) (g.gBS_inb h s)) (oh (g.gBS h s) (g.gBS_inb h s)) (oh_x _ _ (g.gBS_w h s)) (oh_x _ _ (g.gBS_w h s))

/-- Step `n` of lane `h`. -/
def step (g : Geo) (h : Fin 4) (n : ℕ) : Prg F :=
  match n with
  | 0 => stage g h
  | 1 => start g h 0
  | 2 => finA g h 0
  | 3 => start g h 1
  | 4 => finA g h 1
  | 5 => start g h 2
  | 6 => finB g h
  | 7 => send2 g h
  | 8 => red g h
  | 9 => send3 g h
  | 10 => wait3 g h
  | 11 => send4 g h 0
  | 12 => wait4 g h 0
  | 13 => send4 g h 1
  | 14 => wait4 g h 1
  | 15 => send4 g h 2
  | 16 => wait4 g h 2
  | 17 => drain2 g h
  | 18 => drain3 g h
  | 19 => drain4 g h 0
  | 20 => drain4 g h 1
  | 21 => drain4 g h 2
  | _ => pure ⟨⟩

/-- The order in which the lanes take their steps. -/
def sched : List (Fin 4 × ℕ) :=
  [(0, 0), (0, 1), (1, 0), (1, 1), (0, 2), (0, 3), (2, 0), (2, 1), (1, 2), (1, 3), (0, 4), (0, 5), (3, 0), (3, 1),
   (2, 2), (2, 3), (1, 4), (1, 5), (0, 6), (0, 7), (3, 2), (3, 3), (2, 4), (2, 5), (0, 8), (0, 9), (1, 6), (1, 7),
   (3, 4), (3, 5), (0, 10), (1, 8), (1, 9), (0, 11), (2, 6), (2, 7), (0, 12), (0, 13), (1, 10), (3, 6), (3, 7),
   (2, 8), (2, 9), (1, 11), (0, 14), (0, 15), (2, 10), (3, 8), (3, 9), (2, 11), (1, 12), (1, 13), (0, 16), (3, 10),
   (2, 12), (2, 13), (3, 11), (1, 14), (1, 15), (2, 14), (2, 15), (3, 12), (3, 13), (1, 16), (2, 16), (3, 14),
   (3, 15), (3, 16),
   (0, 17), (0, 18), (1, 17), (1, 18), (0, 19), (2, 17), (0, 20), (3, 17), (2, 18), (1, 19), (0, 21), (3, 18), (2, 19),
   (1, 20), (2, 20), (3, 19), (1, 21), (2, 21), (3, 20), (3, 21)]

def runAll (g : Geo) : List (Fin 4 × ℕ) → Prg F
  | [] => pure ⟨⟩
  | a :: l => do
    step g a.1 a.2
    runAll g l

def signal (g : Geo) (k : Fin 6) : Prg F :=
  semSignalWord (⟨g.bar k, g.bar_lt k⟩ : Dev nD) barSem 1#32

def barrier (g : Geo) : Prg F := do
  signal g 0
  signal g 1
  signal g 2
  signal g 3
  signal g 4
  signal g 5
  semWaitWord barSem 6#32

def bodyOn (g : Dev nD → Geo) : Prg F := do
  let d ← Prog.lift .deviceId
  barrier (g d)
  runAll (g d) sched

end Cert.KernelIdeal.Silu

end
-- ==== Proof.Vals.lean ====
/-
What the buffers hold on the way: the partial sums of the two rings, the partial sums of a row
group in the scratch of the column exchange, and the finished result, as functions of what the
devices hold of the operands.
-/
module

public import proofs.«01_k».proof.Proof.Prog

@[expose] public section

noncomputable section

namespace Cert.KernelIdeal.Silu

open Idealize.ShloMosaic Idealize.ShloMosaic.TcCoe
open Idealize.SL Idealize.SL.Sem
open Cert.KernelIdeal.Gen

variable {F : FTy → Type} [FloatOps F]

/-- What every device holds of the operands, and the contents of the buffers of the other two kinds. -/
abbrev CA (F : FTy → Type) := (cc0_stg0_0 : Ref sig .tc).ty.Contents (Elt F)
abbrev CB (F : FTy → Type) := (cc0_stg1_0 : Ref sig .tc).ty.Contents (Elt F)
abbrev CO (F : FTy → Type) := (cc0_stg2_0 : Ref sig .tc).ty.Contents (Elt F)
abbrev CZ (F : FTy → Type) := (cc0_scratch2 : Ref sig .tc).ty.Contents (Elt F)

abbrev rowsA (a : CA F) (o : Fin 2 → ℕ) (ho : ∀ x, o x + S256x1024.size x ≤ S2048x1024.size x) : Vec F S256x1024 .f32 :=
  bA.view.readAt (Elt F) (Rect.unit (s := S2048x1024) o S256x1024.size ho).toLoadRect a
abbrev colsB (b : CB F) (h : Fin 4) : Vec F S1024x512 .f32 :=
  bB.view.readAt (Elt F) (rCols h).toLoadRect b

/-- Place `(r, c)` of a block of 256 rows, and of one of 128. -/
def ixH (r c : ℕ) : S256x512.Idx := fun a => ⟨(![r % 256, c % 512] : Fin 2 → ℕ) a, by
  fin_cases a
  · exact Nat.mod_lt _ (by decide)
  · exact Nat.mod_lt _ (by decide)⟩
def ixC (r c : ℕ) : S128x512.Idx := fun a => ⟨(![r % 128, c % 512] : Fin 2 → ℕ) a, by
  fin_cases a
  · exact Nat.mod_lt _ (by decide)
  · exact Nat.mod_lt _ (by decide)⟩

variable (A : Dev nD → CA F) (B : Dev nD → CB F)

/-- Device `c`'s own block for half `b` of row group `g`, lane `h`. -/
def own (c : Dev nD) (g b : ℕ) (hg : g < 4) (hb : b < 2) (h : Fin 4) : FVec F S256x512 .f32 :=
  part (rowsA (A c) (aOff g b) (aOff_inb hg hb)) (colsB (B c) h)

/-- The block that device `c` holds in slot `s` of the ring to the right, and of the ring to the left. -/
def SR : ℕ → Dev nD → Fin 4 → FVec F S256x512 .bf16
  | 0, c, h => nar (own A B c ((pp c + 3) % 4) 0 (Nat.mod_lt _ (by decide)) (by decide) h)
  | s + 1, c, h => addIn (SR s (mk (zz c) (pp c + 3)) h) (own A B c (gRdT c s) 0 (Nat.mod_lt _ (by decide)) (by decide) h)
def SL : ℕ → Dev nD → Fin 4 → FVec F S256x512 .bf16
  | 0, c, h => nar (own A B c ((pp c + 1) % 4) 1 (Nat.mod_lt _ (by decide)) (by decide) h)
  | s + 1, c, h => addIn (SL s (mk (zz c) (pp c + 1)) h) (own A B c (gRdB c s) 1 (Nat.mod_lt _ (by decide)) (by decide) h)

/-- The partial sums of device `c`'s row group over its row of the mesh. -/
def fZ (c : Dev nD) : CZ F := fun (i : S4x512x512.Idx) =>
  if (i 1).val < 256 then SR A B 3 c (i 0) (ixH (i 1).val (i 2).val) else SL A B 3 c (i 0) (ixH (i 1).val (i 2).val)

/-- Chunk `z` of them in lane `h`. -/
def zval (c : Dev nD) (h : Fin 4) (z : ℕ) (hz : z < 4) : FVec F S128x512 .bf16 :=
  (zc bZ (zOff h z) (zOff_inb h hz)).view.read (Elt F) (fZ A B c)

/-- The chunk of the result that device `c` finishes. -/
def OC (c : Dev nD) (h : Fin 4) : FVec F S128x512 .bf16 :=
  silu (sum4 (zval A B c h (zz c) (zz_lt c)) (zval A B (dst 2 0 c) h (zz c) (zz_lt c))
    (zval A B (dst 2 1 c) h (zz c) (zz_lt c)) (zval A B (dst 2 2 c) h (zz c) (zz_lt c)))

/-- The result. -/
def OUT : CO F := fun (i : S2048x2048.Idx) =>
  OC A B (mk ((i 0).val / 128) ((i 0).val / 512)) (⟨(i 1).val / 512, Nat.div_lt_of_lt_mul (i 1).isLt⟩) (ixC (i 0).val (i 1).val)

end Cert.KernelIdeal.Silu

end
-- ==== Proof.Sched.lean ====
/-
The protocol between the devices. A copy is named by its family `k`, lane `h` and number `s`
(`X`). Every semaphore is used once: the barrier of a device receives one unit from each of six
devices, each of which hands over the places in its own buffers that this device's copies go to;
the semaphore of a copy's sender hands the source back; that of its receiver hands over the landed
block, with its contents.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) (Fin 6)
abbrev UU : Type := UR sig nD τ × UB

/-- The assertions over the machine. -/
abbrev MM (F : FTy → Type) [FloatOps F] := MT nD τ sig Unit (Elt F) ℕ UU ℕ

local notation "𝕄" => MM F

abbrev EP : Emb (UR sig nD τ) (MT nD τ sig Unit (Elt F) ℕ UU ℕ) := embL
abbrev ER : Emb UB (MT nD τ sig Unit (Elt F) ℕ UU ℕ) := embR

/-! ### Copies and their semaphores -/

abbrev X : Type := Fin 6 × Fin 4 × Fin 3

/-- The device to which device `c` sends copy `x`, and the one from which `c` has it. -/
abbrev xdst (x : X) (c : Dev nD) : Dev nD := dst x.1 x.2.2 c
abbrev xsrc (x : X) (c : Dev nD) : Dev nD := src x.1 x.2.2 c

/-- The number, among the copies' semaphores, of the one that copy `x` credits on its sender (`true`)
    or on its receiver `c` (`false`). -/
def enc (c : Dev nD) (b : Bool) (x : X) : Fin 152 :=
  let h := x.2.1.val
  let s := x.2.2.val
  let z := (zz c + 3 - s) % 4
  match x.1, b with
  | 0, true => Fin.ofNat 152 (3 * h + s)
  | 1, true => Fin.ofNat 152 (24 + 3 * h + s)
  | 2, true => Fin.ofNat 152 (48 + 3 * h + s)
  | 3, true => Fin.ofNat 152 (76 + 3 * h + s)
  | 4, true => Fin.ofNat 152 (104 + 6 * h + s)
  | 5, true => Fin.ofNat 152 (104 + 6 * h + 3 + s)
  | 0, false => Fin.ofNat 152 (12 + 3 * h + s)
  | 1, false => Fin.ofNat 152 (36 + 3 * h + s)
  | 2, false => Fin.ofNat 152 (60 + 4 * h + z)
  | 3, false => Fin.ofNat 152 (88 + 4 * h + z)
  | 4, false => Fin.ofNat 152 (128 + 6 * h + s)
  | 5, false => Fin.ofNat 152 (128 + 6 * h + 3 + s)

/-- A table of three per lane, of six per lane, of four per lane. -/
def d3 (k : Fin 6) (b : Bool) (i : ℕ) : Option (Bool × X) := some (b, k, Fin.ofNat 4 (i / 3), Fin.ofNat 3 (i % 3))
def d6 (b : Bool) (i : ℕ) : Option (Bool × X) :=
  some (b, if i % 6 < 3 then 4 else 5, Fin.ofNat 4 (i / 6), Fin.ofNat 3 (i % 3))
def d4 (c : Dev nD) (k : Fin 6) (i : ℕ) : Option (Bool × X) :=
  if i % 4 = zz c then none else some (false, k, Fin.ofNat 4 (i / 4), Fin.ofNat 3 ((zz c + 3 - i % 4) % 4))

/-- The copy that a semaphore of device `c` is for. -/
def dec (c : Dev nD) (n : ℕ) : Option (Bool × X) :=
  if n < 12 then d3 0 true n
  else if n < 24 then d3 0 false (n - 12)
  else if n < 36 then d3 1 true (n - 24)
  else if n < 48 then d3 1 false (n - 36)
  else if n < 60 then d3 2 true (n - 48)
  else if n < 76 then d4 c 2 (n - 60)
  else if n < 88 then d3 3 true (n - 76)
  else if n < 104 then d4 c 3 (n - 88)
  else if n < 128 then d6 true (n - 104)
  else if n < 152 then d6 false (n - 128)
  else none

theorem dec_enc : ∀ c b x, dec c (enc c b x).val = some (b, x) := by decide +kernel

theorem enc_inj (c : Dev nD) : Function.Injective (fun e : Bool × X => enc c e.1 e.2) := fun e e' h => by
  have h1 := dec_enc c e.1 e.2
  have h2 := dec_enc c e'.1 e'.2
  rw [show enc c e.1 e.2 = enc c e'.1 e'.2 from h, h2] at h1
  exact (Option.some.inj h1).symm

/-- The semaphore numbered `i` among the copies'. -/
def osm (i : Fin 152) : DmaSem sig := ⟨3 + i.val, by have := i.isLt; show 3 + i.val < 155; omega⟩
/-- The semaphore of copy `x` on device `c`. -/
def xsem (c : Dev nD) (b : Bool) (x : X) : DmaSem sig := osm (enc c b x)

/-- The copy that DMA semaphore `σ` of device `c` is for. -/
def role (c : Dev nD) (σ : DmaSem sig) : Option (Bool × X) := if 3 ≤ σ.val then dec c (σ.val - 3) else none

theorem role_xsem (c : Dev nD) (b : Bool) (x : X) : role c (xsem c b x) = some (b, x) := by
  unfold role xsem osm
  rw [if_pos (Nat.le_add_right _ _)]
  show dec c (3 + (enc c b x).val - 3) = _
  rw [Nat.add_sub_cancel_left, dec_enc]

set_option maxRecDepth 100000

theorem s_send : ∀ c x, mS x.1 x.2.1 x.2.2 = xsem c true x := by decide +kernel
theorem s_recv0 : ∀ c h s, m12 cc0_scratch5 (i3 h s) = xsem (dst 0 s c) false (0, h, s) := by decide +kernel
theorem s_recv1 : ∀ c h s, m12 cc0_scratch7 (i3 h s) = xsem (dst 1 s c) false (1, h, s) := by decide +kernel
theorem s_recv4 : ∀ c h s, m24 cc0_scratch13 (i6 h 0 s) = xsem (dst 4 s c) false (4, h, s) := by decide +kernel
theorem s_recv5 : ∀ c h s, m24 cc0_scratch13 (i6 h 1 s) = xsem (dst 5 s c) false (5, h, s) := by decide +kernel
theorem s_recv2 : ∀ c h s, m16 cc0_scratch9 ((geo c).mOwn h) ((geo c).mOwn_inb h) = xsem (dst 2 s c) false (2, h, s) := by decide +kernel
theorem s_recv3 : ∀ c h s, m16 cc0_scratch11 ((geo c).mOwn h) ((geo c).mOwn_inb h) = xsem (dst 3 s c) false (3, h, s) := by decide +kernel
theorem w_recv0 : ∀ c h s, m12 cc0_scratch5 (i3 h s) = xsem c false (0, h, s) := by decide +kernel
theorem w_recv1 : ∀ c h s, m12 cc0_scratch7 (i3 h s) = xsem c false (1, h, s) := by decide +kernel
theorem w_recv4 : ∀ c h s, m24 cc0_scratch13 (i6 h 0 s) = xsem c false (4, h, s) := by decide +kernel
theorem w_recv5 : ∀ c h s, m24 cc0_scratch13 (i6 h 1 s) = xsem c false (5, h, s) := by decide +kernel
theorem w_recv2 : ∀ c h s, m16 cc0_scratch9 ((geo c).mPeer h s) ((geo c).mPeer_inb h s) = xsem c false (2, h, 2 - s) := by decide +kernel
theorem w_recv3 : ∀ c h s, m16 cc0_scratch11 ((geo c).mPeer h s) ((geo c).mPeer_inb h s) = xsem c false (3, h, 2 - s) := by decide +kernel

/-! ### The order of the copies -/

/-- The copies started by step `n` of a lane. -/
def sends (n : ℕ) : List (Fin 6 × Fin 3) :=
  match n with
  | 1 => [(0, 0), (1, 0)]
  | 3 => [(0, 1), (1, 1)]
  | 5 => [(0, 2), (1, 2)]
  | 7 => [(2, 0), (2, 1), (2, 2)]
  | 9 => [(3, 0), (3, 1), (3, 2)]
  | 11 => [(4, 0), (5, 0)]
  | 13 => [(4, 1), (5, 1)]
  | 15 => [(4, 2), (5, 2)]
  | _ => []

/-- The copies of a device in the order in which it starts them. -/
def order : List X := sched.flatMap fun a => (sends a.2).map fun y => (y.1, a.1, y.2)

/-- The place of a copy in that order. -/
def rank (x : X) : ℕ := order.idxOf x

/-- The barrier signal with which the receiver of copy `x` hands over the place it lands in. -/
def cls (x : X) : Fin 6 :=
  match x.1 with
  | 0 => 0
  | 4 => 0
  | 1 => 1
  | 5 => 1
  | _ => Fin.ofNat 6 (5 - x.2.2.val)

theorem barTo_cls : ∀ x c, barTo (cls x) (xdst x c) = c := by decide +kernel
theorem cls_dst : ∀ x c, xdst x (barTo (cls x) c) = c := by decide +kernel

/-- The credit of copy `x`. -/
def nX (x : X) : ℕ :=
  if x.1 = 2 ∨ x.1 = 3 then RefSig.tileCredit S128x512 .bf16 else RefSig.tileCredit S256x512 .bf16

theorem credit_eq {t : Shape} (v : View sig .tc .vmem t .bf16) : v.dmaCredit = RefSig.tileCredit t .bf16 := rfl

theorem nX_pos (x : X) : 0 < nX x := by
  unfold nX; split
  · exact (by decide : 0 < RefSig.tileCredit S128x512 .bf16)
  · exact (by decide : 0 < RefSig.tileCredit S256x512 .bf16)

/-! ### What a semaphore hands over -/

/-- Share `q` of the places of a memref on device `c`, which reads `v`. -/
def hold {t : Shape} (c : Dev nD) (M : Memref sig .tc .vmem t .bf16) (q : PosShare TreeShare) (v : FVec F t .bf16) : sProp 𝕄 :=
  iprop(∃ f : Buf (Elt F) (M.view.loc (c : Thread nD τ)), ⌜M.view.read (Elt F) f = v⌝ ∗ (M.view.loc (c : Thread nD τ) ↦[M.view.set]{q} f))
/-- The places of a memref on device `c`, whatever they hold. -/
def holdAny {t : Shape} (c : Dev nD) (M : Memref sig .tc .vmem t .bf16) : sProp 𝕄 :=
  iprop(∃ f : Buf (Elt F) (M.view.loc (c : Thread nD τ)), (M.view.loc (c : Thread nD τ) ↦[M.view.set]{fullShare} f))

instance hold_storable {t : Shape} (c : Dev nD) (M : Memref sig .tc .vmem t .bf16) (q : PosShare TreeShare) (v : FVec F t .bf16) :
    BI.Storable (upEmb : UEmb _ 𝕄) (hold c M q v) := by unfold hold; infer_instance
omit [FloatOps F] in
instance holdAny_storable [FloatOps F] {t : Shape} (c : Dev nD) (M : Memref sig .tc .vmem t .bf16) :
    BI.Storable (upEmb : UEmb _ 𝕄) (holdAny (F := F) c M) := by unfold holdAny; infer_instance

/-- The row from which copy `s` of a column exchange comes. -/
def zin (c : Dev nD) (s : Fin 3) : ℕ := (zz c + 3 - s.val) % 4
theorem zin_lt (c : Dev nD) (s : Fin 3) : zin c s < 4 := Nat.mod_lt _ (by decide)
theorem ocIn_inb (c : Dev nD) (h : Fin 4) (s : Fin 3) :
    ∀ a, oOff (512 * pp c + 128 * zin c s) h a + S128x512.size a ≤ S2048x2048.size a :=
  oOff_inb128 h (by have := pp_lt c; have := zin_lt c s; omega)

/-- The chunk in which copy `s` of the exchange of finished chunks lands. -/
abbrev ocIn (c : Dev nD) (h : Fin 4) (s : Fin 3) : Memref sig .tc .vmem S128x512 .bf16 :=
  oc (oOff (512 * pp c + 128 * zin c s) h) (ocIn_inb c h s)
abbrev zcIn (c : Dev nD) (h : Fin 4) (s : Fin 3) : Memref sig .tc .vmem S128x512 .bf16 :=
  zc bX (zOff h (zin c s)) (zOff_inb h (zin_lt c s))

/-- The place on device `e` in which copy `x` lands. -/
def landAny (x : X) (e : Dev nD) : sProp 𝕄 :=
  match x with
  | (0, h, s) => holdAny e (slot bR h s.succ)
  | (1, h, s) => holdAny e (slot bL h s.succ)
  | (2, h, s) => holdAny e (zcIn e h s)
  | (3, h, s) => holdAny e (ocIn e h s)
  | (4, h, s) => holdAny e (oh ((geo e).gTR h s) ((geo e).gTR_inb h s))
  | (5, h, s) => holdAny e (oh ((geo e).gBR h s) ((geo e).gBR_inb h s))

/-- The parts in which a device lends its finished chunk to the three copies of it, and keeps it. -/
def q3 (s : Fin 3) : PosShare TreeShare :=
  match s with
  | 0 => fullShare.left.left
  | 1 => fullShare.left.right.left
  | 2 => fullShare.left.right.right
def q4 (s : Fin 3) : PosShare TreeShare := if s = 0 then fullShare.right else fullShare

variable (A : Dev nD → CA F) (B : Dev nD → CB F)

/-- What is read of the result through a memref. -/
abbrev oRead {t : Shape} (M : Memref sig .tc .vmem t .bf16) (f : Buf (Elt F) (M.view.loc ((0 : Dev nD) : Thread nD τ))) : FVec F t .bf16 :=
  M.view.read (Elt F) f
abbrev ocV (o : Fin 2 → ℕ) (ho : ∀ a, o a + S128x512.size a ≤ S2048x2048.size a) : FVec F S128x512 .bf16 :=
  (oc o ho).view.read (Elt F) (OUT A B)
abbrev ohV (o : Fin 2 → ℕ) (ho : ∀ a, o a + S256x512.size a ≤ S2048x2048.size a) : FVec F S256x512 .bf16 :=
  (oh o ho).view.read (Elt F) (OUT A B)

/-- The place in which copy `x` lands on device `e`, with the copy landed. -/
def landed (x : X) (e : Dev nD) : sProp 𝕄 :=
  match x with
  | (0, h, s) => hold e (slot bR h s.succ) fullShare (SR A B s.val (mk (zz e) (pp e + 3)) h)
  | (1, h, s) => hold e (slot bL h s.succ) fullShare (SL A B s.val (mk (zz e) (pp e + 1)) h)
  | (2, h, s) => hold e (zcIn e h s) fullShare (zval A B (src 2 s e) h (zz e) (zz_lt e))
  | (3, h, s) => hold e (ocIn e h s) fullShare (ocV A B _ (ocIn_inb e h s))
  | (4, h, s) => hold e (oh ((geo e).gTR h s) ((geo e).gTR_inb h s)) fullShare (ohV A B _ ((geo e).gTR_inb h s))
  | (5, h, s) => hold e (oh ((geo e).gBR h s) ((geo e).gBR_inb h s)) fullShare (ohV A B _ ((geo e).gBR_inb h s))

/-- What copy `x` reads on its sender `c`. -/
def lent (x : X) (c : Dev nD) : sProp 𝕄 :=
  match x with
  | (0, h, s) => hold c (slot bR h s.castSucc) fullShare (SR A B s.val c h)
  | (1, h, s) => hold c (slot bL h s.castSucc) fullShare (SL A B s.val c h)
  | (2, h, s) => hold c (zc bZ ((geo c).zChunk h s) ((geo c).zChunk_inb h s)) fullShare
      (zval A B c h (zPeer c s.val) (Nat.mod_lt _ (by decide)))
  | (3, h, s) => hold c (oc ((geo c).oMy h) ((geo c).oMy_inb h)) (q3 s) (ocV A B _ ((geo c).oMy_inb h))
  | (4, h, s) => hold c (oh ((geo c).gTS h s) ((geo c).gTS_inb h s)) (q4 s) (ohV A B _ ((geo c).gTS_inb h s))
  | (5, h, s) => hold c (oh ((geo c).gBS h s) ((geo c).gBS_inb h s)) (q4 s) (ohV A B _ ((geo c).gBS_inb h s))

instance landAny_storable (x : X) (e : Dev nD) : BI.Storable (upEmb : UEmb _ 𝕄) (landAny (F := F) x e) := by
  obtain ⟨k, h, s⟩ := x
  fin_cases k <;> (show BI.Storable _ (holdAny _ _); infer_instance)
instance landed_storable (x : X) (e : Dev nD) : BI.Storable (upEmb : UEmb _ 𝕄) (landed A B x e) := by
  obtain ⟨k, h, s⟩ := x
  fin_cases k <;> (show BI.Storable _ (hold _ _ _ _); infer_instance)
instance lent_storable (x : X) (e : Dev nD) : BI.Storable (upEmb : UEmb _ 𝕄) (lent A B x e) := by
  obtain ⟨k, h, s⟩ := x
  fin_cases k <;> (show BI.Storable _ (hold _ _ _ _); infer_instance)

/-- What the signal `j` of the barrier hands device `d`. -/
def barPay (d : Dev nD) (j : Fin 6) : sProp 𝕄 :=
  bigSep (Finset.univ.filter fun x : X => cls x = j) fun x => landAny x (xdst x d)

def semPay (d : Dev nD) (r : Option (Bool × X)) : sProp 𝕄 :=
  match r with
  | some (true, x) => lent A B x d
  | some (false, x) => landed A B x d
  | none => iprop(emp)

/-- The protocol. -/
def Rd : Rounds.Schedule (GSem nD τ sig) (Fin 6) 𝕄 where
  duties g r := if r = 0 then (match g.2 with
    | .reg _ => Finset.univ
    | .dma σ => if (role g.1.1 σ).isSome then {0} else ∅) else ∅
  unitless _ := False
  amount g _ _ := match g.2 with
    | .reg _ => 1
    | .dma σ => match role g.1.1 σ with
      | some e => nX e.2
      | none => 1
  payload g _ j := match g.2 with
    | .reg _ => barPay g.1.1 j
    | .dma σ => semPay A B g.1.1 (role g.1.1 σ)
  amount_pos g _ _ _ := by
    rcases g with ⟨t, s | σ⟩
    · exact Nat.one_pos
    · show 0 < (match role t.1 σ with | some e => nX e.2 | none => 1)
      split
      · exact nX_pos _
      · exact Nat.one_pos

instance barPay_storable (d : Dev nD) (j : Fin 6) : BI.Storable (upEmb : UEmb _ 𝕄) (barPay (F := F) d j) := by
  unfold barPay; infer_instance
instance semPay_storable (d : Dev nD) (r : Option (Bool × X)) : BI.Storable (upEmb : UEmb _ 𝕄) (semPay A B d r) := by
  unfold semPay; split <;> infer_instance
instance Rd_storable (g : GSem nD τ sig) (r : ℕ) (j : Fin 6) : BI.Storable (upEmb : UEmb _ 𝕄) ((Rd A B).payload g r j) := by
  rcases g with ⟨t, s | σ⟩
  · exact barPay_storable t.1 j
  · exact semPay_storable A B t.1 _

/-- The cell of the barrier of device `c`, and of copy `x`'s semaphore on it. -/
abbrev barCell (c : Dev nD) : GSem nD τ sig := ((c : Thread nD τ), .reg barSem)
abbrev xcell (c : Dev nD) (b : Bool) (x : X) : GSem nD τ sig := ((c : Thread nD τ), .dma (xsem c b x))

theorem duties_bar (c : Dev nD) : (Rd A B).duties (barCell c) 0 = Finset.univ := rfl
theorem duties_x (c : Dev nD) (b : Bool) (x : X) : (Rd A B).duties (xcell c b x) 0 = {0} := by
  show (if (role c (xsem c b x)).isSome then ({0} : Finset (Fin 6)) else ∅) = {0}
  rw [role_xsem]; rfl
theorem duties_later (g : GSem nD τ sig) : ∀ r, 1 ≤ r → (Rd A B).duties g r = ∅ := fun r hr => if_neg (by omega)
theorem amount_x (c : Dev nD) (b : Bool) (x : X) (j : Fin 6) : (Rd A B).amount (xcell c b x) 0 j = nX x := by
  show (match role c (xsem c b x) with | some e => nX e.2 | none => 1) = nX x
  rw [role_xsem]
theorem expect_bar (c : Dev nD) : (Rd A B).expect (barCell c) 0 = 6 := rfl
theorem expect_x (c : Dev nD) (b : Bool) (x : X) : (Rd A B).expect (xcell c b x) 0 = nX x := by
  unfold Schedule.expect Schedule.amountOf
  rw [duties_x, Finset.sum_singleton, amount_x]
theorem payload_bar (c : Dev nD) (j : Fin 6) : (Rd A B).payload (barCell c) 0 j = barPay c j := rfl
theorem payload_send (c : Dev nD) (x : X) (j : Fin 6) : (Rd A B).payload (xcell c true x) 0 j = lent A B x c := by
  show semPay A B c (role c (xsem c true x)) = _
  rw [role_xsem]; rfl
theorem payload_recv (c : Dev nD) (x : X) (j : Fin 6) : (Rd A B).payload (xcell c false x) 0 j = landed A B x c := by
  show semPay A B c (role c (xsem c false x)) = _
  rw [role_xsem]; rfl
theorem rest_send (c : Dev nD) (x : X) :
    bigSep ((Rd A B).duties (xcell c true x) 0 \ ∅) (fun d => (Rd A B).payload (xcell c true x) 0 d) = lent A B x c := by
  rw [Finset.sdiff_empty, duties_x, bigSep_singleton, payload_send]
theorem rest_recv (c : Dev nD) (x : X) :
    bigSep ((Rd A B).duties (xcell c false x) 0 \ ∅) (fun d => (Rd A B).payload (xcell c false x) 0 d) = landed A B x c := by
  rw [Finset.sdiff_empty, duties_x, bigSep_singleton, payload_recv]
/-- The barrier's wait hands over the places that all the copies of device `c` go to. -/
theorem rest_bar (c : Dev nD) :
    bigSep ((Rd A B).duties (barCell c) 0 \ ∅) (fun d => (Rd A B).payload (barCell c) 0 d)
      = bigSep Finset.univ fun x : X => landAny (F := F) x (xdst x c) := by
  rw [Finset.sdiff_empty, duties_bar]
  have hU : (Finset.univ : Finset X) = Finset.univ.biUnion fun j => Finset.univ.filter fun x : X => cls x = j := by ext x; simp
  conv_rhs => rw [hU]
  rw [bigSep_biUnion_eq]
  · rfl
  · intro i _ j _ hij
    exact Finset.disjoint_left.mpr fun x hx hy => hij ((Finset.mem_filter.mp hx).2.symm.trans (Finset.mem_filter.mp hy).2)

/-! ### What a device owes -/

/-- What device `c` owes for the copies from the `i`-th on. -/
def owe (c : Dev nD) (i : ℕ) : CellTallies nD τ sig Unit :=
  ∑ x ∈ Finset.univ.filter (fun x : X => i ≤ rank x), tallyAt (xcell (xdst x c) false x) () (nX x)

/-- What it owes before it has signalled the barrier of the `j`-th device and those after it. -/
def oweBar (c : Dev nD) (j : ℕ) : CellTallies nD τ sig Unit :=
  owe c 0 + ∑ k ∈ Finset.univ.filter (fun k : Fin 6 => j ≤ k.val), tallyAt (barCell (barTo k c)) () 1

def L (g : GSem nD τ sig) : Finset Unit := if g.1.2 = .tc then {()} else ∅
/-- Senders' and staging semaphores at 0, barriers at 1, receivers' semaphores above, in the order of the copies. -/
def lv (g : GSem nD τ sig) (_ : Unit) : ℕ :=
  match g.2 with
  | .reg _ => 1
  | .dma σ => match role g.1.1 σ with
    | some (false, x) => 2 + rank x
    | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_send (c : Dev nD) (x : X) : lv (xcell c true x) () = 0 := by
  show (match role c (xsem c true x) with | some (false, x) => 2 + rank x | _ => 0) = 0
  rw [role_xsem]
theorem lv_recv (c : Dev nD) (x : X) : lv (xcell c false x) () = 2 + rank x := by
  show (match role c (xsem c false x) with | some (false, x) => 2 + rank x | _ => 0) = _
  rw [role_xsem]

theorem rank_lt : ∀ x, rank x < 72 := by decide +kernel
theorem rank_inj : Function.Injective rank := by
  intro x y h
  have hx : ∀ x, x ∈ order := by decide +kernel
  exact (List.idxOf_inj (hx x)).mp h

theorem owe_top (c : Dev nD) : owe c 72 = 0 := by
  unfold owe
  rw [Finset.filter_false_of_mem fun x _ => by have := rank_lt x; omega]
  rfl

/-- Starting copy `x`, the next in the order, pays what is owed for it. -/
theorem owe_step (c : Dev nD) (x : X) (i : ℕ) (h : rank x = i) :
    owe c i = owe c (i + 1) + tallyAt (xcell (xdst x c) false x) () (nX x) := by
  unfold owe
  have e : Finset.univ.filter (fun y : X => i ≤ rank y) = insert x (Finset.univ.filter fun y : X => i + 1 ≤ rank y) := by
    ext y
    simp only [Finset.mem_filter, Finset.mem_univ, true_and, Finset.mem_insert]
    constructor
    · intro hy
      by_cases hxy : rank y = i
      · exact .inl (rank_inj (hxy.trans h.symm))
      · exact .inr (by omega)
    · rintro (rfl | hy)
      · exact h.ge
      · omega
  rw [e, Finset.sum_insert (by simp only [Finset.mem_filter, Finset.mem_univ, true_and]; omega), add_comm]

theorem oweBar_step (c : Dev nD) (k : Fin 6) :
    oweBar c k.val = oweBar c (k.val + 1) + tallyAt (barCell (barTo k c)) () 1 := by
  unfold oweBar
  have e : Finset.univ.filter (fun y : Fin 6 => k.val ≤ y.val) = insert k (Finset.univ.filter fun y : Fin 6 => k.val + 1 ≤ y.val) := by
    ext y
    simp only [Finset.mem_filter, Finset.mem_univ, true_and, Finset.mem_insert, Fin.ext_iff]
    omega
  rw [e, Finset.sum_insert (by simp only [Finset.mem_filter, Finset.mem_univ, true_and]; omega), add_assoc,
    add_comm (tallyAt _ _ _)]

theorem oweBar_top (c : Dev nD) : oweBar c 6 = owe c 0 := by
  unfold oweBar
  rw [Finset.filter_false_of_mem fun x _ => by have := x.isLt; omega, Finset.sum_empty, add_zero]

theorem owe_pos {c : Dev nD} {i : ℕ} {g : GSem nD τ sig} {u : Unit} (h : 0 < owe c i g u) :
    ∃ x, i ≤ rank x ∧ g = xcell (xdst x c) false x := by
  unfold owe at h
  rw [Finset.sum_apply, Finsupp.finset_sum_apply] at h
  obtain ⟨x, hx, hp⟩ := Finset.exists_ne_zero_of_sum_ne_zero (Nat.pos_iff_ne_zero.mp h)
  refine ⟨x, (Finset.mem_filter.mp hx).2, ?_⟩
  rw [tallyAt_apply] at hp
  by_contra hn
  exact hp (if_neg fun h' => hn h'.1)

theorem oweBar_pos {c : Dev nD} {j : ℕ} {g : GSem nD τ sig} {u : Unit} (h : 0 < oweBar c j g u) :
    (∃ x, g = xcell (xdst x c) false x) ∨ ∃ d, g = barCell d := by
  unfold oweBar at h
  rw [Pi.add_apply, Finsupp.add_apply] at h
  rcases Nat.eq_zero_or_pos (owe c 0 g u) with h0 | h0
  · rw [h0, Nat.zero_add, Finset.sum_apply, Finsupp.finset_sum_apply] at h
    obtain ⟨x, hx, hp⟩ := Finset.exists_ne_zero_of_sum_ne_zero (Nat.pos_iff_ne_zero.mp h)
    refine .inr ⟨barTo x c, ?_⟩
    rw [tallyAt_apply] at hp
    by_contra hn
    exact hp (if_neg fun h' => hn h'.1)
  · obtain ⟨x, -, hx⟩ := owe_pos h0
    exact .inl ⟨x, hx⟩

/-- A device that owes the copies from the `i`-th on may wait at a level below theirs. -/
theorem mayWait_owe (c : Dev nD) (sm : SemLoc sig) (i : ℕ) (h : lv ((c : Thread nD τ), sm) () < 2 + i) :
    (levAts L lv : sProp 𝕄) ⊢ MayWait (c : Thread nD τ) sm () (owe c i) :=
  MayOwe.of_cut (L := L) (lev := lv) (1 + i) (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; show lv ((c : Thread nD τ), sm) () ≤ _; omega)
    (fun g u hg => by obtain ⟨x, hx, rfl⟩ := owe_pos hg; rw [lv_recv]; omega)

/-- A wait at level 0 is open to a device that owes anything at all of the protocol. -/
theorem mayWait_bar (c : Dev nD) (sm : SemLoc sig) (j : ℕ) (h : lv ((c : Thread nD τ), sm) () = 0) :
    (levAts L lv : sProp 𝕄) ⊢ MayWait (c : Thread nD τ) sm () (oweBar c j) :=
  MayOwe.of_cut (L := L) (lev := lv) 0 (fun p hp => by rw [Finset.mem_singleton.mp hp, L_tc]; exact Finset.mem_singleton_self _)
    (fun g u hg => by
      obtain ⟨x, rfl⟩ | ⟨d, rfl⟩ := oweBar_pos hg <;> (rw [L_tc]; exact Finset.mem_singleton_self _))
    (fun p hp => by rw [Finset.mem_singleton.mp hp]; show lv ((c : Thread nD τ), sm) () ≤ _; omega)
    (fun g u hg => by
      obtain ⟨x, rfl⟩ | ⟨d, rfl⟩ := oweBar_pos hg
      · rw [lv_recv]; omega
      · exact Nat.one_pos)

end Cert.KernelIdeal.Silu

end
-- ==== Proof.Ops.lean ====
/-
The kernel's operations on one device, each as a rule on the protocol's resources: starting a copy,
waiting for one, and the loads and stores.
-/
module

public import proofs.«01_k».proof.Proof.Sched

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MM F

abbrev 𝒱₀ : Variants := Variants.none

/-- The weakest precondition of a program of device `c`. -/
abbrev wpc {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

variable (A : Dev nD → CA F) (B : Dev nD → CB F)

/-! ### Cells and their invariants -/

/-- The cells of the protocol on a device: the barrier, and the copies' semaphores. -/
abbrev kcell (ck : Dev nD × Option (Fin 152)) : GSem nD τ sig :=
  match ck.2 with
  | none => barCell ck.1
  | some i => ((ck.1 : Thread nD τ), .dma (osm i))

/-- The invariants of all cells, under the names `K`, and that each is at round 0. -/
def records (K : Dev nD × Option (Fin 152) → ℕ) : sProp 𝕄 :=
  iprop((bigSep Finset.univ fun ck : Dev nD × Option (Fin 152) => cellInv ER (Rd A B) (K ck) (kcell ck))
    ∗ bigSep Finset.univ fun ck : Dev nD × Option (Fin 152) => reached ER (kcell ck) 0)

instance records_persistent (K : Dev nD × Option (Fin 152) → ℕ) : BI.Persistent (records A B K) := by unfold records; infer_instance

theorem inv_at' (K : Dev nD × Option (Fin 152) → ℕ) (ck : Dev nD × Option (Fin 152)) :
    (bigSep Finset.univ fun ck : Dev nD × Option (Fin 152) => (cellInv ER (Rd A B) (K ck) (kcell ck) : sProp 𝕄))
      ⊢ cellInv ER (Rd A B) (K ck) (kcell ck) :=
  bigSep_elim (Finset.mem_univ ck)
theorem reached_at' (ck : Dev nD × Option (Fin 152)) :
    (bigSep Finset.univ fun ck : Dev nD × Option (Fin 152) => (reached ER (kcell ck) 0 : sProp 𝕄)) ⊢ reached ER (kcell ck) 0 :=
  bigSep_elim (Finset.mem_univ ck)
theorem inv_at (K : Dev nD × Option (Fin 152) → ℕ) (ck : Dev nD × Option (Fin 152)) :
    records A B K ⊢ cellInv ER (Rd A B) (K ck) (kcell ck) := by
  unfold records
  iintro ⟨#H, -⟩
  iapply (inv_at' A B K ck); iexact H
theorem reached_at (K : Dev nD × Option (Fin 152) → ℕ) (ck : Dev nD × Option (Fin 152)) :
    records A B K ⊢ reached ER (kcell ck) 0 := by
  unfold records
  iintro ⟨-, #H⟩
  iapply (reached_at' (F := F) ck); iexact H

/-- What every step may use: the invariants and the levels. -/
def Ctx (K : Dev nD × Option (Fin 152) → ℕ) : sProp 𝕄 := iprop(records A B K ∗ levAts L lv)

instance Ctx_persistent (K : Dev nD × Option (Fin 152) → ℕ) : BI.Persistent (Ctx A B K) := by unfold Ctx; infer_instance

/-! ### Resources of the copies -/

/-- To start copy `x`. -/
def Snd (x : X) (c : Dev nD) : sProp 𝕄 :=
  iprop(dutyTok ER (xcell c true x) 0 0 ∗ dutyTok ER (xcell (xdst x c) false x) 0 0 ∗ landAny x (xdst x c)
    ∗ atPos ER (xcell c true x) 0 ∅ 0)
/-- To wait until copy `x` has been read. -/
def Sent (x : X) (c : Dev nD) : sProp 𝕄 :=
  iprop(cred (tallyAt (xcell c true x) () (nX x)) ∗ atPos ER (xcell c true x) 0 ∅ 0)
/-- To wait until copy `x` has come. -/
def Rcv (x : X) (c : Dev nD) : sProp 𝕄 :=
  iprop(cred (tallyAt (xcell c false x) () (nX x)) ∗ atPos ER (xcell c false x) 0 ∅ 0)
/-- A semaphore done with. -/
def Done (b : Bool) (x : X) (c : Dev nD) : sProp 𝕄 := semVal (xcell c b x) 0

/-- What device `c` owes, the copies before the `i`-th started. -/
def Ow (c : Dev nD) (i : ℕ) : sProp 𝕄 := iprop(∃ W, owes (c : Thread nD τ) (owe c i) W)

variable (K : Dev nD × Option (Fin 152) → ℕ)

theorem hold_congr {t : Shape} {c : Dev nD} {M M' : Memref sig .tc .vmem t .bf16} {q : PosShare TreeShare} {v v' : FVec F t .bf16}
    (h : M = M') (hv : v = v') : hold c M q v = hold c M' q v' := by rw [h, hv]

theorem hold_any {t : Shape} (c : Dev nD) (M : Memref sig .tc .vmem t .bf16) (v : FVec F t .bf16) :
    hold c M fullShare v ⊢ holdAny c M := by
  unfold hold holdAny
  iintro ⟨%f, -, H⟩
  iexists f; iexact H

/-- Starting copy `x`. -/
theorem wp_xsend {α : Type} {t : Shape} (c : Dev nD) (x : X) (a b : Memref sig .tc .vmem t .bf16) (q : PosShare TreeShare)
    (v : FVec F t .bf16) (d : Dev nD) (s r : DmaSem sig) (ha : a.view.WordExact) (hb : b.view.WordExact)
    (htyp) (hd : d = xdst x c) (hs : s = xsem c true x) (hr : r = xsem (xdst x c) false x)
    (hl : lent A B x c = hold c a q v) (hany : landAny (F := F) x (xdst x c) = holdAny (xdst x c) b)
    (hL : landed A B x (xdst x c) = hold (xdst x c) b fullShare v) (hN : RefSig.tileCredit t .bf16 = nX x)
    (i : ℕ) (hi : rank x = i) {Q : α → sProp 𝕄} {k : PUnit → Prog (TpuEff nD τ sig (Elt F) Λ₀ .tc) α} :
    iprop(Ctx A B K ∗ Snd x c ∗ lent A B x c ∗ Ow c i)
      ⊢ iprop(((Sent x c ∗ Ow c (i + 1)) -∗ wpc c (k ⟨⟩) Q)
          -∗ wpc c (.op (.enqueueDma a (.remote (Dev.tc d) b (.dma s)) (.dma r) ha hb htyp) k) Q) := by
  subst hs hr hd
  have hcr : b.view.dmaCredit = nX x := (credit_eq b.view).trans hN
  unfold Snd Ow Ctx
  rw [hl, hany]
  unfold hold holdAny
  iintro ⟨⟨#HR, #Hlev⟩, ⟨Ht1, Ht2, ⟨%g, Hg⟩, Hat⟩, ⟨%f, %hf, Hf⟩, ⟨%W, HO⟩⟩ Hk
  iapply (Rounds.wp_send_pointsTo 𝒱₀ ER (Rd A B) (c : Thread nD τ) none (sS := .dma (xsem c true x))
    (sem := .dma (xsem (xdst x c) false x)) (κ₁ := K (c, some (enc c true x)))
    (κ₂ := K (xdst x c, some (enc (xdst x c) false x))) (r₁ := 0) (r₂ := 0) (d₁ := 0) (d₂ := 0) (fs := f) (fd := g) (q := q)
    (by rw [duties_x]; exact Finset.mem_singleton_self _) (by rw [duties_x]; exact Finset.mem_singleton_self _)
    () () (nX x) hcr (amount_x A B c true x 0) (amount_x A B (xdst x c) false x 0) (owe c (i + 1)) (owe_step c x i hi) (W := W)
    (by
      rw [payload_send, hl]; unfold hold
      iintro H; iexists f; isplitr; · (ipureintro; exact hf)
      iexact H)
    (by
      rw [payload_recv, hL]; unfold hold
      iintro H; iexists _; isplitr
      · ipureintro; exact (View.read_write_univ (v := b.view) g _).trans hf
      iexact H)) $$ [Hf Hg HO Ht1 Ht2]
  · isplitr; · iapply (inv_at A B K (c, some (enc c true x))); iexact HR
    isplitr; · iapply (inv_at A B K (xdst x c, some (enc (xdst x c) false x))); iexact HR
    isplitl [Hf]; · iexact Hf
    isplitl [Hg]; · iexact Hg
    isplitl [HO]; · iexact HO
    isplitl [Ht1]; · iexact Ht1
    isplitr; · iapply (reached_at A B K (c, some (enc c true x))); iexact HR
    isplitl [Ht2]; · iexact Ht2
    iapply (reached_at A B K (xdst x c, some (enc (xdst x c) false x))); iexact HR
  iintro ⟨Hc, HO⟩
  iapply Hk
  unfold Sent
  isplitl [Hc Hat]
  · isplitl [Hc] <;> iassumption
  iexists W; iexact HO

/-- Waiting for a semaphore of a copy, which is done with after it. -/
theorem wp_xwait {α : Type} {t u : Shape} (c : Dev nD) (bb : Bool) (x : X) (s : DmaSem sig) (a : Memref sig .tc .vmem t .bf16)
    (b : Memref sig .tc .vmem u .bf16) (ha : a.view.WordExact) (hb : b.view.WordExact)
    (hs : s = xsem c bb x) (hN : RefSig.tileCredit u .bf16 = nX x) (i : ℕ) (hi : lv (xcell c bb x) () < 2 + i)
    {P : sProp 𝕄} (hP : bigSep ((Rd A B).duties (xcell c bb x) 0 \ ∅) (fun d => (Rd A B).payload (xcell c bb x) 0 d) = P)
    {Q : α → sProp 𝕄} {k : PUnit → Prog (TpuEff nD τ sig (Elt F) Λ₀ .tc) α} :
    iprop(Ctx A B K ∗ (cred (tallyAt (xcell c bb x) () (nX x)) ∗ atPos ER (xcell c bb x) 0 ∅ 0) ∗ Ow c i)
      ⊢ iprop(((Done bb x c ∗ P ∗ Ow c i) -∗ wpc c (k ⟨⟩) Q) -∗ wpc c (.op (.waitDma2 s a b ha hb) k) Q) := by
  subst hs hP
  have hcr : b.view.dmaCredit = nX x := (credit_eq b.view).trans hN
  unfold Ctx Ow
  iintro ⟨⟨#HR, #Hlev⟩, ⟨Hc, Hat⟩, ⟨%W, HO⟩⟩ Hk
  iapply (Rounds.wp_wait_rest_token 𝒱₀ ER (Rd A B) (c : Thread nD τ) none (κ := K (c, some (enc c bb x))) (sm := .dma (xsem c bb x))
      (k' := nX x) (fun K' => (wpE_waitDma2_eq 𝒱₀ (c : Thread nD τ) none Set.univ K').trans (by rw [hcr])) (Set.mem_univ _) ()
      (O := owe c i) (W := W) (R := 0) (m := 0) (T := ∅)
      (by rw [Nat.zero_add]; exact (expect_x A B c bb x).symm)) $$ [Hc HO Hat]
  · isplitr; · iapply (inv_at A B K (c, some (enc c bb x))); iexact HR
    isplitl [Hc]; · iexact Hc
    isplitl [HO]; · iexact HO
    isplitr; · iapply (mayWait_owe c (.dma (xsem c bb x)) i hi); iexact Hlev
    iexact Hat
  iintro ⟨HO, Hat, -, Hpay⟩
  imod (Rounds.cell_close ER (Rd A B) (g := xcell c bb x) (Set.mem_univ (K (c, some (enc c bb x)))) (fun h => h) (R := 0 + 1)
    (duties_later A B _)) $$ [Hat] with Hz
  · isplitr; · iapply (inv_at A B K (c, some (enc c bb x))); iexact HR
    iexact Hat
  iapply Hk
  unfold Done
  isplitl [Hz]; · iexact Hz
  isplitl [Hpay]; · iexact Hpay
  iexists _; iexact HO

/-- Waiting until copy `x` has been read: its source is back. -/
theorem wp_xsent {α : Type} {t u : Shape} (c : Dev nD) (x : X) (s : DmaSem sig) (a : Memref sig .tc .vmem t .bf16)
    (b : Memref sig .tc .vmem u .bf16) (ha : a.view.WordExact) (hb : b.view.WordExact)
    (hs : s = xsem c true x) (hN : RefSig.tileCredit u .bf16 = nX x) (i : ℕ)
    {Q : α → sProp 𝕄} {k : PUnit → Prog (TpuEff nD τ sig (Elt F) Λ₀ .tc) α} :
    iprop(Ctx A B K ∗ Sent x c ∗ Ow c i)
      ⊢ iprop(((Done true x c ∗ lent A B x c ∗ Ow c i) -∗ wpc c (k ⟨⟩) Q) -∗ wpc c (.op (.waitDma2 s a b ha hb) k) Q) :=
  wp_xwait A B K c true x s a b ha hb hs hN i (by rw [lv_send]; omega) (rest_send A B c x)

/-- Waiting until copy `x` has come, everything before it in the order started. -/
theorem wp_xrcvd {α : Type} {t u : Shape} (c : Dev nD) (x : X) (s : DmaSem sig) (a : Memref sig .tc .vmem t .bf16)
    (b : Memref sig .tc .vmem u .bf16) (ha : a.view.WordExact) (hb : b.view.WordExact)
    (hs : s = xsem c false x) (hN : RefSig.tileCredit u .bf16 = nX x) (i : ℕ) (hi : rank x < i)
    {Q : α → sProp 𝕄} {k : PUnit → Prog (TpuEff nD τ sig (Elt F) Λ₀ .tc) α} :
    iprop(Ctx A B K ∗ Rcv x c ∗ Ow c i)
      ⊢ iprop(((Done false x c ∗ landed A B x c ∗ Ow c i) -∗ wpc c (k ⟨⟩) Q) -∗ wpc c (.op (.waitDma2 s a b ha hb) k) Q) :=
  wp_xwait A B K c false x s a b ha hb hs hN i (by rw [lv_recv]; omega) (rest_recv A B c x)

/-! ### Loads and stores -/

abbrev ptA (c : Dev nD) : sProp 𝕄 := ((c : Thread nD τ).loc cc0_stg0_0) ↦{fullShare} A c
abbrev ptB (c : Dev nD) : sProp 𝕄 := ((c : Thread nD τ).loc cc0_stg1_0) ↦{fullShare} B c

theorem wp_ldA {α : Type} (c : Dev nD) (o : Fin 2 → ℕ) (ho : ∀ a, o a + S256x1024.size a ≤ S2048x1024.size a) {hl}
    {Q : α → sProp 𝕄} {k : Vec F S256x1024 .f32 → Prog (TpuEff nD τ sig (Elt F) Λ₀ .tc) α} :
    ptA A c ⊢ iprop((ptA A c -∗ wpc c (k (rowsA (A c) o ho)) Q)
      -∗ wpc c (.op (.load bA (Rect.unit (s := S2048x1024) o S256x1024.size ho).toLoadRect hl) k) Q) :=
  wp_load 𝒱₀ (c : Thread nD τ) none Set.univ (m := bA) (Finset.subset_univ _)
theorem wp_ldB {α : Type} (c : Dev nD) (h : Fin 4) {hl}
    {Q : α → sProp 𝕄} {k : Vec F S1024x512 .f32 → Prog (TpuEff nD τ sig (Elt F) Λ₀ .tc) α} :
    ptB B c ⊢ iprop((ptB B c -∗ wpc c (k (colsB (B c) h)) Q)
      -∗ wpc c (.op (.load bB (rCols h).toLoadRect hl) k) Q) :=
  wp_load 𝒱₀ (c : Thread nD τ) none Set.univ (m := bB) (Finset.subset_univ _)

theorem sq_set {s t : Shape} (m : Memref sig .tc .vmem s .bf16) (r : Rect s) (hr : ∀ a, r.stride a = 1) (hs : r.shape.Squeezes t) :
    (m.access r).set ⊆ ((m.slice r hr).squeeze t hs).view.set := by
  have h : ((m.slice r hr).squeeze t hs).view.set = (m.view.slice r).set := View.set_reshape (v := m.view.slice r) _
  rw [h]

/-- A load of a rectangle, held through its squeeze. -/
theorem wp_ldq {α : Type} {s t : Shape} (c : Dev nD) (m : Memref sig .tc .vmem s .bf16) (r : Rect s) (hr : ∀ a, r.stride a = 1)
    (hs : r.shape.Squeezes t) {hl} {q : PosShare TreeShare} {v : FVec F t .bf16} (hc : r.shape.ShapeCasts t)
    {Q : α → sProp 𝕄} {k : Vec F r.shape .bf16 → Prog (TpuEff nD τ sig (Elt F) Λ₀ .tc) α} :
    hold c ((m.slice r hr).squeeze t hs) q v
      ⊢ iprop((∀ w : Vec F r.shape .bf16, ⌜shapeCast t w hc = v⌝ -∗ hold c ((m.slice r hr).squeeze t hs) q v -∗ wpc c (k w) Q)
        -∗ wpc c (.op (.load m r.toLoadRect hl) k) Q) := by
  unfold hold
  iintro ⟨%f, %hf, Hf⟩ Hk
  iapply (wp_load_rect 𝒱₀ (c : Thread nD τ) none Set.univ (m := m) (r := r) (S := ((m.slice r hr).squeeze t hs).view.set)
    (q := q) (f := f) (sq_set m r hr hs)) $$ Hf
  iintro Hf
  iapply Hk
  · ipureintro; exact hf
  iexists f; isplitr; · (ipureintro; exact hf)
  iexact Hf

theorem wp_ldq_any {α : Type} {s t : Shape} (c : Dev nD) (m : Memref sig .tc .vmem s .bf16) (r : Rect s) (hr : ∀ a, r.stride a = 1)
    (hs : r.shape.Squeezes t) {hl}
    {Q : α → sProp 𝕄} {k : Vec F r.shape .bf16 → Prog (TpuEff nD τ sig (Elt F) Λ₀ .tc) α} :
    holdAny c ((m.slice r hr).squeeze t hs)
      ⊢ iprop((∀ w : Vec F r.shape .bf16, holdAny c ((m.slice r hr).squeeze t hs) -∗ wpc c (k w) Q)
        -∗ wpc c (.op (.load m r.toLoadRect hl) k) Q) := by
  unfold holdAny
  iintro ⟨%f, Hf⟩ Hk
  iapply (wp_load_rect 𝒱₀ (c : Thread nD τ) none Set.univ (m := m) (r := r) (S := ((m.slice r hr).squeeze t hs).view.set)
    (q := fullShare) (f := f) (sq_set m r hr hs)) $$ Hf
  iintro Hf
  iapply Hk
  iexists f
  iexact Hf

/-- A store to a rectangle, held through its squeeze. -/
theorem wp_stq {α : Type} {s t : Shape} (c : Dev nD) (m : Memref sig .tc .vmem s .bf16) (r : Rect s) (hr : ∀ a, r.stride a = 1)
    (hs : r.shape.Squeezes t) {hx hm} (v : FVec F t .bf16) (hc : t.ShapeCasts r.shape)
    {Q : α → sProp 𝕄} {k : PUnit → Prog (TpuEff nD τ sig (Elt F) Λ₀ .tc) α} :
    holdAny c ((m.slice r hr).squeeze t hs)
      ⊢ iprop((hold c ((m.slice r hr).squeeze t hs) fullShare v -∗ wpc c (k ⟨⟩) Q)
        -∗ wpc c (.op (.store m r (shapeCast r.shape v hc) Finset.univ hx hm) k) Q) := by
  unfold holdAny hold
  iintro ⟨%f, Hf⟩ Hk
  iapply (wp_store 𝒱₀ (c : Thread nD τ) none Set.univ (m := m) (r := r) (Mk := Finset.univ) (S := ((m.slice r hr).squeeze t hs).view.set)
    (f := f) (sq_set m r hr hs)) $$ Hf
  iintro Hf
  iapply Hk
  iexists _; isplitr
  · ipureintro
    funext j
    have h1 := congrFun (View.read_write_univ (v := m.access r) (Val := Elt F) f (shapeCast r.shape v hc))
      (Shape.reshapeEquiv hs.numel_eq j)
    refine Eq.trans h1 ?_
    show v (Shape.reshapeEquiv _ (Shape.reshapeEquiv _ j)) = v j
    rw [Shape.reshapeEquiv_reshapeEquiv, Shape.reshapeEquiv_self]
  iexact Hf

/-- The load that goes before the store of a finished chunk, and that store. -/
theorem wp_ldO {α : Type} (c : Dev nD) (o : Fin 2 → ℕ) (ho : ∀ a, o a + S128x512.size a ≤ S2048x2048.size a) {hl}
    {Q : α → sProp 𝕄} {k : Vec F S128x512 .bf16 → Prog (TpuEff nD τ sig (Elt F) Λ₀ .tc) α} :
    holdAny c (oc o ho) ⊢ iprop((∀ w : Vec F S128x512 .bf16, holdAny c (oc o ho) -∗ wpc c (k w) Q)
      -∗ wpc c (.op (.load bO (Rect.unit (s := S2048x2048) o S128x512.size ho).toLoadRect hl) k) Q) := by
  unfold holdAny
  iintro ⟨%f, Hf⟩ Hk
  iapply (wp_load_rect 𝒱₀ (c : Thread nD τ) none Set.univ (m := bO) (r := Rect.unit (s := S2048x2048) o S128x512.size ho)
    (S := (oc o ho).view.set) (q := fullShare) (f := f) (Finset.Subset.refl _)) $$ Hf
  iintro Hf
  iapply Hk
  iexists f
  iexact Hf

theorem wp_stO {α : Type} (c : Dev nD) (o : Fin 2 → ℕ) (ho : ∀ a, o a + S128x512.size a ≤ S2048x2048.size a) {hx hm}
    (v : FVec F S128x512 .bf16) {Q : α → sProp 𝕄} {k : PUnit → Prog (TpuEff nD τ sig (Elt F) Λ₀ .tc) α} :
    holdAny c (oc o ho) ⊢ iprop((hold c (oc o ho) fullShare v -∗ wpc c (k ⟨⟩) Q)
      -∗ wpc c (.op (.store bO (Rect.unit (s := S2048x2048) o S128x512.size ho) v Finset.univ hx hm) k) Q) := by
  unfold holdAny hold
  iintro ⟨%f, Hf⟩ Hk
  iapply (wp_store 𝒱₀ (c : Thread nD τ) none Set.univ (m := bO) (r := Rect.unit (s := S2048x2048) o S128x512.size ho)
    (Mk := Finset.univ) (S := (oc o ho).view.set) (f := f) (Finset.Subset.refl _)) $$ Hf
  iintro Hf
  iapply Hk
  iexists _; isplitr
  · ipureintro
    exact View.read_write_univ (v := bO.access (Rect.unit (s := S2048x2048) o S128x512.size ho)) (Val := Elt F) f v
  iexact Hf

end Cert.KernelIdeal.Silu

end
-- ==== Proof.Sets.lean ====
/-
Which places of the buffers the copies' rectangles are, how they cut the buffers up, and what the
scratch of the column exchange and the result read in them.
-/
module

public import proofs.«01_k».proof.Proof.Ops
public import Idealize.ShloMosaic.Lib.Pipeline.ValueKit

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

theorem sq_half_ev : S1x256x512.Squeezes S256x512 := by decide

/-- Half `b` of the scratch of the column exchange in lane `h`. -/
abbrev zh (h : Fin 4) (b : Fin 2) : Memref sig .tc .vmem S256x512 .bf16 :=
  (bZ.slice (rHalf h b) (fun _ => rfl)).squeeze S256x512 sq_half_ev

/-! ### Places -/

theorem mem_slotR (h t : Fin 4) (i : S4x4x256x512.Idx) : i ∈ (slot bR h t).view.set ↔ (i 0 = h ∧ i 1 = t) := by
  have e : (slot bR h t).view.set = (rSlot h t).set := (View.set_reshape (v := (View.whole cc0_scratch0).slice (rSlot h t)) _).trans (View.set_slice_whole _ _)
  rw [e, Rect.mem_set_unit]
  constructor
  · intro H
    have h0 := H 0; have h1 := H 1
    simp [S1x1x256x512, S4x4x256x512] at h0 h1
    exact ⟨Fin.ext (by omega), Fin.ext (by omega)⟩
  · rintro ⟨rfl, rfl⟩ a
    have h2 := (i 2).isLt; have h3 := (i 3).isLt
    fin_cases a <;> simp [S1x1x256x512, S4x4x256x512] at h2 h3 ⊢ <;> omega

theorem mem_slotL (h t : Fin 4) (i : S4x4x256x512.Idx) : i ∈ (slot bL h t).view.set ↔ (i 0 = h ∧ i 1 = t) := by
  have e : (slot bL h t).view.set = (rSlot h t).set := (View.set_reshape (v := (View.whole cc0_scratch1).slice (rSlot h t)) _).trans (View.set_slice_whole _ _)
  have e' : (slot bR h t).view.set = (rSlot h t).set := (View.set_reshape (v := (View.whole cc0_scratch0).slice (rSlot h t)) _).trans (View.set_slice_whole _ _)
  rw [e, ← e']
  exact mem_slotR h t i

theorem mem_unit3 (o : Fin 3 → ℕ) (n : Fin 3 → ℕ) (hn : ∀ a, o a + n a ≤ S4x512x512.size a) (i : S4x512x512.Idx) (h r k : ℕ)
    (ho : o = ![h, r, 0]) (hk : n = ![1, k, 512]) :
    i ∈ (Rect.unit (s := S4x512x512) o n hn).set ↔ ((i 0).val = h ∧ r ≤ (i 1).val ∧ (i 1).val < r + k) := by
  subst ho hk
  rw [Rect.mem_set_unit]
  constructor
  · intro H
    have h0 := H 0; have h1 := H 1
    simp [S4x512x512] at h0 h1
    exact ⟨by omega, by omega, by omega⟩
  · rintro ⟨e, h1, h2⟩ a
    have h3 := (i 2).isLt
    fin_cases a <;> simp [S4x512x512] at h3 ⊢ <;> omega

theorem mem_zcZ (h : Fin 4) (z : ℕ) (hz : ∀ a, zOff h z a + S1x128x512.size a ≤ S4x512x512.size a) (i : S4x512x512.Idx) :
    i ∈ (zc bZ (zOff h z) hz).view.set ↔ ((i 0).val = h.val ∧ 128 * z ≤ (i 1).val ∧ (i 1).val < 128 * z + 128) := by
  have e : (zc bZ (zOff h z) hz).view.set = (Rect.unit (s := S4x512x512) (zOff h z) S1x128x512.size hz).set :=
    (View.set_reshape (v := (View.whole cc0_scratch2).slice _) _).trans (View.set_slice_whole _ _)
  rw [e]
  exact mem_unit3 _ _ _ i h.val (128 * z) 128 rfl rfl

theorem mem_zcX (h : Fin 4) (z : ℕ) (hz : ∀ a, zOff h z a + S1x128x512.size a ≤ S4x512x512.size a) (i : S4x512x512.Idx) :
    i ∈ (zc bX (zOff h z) hz).view.set ↔ ((i 0).val = h.val ∧ 128 * z ≤ (i 1).val ∧ (i 1).val < 128 * z + 128) := by
  have e : (zc bX (zOff h z) hz).view.set = (Rect.unit (s := S4x512x512) (zOff h z) S1x128x512.size hz).set :=
    (View.set_reshape (v := (View.whole cc0_scratch3).slice _) _).trans (View.set_slice_whole _ _)
  rw [e]
  exact mem_unit3 _ _ _ i h.val (128 * z) 128 rfl rfl

theorem mem_zh (h : Fin 4) (b : Fin 2) (i : S4x512x512.Idx) :
    i ∈ (zh h b).view.set ↔ ((i 0).val = h.val ∧ 256 * b.val ≤ (i 1).val ∧ (i 1).val < 256 * b.val + 256) := by
  have e : (zh h b).view.set = (rHalf h b).set :=
    (View.set_reshape (v := (View.whole cc0_scratch2).slice _) _).trans (View.set_slice_whole _ _)
  rw [e]
  exact mem_unit3 _ _ _ i h.val (256 * b.val) 256 rfl rfl

theorem mem_unit2 (o : Fin 2 → ℕ) (n : Fin 2 → ℕ) (hn : ∀ a, o a + n a ≤ S2048x2048.size a) (i : S2048x2048.Idx) (r k : ℕ) (h : Fin 4)
    (ho : o = oOff r h) (hk : n = ![k, 512]) :
    i ∈ (Rect.unit (s := S2048x2048) o n hn).set ↔ (((i 1).val / 512 = h.val) ∧ r ≤ (i 0).val ∧ (i 0).val < r + k) := by
  subst ho hk
  rw [Rect.mem_set_unit]
  constructor
  · intro H
    have h0 := H 0; have h1 := H 1
    simp [S2048x2048, oOff] at h0 h1
    exact ⟨by omega, by omega, by omega⟩
  · rintro ⟨e, h1, h2⟩ a
    fin_cases a <;> simp [S2048x2048, oOff] <;> omega

theorem mem_oc (r : ℕ) (h : Fin 4) (ho : ∀ a, oOff r h a + S128x512.size a ≤ S2048x2048.size a) (i : S2048x2048.Idx) :
    i ∈ (oc (oOff r h) ho).view.set ↔ (((i 1).val / 512 = h.val) ∧ r ≤ (i 0).val ∧ (i 0).val < r + 128) := by
  have e : (oc (oOff r h) ho).view.set = (Rect.unit (s := S2048x2048) (oOff r h) S128x512.size ho).set := View.set_slice_whole _ _
  rw [e]
  exact mem_unit2 _ _ _ i r 128 h rfl rfl

theorem mem_oh (r : ℕ) (h : Fin 4) (ho : ∀ a, oOff r h a + S256x512.size a ≤ S2048x2048.size a) (i : S2048x2048.Idx) :
    i ∈ (oh (oOff r h) ho).view.set ↔ (((i 1).val / 512 = h.val) ∧ r ≤ (i 0).val ∧ (i 0).val < r + 256) := by
  have e : (oh (oOff r h) ho).view.set = (Rect.unit (s := S2048x2048) (oOff r h) S256x512.size ho).set := View.set_slice_whole _ _
  rw [e]
  exact mem_unit2 _ _ _ i r 256 h rfl rfl

/-! ### What is read -/

/-- The memory under a view that reads `v`, as the memory of anything else that reads `v`. -/
theorem hold_pts {t : Shape} (c : Dev nD) (M : Memref sig .tc .vmem t .bf16) (q : PosShare TreeShare) (v : FVec F t .bf16)
    (g : Buf (Elt F) (M.view.loc (c : Thread nD τ))) (hg : M.view.read (Elt F) g = v) :
    hold c M q v ⊢ (M.view.loc (c : Thread nD τ) ↦[M.view.set]{q} g) := by
  unfold hold
  iintro ⟨%f, %hf, H⟩
  have e : ∀ i ∈ M.view.set, f i = g i := by
    intro i hi
    obtain ⟨x, -, rfl⟩ := Finset.mem_map.mp hi
    have h1 := congrFun (hf.trans hg.symm) x
    rw [View.read_apply, View.read_apply] at h1
    exact (cast_inj _).mp h1
  iapply (Entails.of_eq (pointsTo_congr e)); iexact H

theorem hold_of {t : Shape} (c : Dev nD) (M : Memref sig .tc .vmem t .bf16) (q : PosShare TreeShare) (v : FVec F t .bf16)
    (g : Buf (Elt F) (M.view.loc (c : Thread nD τ))) (hg : M.view.read (Elt F) g = v) :
    (M.view.loc (c : Thread nD τ) ↦[M.view.set]{q} g) ⊢ hold c M q v := by
  unfold hold
  iintro H
  iexists g; isplitr; · (ipureintro; exact hg)
  iexact H

theorem hold_eq {t : Shape} (c : Dev nD) (M : Memref sig .tc .vmem t .bf16) (q : PosShare TreeShare)
    (g : Buf (Elt F) (M.view.loc (c : Thread nD τ))) :
    hold c M q (M.view.read (Elt F) g) = (M.view.loc (c : Thread nD τ) ↦[M.view.set]{q} g) :=
  BI.equiv_iff.mp ⟨hold_pts c M q _ g rfl, hold_of c M q _ g rfl⟩

/-- Sharing what is held. -/
theorem hold_share {t : Shape} (c : Dev nD) (M : Memref sig .tc .vmem t .bf16) (q : PosShare TreeShare)
    (g : Buf (Elt F) (M.view.loc (c : Thread nD τ))) :
    hold c M q (M.view.read (Elt F) g) ⊣⊢ iprop(hold c M q.left (M.view.read (Elt F) g) ∗ hold c M q.right (M.view.read (Elt F) g)) := by
  rw [hold_eq, hold_eq, hold_eq]
  exact pointsTo_share (PosShare.mem_left_op_right q)

variable (A : Dev nD → CA F) (B : Dev nD → CB F)

theorem ixH_eq (r c : ℕ) (x : S256x512.Idx) (h0 : r % 256 = (x 0).val) (h1 : c % 512 = (x 1).val) : ixH r c = x := by
  funext a
  apply Fin.ext
  fin_cases a
  · exact h0
  · exact h1
theorem ixC_eq (r c : ℕ) (x : S128x512.Idx) (h0 : r % 128 = (x 0).val) (h1 : c % 512 = (x 1).val) : ixC r c = x := by
  funext a
  apply Fin.ext
  fin_cases a
  · exact h0
  · exact h1

theorem emb_zh (h : Fin 4) (b : Fin 2) (x : S256x512.Idx) :
    ((zh h b).view.emb x : S4x512x512.Idx) = ((rHalf h b).emb (Fin.cons ⟨0, Nat.one_pos⟩ x : S1x256x512.Idx) : S4x512x512.Idx) := by
  refine congrArg (rHalf h b).emb ?_
  exact Shape.reshapeEquiv_cons_one (n := 2) (d := S256x512.size) _ x

/-- The two halves of the partial sums. -/
theorem fZ_half0 (c : Dev nD) (h : Fin 4) : (zh h 0).view.read (Elt F) (fZ A B c) = SR A B 3 c h := by
  funext x
  show fZ A B c ((zh h 0).view.emb x) = _
  rw [emb_zh]
  have e0 : ((rHalf h 0).emb (Fin.cons ⟨0, Nat.one_pos⟩ x : S1x256x512.Idx) : S4x512x512.Idx) 0 = h :=
    Fin.ext ((ValueKit.rect_emb_unit_val _ _ _ _ 0).trans rfl)
  have e1 : (((rHalf h 0).emb (Fin.cons ⟨0, Nat.one_pos⟩ x : S1x256x512.Idx) : S4x512x512.Idx) 1).val = (x 0).val :=
    (ValueKit.rect_emb_unit_val _ _ _ _ 1).trans (Nat.zero_add _)
  have e2 : (((rHalf h 0).emb (Fin.cons ⟨0, Nat.one_pos⟩ x : S1x256x512.Idx) : S4x512x512.Idx) 2).val = (x 1).val :=
    (ValueKit.rect_emb_unit_val _ _ _ _ 2).trans (Nat.zero_add _)
  have b0 : (x 0).val < 256 := (x 0).isLt
  have b1 : (x 1).val < 512 := (x 1).isLt
  unfold fZ
  rw [e0, e1, e2, if_pos b0, ixH_eq _ _ x (Nat.mod_eq_of_lt b0) (Nat.mod_eq_of_lt b1)]

theorem fZ_half1 (c : Dev nD) (h : Fin 4) : (zh h 1).view.read (Elt F) (fZ A B c) = SL A B 3 c h := by
  funext x
  show fZ A B c ((zh h 1).view.emb x) = _
  rw [emb_zh]
  have e0 : ((rHalf h 1).emb (Fin.cons ⟨0, Nat.one_pos⟩ x : S1x256x512.Idx) : S4x512x512.Idx) 0 = h :=
    Fin.ext ((ValueKit.rect_emb_unit_val _ _ _ _ 0).trans rfl)
  have e1 : (((rHalf h 1).emb (Fin.cons ⟨0, Nat.one_pos⟩ x : S1x256x512.Idx) : S4x512x512.Idx) 1).val = 256 + (x 0).val :=
    (ValueKit.rect_emb_unit_val _ _ _ _ 1).trans rfl
  have e2 : (((rHalf h 1).emb (Fin.cons ⟨0, Nat.one_pos⟩ x : S1x256x512.Idx) : S4x512x512.Idx) 2).val = (x 1).val :=
    (ValueKit.rect_emb_unit_val _ _ _ _ 2).trans (Nat.zero_add _)
  have b0 : (x 0).val < 256 := (x 0).isLt
  have b1 : (x 1).val < 512 := (x 1).isLt
  unfold fZ
  rw [e0, e1, e2, if_neg (by omega), ixH_eq _ _ x (by omega) (Nat.mod_eq_of_lt b1)]

theorem mk_of : ∀ c : Dev nD, mk (4 * pp c + zz c) (pp c) = c := by decide +kernel

/-- The chunk of the result that a device finishes. -/
theorem ocV_my (c : Dev nD) (h : Fin 4) (ho) : ocV A B (oOff (512 * pp c + 128 * zz c) h) ho = OC A B c h := by
  funext x
  show OUT A B ((Rect.unit (s := S2048x2048) (oOff (512 * pp c + 128 * zz c) h) S128x512.size ho).emb x) = _
  have e0 : (((Rect.unit (s := S2048x2048) (oOff (512 * pp c + 128 * zz c) h) S128x512.size ho).emb x : S2048x2048.Idx) 0).val
      = 512 * pp c + 128 * zz c + (x 0).val := ValueKit.rect_emb_unit_val _ _ _ _ 0
  have e1 : (((Rect.unit (s := S2048x2048) (oOff (512 * pp c + 128 * zz c) h) S128x512.size ho).emb x : S2048x2048.Idx) 1).val
      = 512 * h.val + (x 1).val := ValueKit.rect_emb_unit_val _ _ _ _ 1
  have b0 : (x 0).val < 128 := (x 0).isLt
  have b1 : (x 1).val < 512 := (x 1).isLt
  have hz := zz_lt c
  have hp := pp_lt c
  unfold OUT
  have d0 : (512 * pp c + 128 * zz c + (x 0).val) / 128 = 4 * pp c + zz c := by omega
  have d1 : (512 * pp c + 128 * zz c + (x 0).val) / 512 = pp c := by omega
  have d2 : (⟨(((Rect.unit (s := S2048x2048) (oOff (512 * pp c + 128 * zz c) h) S128x512.size ho).emb x : S2048x2048.Idx) 1).val / 512,
      Nat.div_lt_of_lt_mul (Fin.isLt _)⟩ : Fin 4) = h := Fin.ext (by show _ / 512 = h.val; rw [e1]; omega)
  rw [d2, e0, e1, d0, d1, mk_of, ixC_eq _ _ x (by omega) (by omega)]

/-! ### Cutting up -/

section Cut
variable {T : Type} [Fintype T] [DecidableEq T]

/-- A buffer cut up into pieces of which each place is in exactly one. -/
theorem cut_pts {ℓ : Loc nD τ sig} {q : PosShare TreeShare} {f : Buf (Elt F) ℓ} (S : Finset (Idx ℓ)) (Kk : T → Finset (Idx ℓ))
    (h : ∀ i, i ∈ S ↔ ∃ t, i ∈ Kk t) (h1 : ∀ i t t', i ∈ Kk t → i ∈ Kk t' → t = t') :
    (ℓ ↦[S]{q} f : sProp 𝕄) = bigSep Finset.univ fun t => ℓ ↦[Kk t]{q} f := by
  have hS : S = Finset.univ.biUnion Kk := by
    ext i; rw [h, Finset.mem_biUnion]; simp
  rw [hS]
  exact pointsTo_biUnion Finset.univ Kk fun t _ t' _ hne => Finset.disjoint_left.mpr fun i hi hi' => hne (h1 i t t' hi hi')

/-- Its pieces joined again, whatever they hold. -/
theorem join_pts {ℓ : Loc nD τ sig} {q : PosShare TreeShare} (f₀ : Buf (Elt F) ℓ) (S : Finset (Idx ℓ)) (Kk : T → Finset (Idx ℓ))
    (h : ∀ i, i ∈ S ↔ ∃ t, i ∈ Kk t) (h1 : ∀ i t t', i ∈ Kk t → i ∈ Kk t' → t = t') :
    (bigSep Finset.univ fun t => iprop(∃ f : Buf (Elt F) ℓ, ℓ ↦[Kk t]{q} f) : sProp 𝕄) ⊢ iprop(∃ f : Buf (Elt F) ℓ, ℓ ↦[S]{q} f) := by
  have hS : S = Finset.univ.biUnion Kk := by
    ext i; rw [h, Finset.mem_biUnion]; simp
  rw [hS]
  haveI : ∀ _ : T, Nonempty (Buf (Elt F) ℓ) := fun _ => ⟨f₀⟩
  refine (BI.bigSep_exists_pi Finset.univ (fun (t : T) (f : Buf (Elt F) ℓ) => (ℓ ↦[Kk t]{q} f : sProp 𝕄))).trans ?_
  iintro ⟨%fs, H⟩
  ihave H := (pointsTo_biUnion_join Finset.univ Kk fs f₀
    (fun t _ t' _ hne => Finset.disjoint_left.mpr fun i hi hi' => hne (h1 i t t' hi hi'))) $$ H
  icases H with ⟨%g, -, H⟩
  iexists g; iexact H
end Cut

end Cert.KernelIdeal.Silu

end
-- ==== Proof.Steps.lean ====
/-
The steps of a lane that run the rings of the reduce-scatter.
-/
module

public import proofs.«01_k».proof.Proof.Sets

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

variable (A : Dev nD → CA F) (B : Dev nD → CB F) (K : Dev nD × Option (Fin 152) → ℕ)

omit [FloatOps F] in
theorem wpc_ret [FloatOps F] {α : Type} (c : Dev nD) {a : α} {Q : α → sProp 𝕄} : Q a ⊢ wpc c (.ret a) Q := by
  show _ ⊢ wp frame _ Set.univ (Prog.ret a) Q
  rw [wp_ret]; iintro H; imodintro; iexact H

/-- The two staged blocks with which the rings start. -/
theorem wp_stage (c : Dev nD) (h : Fin 4) {Q : PUnit → sProp 𝕄} :
    iprop(ptA A c ∗ ptB B c ∗ holdAny c (slot bR h 0) ∗ holdAny c (slot bL h 0))
      ⊢ iprop(((ptA A c ∗ ptB B c ∗ hold c (slot bR h 0) fullShare (SR A B 0 c h) ∗ hold c (slot bL h 0) fullShare (SL A B 0 c h)) -∗ Q ⟨⟩)
        -∗ wpc c (stage (F := F) (geo c) h) Q) := by
  unfold stage
  simp only [Prog.lift, Prog.bind_op, Prog.bind_ret, Prog.pure_eq_ret]
  iintro ⟨HA, HB, HR, HL⟩ Hk
  iapply (wp_ldA A c _ _) $$ HA; iintro HA
  iapply (wp_ldB B c h) $$ HB; iintro HB
  iapply (wp_ldq_any c bR (rSlot h 0) (fun _ => rfl) squeezes_S1x1x256x512_S256x512) $$ HR; iintro %w HR
  iapply (wp_stq c bR (rSlot h 0) (fun _ => rfl) squeezes_S1x1x256x512_S256x512 (SR A B 0 c h) shapeCasts_S256x512_S1x1x256x512) $$ HR
  iintro HR
  iapply (wp_ldA A c _ _) $$ HA; iintro HA
  iapply (wp_ldB B c h) $$ HB; iintro HB
  iapply (wp_ldq_any c bL (rSlot h 0) (fun _ => rfl) squeezes_S1x1x256x512_S256x512) $$ HL; iintro %w' HL
  iapply (wp_stq c bL (rSlot h 0) (fun _ => rfl) squeezes_S1x1x256x512_S256x512 (SL A B 0 c h) shapeCasts_S256x512_S1x1x256x512) $$ HL
  iintro HL
  iapply (wpc_ret c)
  iapply Hk
  isplitl [HA]; · iexact HA
  isplitl [HB]; · iexact HB
  isplitl [HR] <;> iassumption

theorem landed_0 (c : Dev nD) (h : Fin 4) (s : Fin 3) :
    landed A B (0, h, s) (xdst (0, h, s) c) = hold (xdst (0, h, s) c) (slot bR h s.succ) fullShare (SR A B s.val c h) := by
  show hold _ _ _ (SR A B s.val (src 0 s (dst 0 s c)) h) = _
  rw [src_dst]
theorem landed_1 (c : Dev nD) (h : Fin 4) (s : Fin 3) :
    landed A B (1, h, s) (xdst (1, h, s) c) = hold (xdst (1, h, s) c) (slot bL h s.succ) fullShare (SL A B s.val c h) := by
  show hold _ _ _ (SL A B s.val (src 1 s (dst 1 s c)) h) = _
  rw [src_dst]

theorem landed_0' (c : Dev nD) (h : Fin 4) (s : Fin 3) :
    landed A B (0, h, s) c = hold c (slot bR h s.succ) fullShare (SR A B s.val (mk (zz c) (pp c + 3)) h) := rfl
theorem landed_1' (c : Dev nD) (h : Fin 4) (s : Fin 3) :
    landed A B (1, h, s) c = hold c (slot bL h s.succ) fullShare (SL A B s.val (mk (zz c) (pp c + 1)) h) := rfl

/-- The copies of a round of the rings are started. -/
theorem wp_start (c : Dev nD) (h : Fin 4) (s : Fin 3) (i : ℕ) (h0 : rank (0, h, s) = i) (h1 : rank (1, h, s) = i + 1) {Q : PUnit → sProp 𝕄} :
    iprop(Ctx A B K ∗ (lent A B (0, h, s) c ∗ lent A B (1, h, s) c) ∗ (Snd (0, h, s) c ∗ Snd (1, h, s) c) ∗ Ow c i)
      ⊢ iprop((((Sent (0, h, s) c ∗ Sent (1, h, s) c) ∗ Ow c (i + 2)) -∗ Q ⟨⟩)
        -∗ wpc c (start (F := F) (geo c) h s) Q) := by
  unfold start
  simp only [send, Prog.lift, Prog.bind_op, Prog.bind_ret, Prog.pure_eq_ret]
  iintro ⟨#HC, ⟨Hl0, Hl1⟩, ⟨Hs0, Hs1⟩, HO⟩ Hk
  iapply (wp_xsend A B K c (0, h, s) (slot bR h s.castSucc) (slot bR h s.succ) fullShare (SR A B s.val c h) (xdst (0, h, s) c) _ _ _ _ _ rfl
    (s_send c (0, h, s)) (s_recv0 c h s) rfl rfl (landed_0 A B c h s) rfl i h0) $$ [Hl0 Hs0 HO]
  · isplitr; · iexact HC
    isplitl [Hs0]; · iexact Hs0
    isplitl [Hl0] <;> iassumption
  iintro ⟨Hs0, HO⟩
  iapply (wp_xsend A B K c (1, h, s) (slot bL h s.castSucc) (slot bL h s.succ) fullShare (SL A B s.val c h) (xdst (1, h, s) c) _ _ _ _ _ rfl
    (s_send c (1, h, s)) (s_recv1 c h s) rfl rfl (landed_1 A B c h s) rfl (i + 1) h1) $$ [Hl1 Hs1 HO]
  · isplitr; · iexact HC
    isplitl [Hs1]; · iexact Hs1
    isplitl [Hl1] <;> iassumption
  iintro ⟨Hs1, HO⟩
  iapply (wpc_ret c)
  iapply Hk
  isplitl [Hs0 Hs1]
  · isplitl [Hs0] <;> iassumption
  iexact HO

/-- The semaphores of a round of the rings, done with. -/
def ringDone (c : Dev nD) (h : Fin 4) (s : Fin 3) : sProp 𝕄 :=
  iprop(Done true (0, h, s) c ∗ Done false (0, h, s) c ∗ Done true (1, h, s) c ∗ Done false (1, h, s) c)

/-- A round of the rings is waited for. -/
theorem wp_dots (c : Dev nD) (h : Fin 4) (s : Fin 3) (i : ℕ) (h0 : rank (0, h, s) < i) (h1 : rank (1, h, s) < i)
    {α : Type} {k : FVec F S256x512 .f32 × FVec F S256x512 .f32 → Prog (TpuEff nD τ sig (Elt F) Λ₀ .tc) α} {Q : α → sProp 𝕄} :
    iprop(Ctx A B K ∗ (ptA A c ∗ ptB B c ∗ Ow c i) ∗ (Sent (0, h, s) c ∗ Sent (1, h, s) c) ∗ Rcv (0, h, s) c ∗ Rcv (1, h, s) c)
      ⊢ iprop((((ptA A c ∗ ptB B c ∗ Ow c i) ∗ (lent A B (0, h, s) c ∗ lent A B (1, h, s) c) ∗ (landed A B (0, h, s) c ∗ landed A B (1, h, s) c)
            ∗ ringDone c h s)
          -∗ wpc c (k (own A B c (gRdT c s.val) 0 (Nat.mod_lt _ (by decide)) (by decide) h,
              own A B c (gRdB c s.val) 1 (Nat.mod_lt _ (by decide)) (by decide) h)) Q)
        -∗ wpc c (dots (F := F) (geo c) h s >>= k) Q) := by
  unfold dots ringDone
  simp only [wait, Prog.lift, Prog.bind_op, Prog.bind_ret, Prog.pure_eq_ret]
  iintro ⟨#HC, ⟨HA, HB, HO⟩, ⟨Hs0, Hs1⟩, Hr0, Hr1⟩ Hk
  iapply (wp_ldA A c _ _) $$ HA; iintro HA
  iapply (wp_ldB B c h) $$ HB; iintro HB
  iapply (wp_ldA A c _ _) $$ HA; iintro HA
  iapply (wp_ldB B c h) $$ HB; iintro HB
  iapply (wp_xsent A B K c (0, h, s) _ _ _ _ _ (s_send c (0, h, s)) rfl i) $$ [Hs0 HO]
  · isplitr; · iexact HC
    isplitl [Hs0] <;> iassumption
  iintro ⟨HD0, Hl0, HO⟩
  iapply (wp_xrcvd A B K c (0, h, s) _ _ _ _ _ (w_recv0 c h s) rfl i h0) $$ [Hr0 HO]
  · isplitr; · iexact HC
    isplitl [Hr0] <;> iassumption
  iintro ⟨HE0, Hm0, HO⟩
  iapply (wp_xsent A B K c (1, h, s) _ _ _ _ _ (s_send c (1, h, s)) rfl i) $$ [Hs1 HO]
  · isplitr; · iexact HC
    isplitl [Hs1] <;> iassumption
  iintro ⟨HD1, Hl1, HO⟩
  iapply (wp_xrcvd A B K c (1, h, s) _ _ _ _ _ (w_recv1 c h s) rfl i h1) $$ [Hr1 HO]
  · isplitr; · iexact HC
    isplitl [Hr1] <;> iassumption
  iintro ⟨HE1, Hm1, HO⟩
  iapply Hk
  isplitl [HA HB HO]
  · isplitl [HA]; · iexact HA
    isplitl [HB] <;> iassumption
  isplitl [Hl0 Hl1]
  · isplitl [Hl0] <;> iassumption
  isplitl [Hm0 Hm1]
  · isplitl [Hm0] <;> iassumption
  isplitl [HD0]; · iexact HD0
  isplitl [HE0]; · iexact HE0
  isplitl [HD1] <;> iassumption

/-- A round of the rings but the last: the device's own blocks are added in place. -/
theorem wp_finA (c : Dev nD) (h : Fin 4) (s : Fin 3) (i : ℕ) (h0 : rank (0, h, s) < i) (h1 : rank (1, h, s) < i) {Q : PUnit → sProp 𝕄} :
    iprop(Ctx A B K ∗ (ptA A c ∗ ptB B c ∗ Ow c i) ∗ (Sent (0, h, s) c ∗ Sent (1, h, s) c) ∗ Rcv (0, h, s) c ∗ Rcv (1, h, s) c)
      ⊢ iprop((((ptA A c ∗ ptB B c ∗ Ow c i)
            ∗ (hold c (slot bR h s.succ) fullShare (SR A B (s.val + 1) c h) ∗ hold c (slot bL h s.succ) fullShare (SL A B (s.val + 1) c h))
            ∗ (lent A B (0, h, s) c ∗ lent A B (1, h, s) c) ∗ ringDone c h s) -∗ Q ⟨⟩)
        -∗ wpc c (finA (F := F) (geo c) h s) Q) := by
  unfold finA
  iintro ⟨#HC, Hc, HS, HR⟩ Hk
  iapply (wp_dots A B K c h s i h0 h1) $$ [Hc HS HR]
  · isplitr; · iexact HC
    isplitl [Hc]; · iexact Hc
    isplitl [HS] <;> iassumption
  iintro ⟨Hc, Hl, ⟨Hm0, Hm1⟩, HD⟩
  simp only [Prog.lift, Prog.bind_op, Prog.bind_ret, Prog.pure_eq_ret]
  ihave Hm0 := (Entails.of_eq (landed_0' A B c h s)) $$ Hm0
  ihave Hm1 := (Entails.of_eq (landed_1' A B c h s)) $$ Hm1
  iapply (wp_ldq c bR (rSlot h s.succ) (fun _ => rfl) squeezes_S1x1x256x512_S256x512 (q := fullShare)
    (v := SR A B s.val (mk (zz c) (pp c + 3)) h) shapeCasts_S1x1x256x512_S256x512) $$ [Hm0]
  · iexact Hm0
  iintro %w %hw Hm0
  ihave Hm0 := (hold_any c _ _) $$ Hm0
  iapply (wp_ldq_any c bR (rSlot h s.succ) (fun _ => rfl) squeezes_S1x1x256x512_S256x512) $$ Hm0; iintro %w' Hm0
  iapply (wp_stq c bR (rSlot h s.succ) (fun _ => rfl) squeezes_S1x1x256x512_S256x512 _ shapeCasts_S256x512_S1x1x256x512) $$ Hm0
  iintro Hm0
  iapply (wp_ldq c bL (rSlot h s.succ) (fun _ => rfl) squeezes_S1x1x256x512_S256x512 (q := fullShare)
    (v := SL A B s.val (mk (zz c) (pp c + 1)) h) shapeCasts_S1x1x256x512_S256x512) $$ [Hm1]
  · iexact Hm1
  iintro %u %hu Hm1
  ihave Hm1 := (hold_any c _ _) $$ Hm1
  iapply (wp_ldq_any c bL (rSlot h s.succ) (fun _ => rfl) squeezes_S1x1x256x512_S256x512) $$ Hm1; iintro %u' Hm1
  iapply (wp_stq c bL (rSlot h s.succ) (fun _ => rfl) squeezes_S1x1x256x512_S256x512 _ shapeCasts_S256x512_S1x1x256x512) $$ Hm1
  iintro Hm1
  iapply (wpc_ret c)
  iapply Hk
  isplitl [Hc]; · iexact Hc
  isplitl [Hm0 Hm1]
  · isplitl [Hm0]
    · iapply (Entails.of_eq (hold_congr (c := c) (q := fullShare) rfl (show addIn (ofSlot w) _ = SR A B (s.val + 1) c h from by
        show addIn (shapeCast _ w _) _ = addIn _ _; rw [hw]))); iexact Hm0
    · iapply (Entails.of_eq (hold_congr (c := c) (q := fullShare) rfl (show addIn (ofSlot u) _ = SL A B (s.val + 1) c h from by
        show addIn (shapeCast _ u _) _ = addIn _ _; rw [hu]))); iexact Hm1
  isplitl [Hl] <;> iassumption

end Cert.KernelIdeal.Silu

end
-- ==== Proof.Steps2.lean ====
/-
The steps of a lane after the rings of the reduce-scatter: the exchange of partial sums in a column,
the finished chunk and its copies, and the rings of the all-gather.
-/
module

public import proofs.«01_k».proof.Proof.Steps

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

/-! ### Where the copies land -/

theorem zc_congr (m : Memref sig .tc .vmem S4x512x512 .bf16) {o o' : Fin 3 → ℕ} (e : o = o') (ho ho') : zc m o ho = zc m o' ho' := by
  subst e; rfl
theorem oc_congr {o o' : Fin 2 → ℕ} (e : o = o') (ho ho') : oc o ho = oc o' ho' := by subst e; rfl
theorem oh_congr {o o' : Fin 2 → ℕ} (e : o = o') (ho ho') : oh o ho = oh o' ho' := by subst e; rfl

theorem e_in : ∀ c s, zin (dst 2 s c) s = zz c := by decide +kernel
theorem e_in3 : ∀ c s, zin (dst 3 s c) s = zz c := by decide +kernel
theorem e_pp3 : ∀ c s, pp (dst 3 s c) = pp c := by decide +kernel
theorem e_zzdst : ∀ c s, zz (dst 2 s c) = zPeer c s.val := by decide +kernel
theorem e_in_peer : ∀ c s, zin c (2 - s) = zPeer c s.val := by decide +kernel
theorem e_src_peer : ∀ c s, src 2 (2 - s) c = dst 2 s c := by decide +kernel
theorem e_gST : ∀ c (s : Fin 3), gST (dst 4 s c) (s.val + 1) = gST c s.val := by decide +kernel
theorem e_gSB : ∀ c (s : Fin 3), gSB (dst 5 s c) (s.val + 1) = gSB c s.val := by decide +kernel

variable (A : Dev nD → CA F) (B : Dev nD → CB F) (K : Dev nD × Option (Fin 152) → ℕ)

theorem zval_congr {c c' : Dev nD} (h : Fin 4) {z z' : ℕ} (hc : c = c') (e : z = z') (hz hz') : zval A B c h z hz = zval A B c' h z' hz' := by
  subst hc e; rfl
theorem ocV_congr {o o' : Fin 2 → ℕ} (e : o = o') (ho ho') : ocV A B o ho = ocV A B o' ho' := by subst e; rfl
theorem ohV_congr {o o' : Fin 2 → ℕ} (e : o = o') (ho ho') : ohV A B o ho = ohV A B o' ho' := by subst e; rfl

theorem any_2 (c : Dev nD) (h : Fin 4) (s : Fin 3) :
    landAny (F := F) (2, h, s) (xdst (2, h, s) c) = holdAny (xdst (2, h, s) c) (zc bX ((geo c).zSlot h) ((geo c).zSlot_inb h)) := by
  show holdAny (dst 2 s c) (zcIn (dst 2 s c) h s) = _
  rw [show zcIn (dst 2 s c) h s = _ from zc_congr bX (show zOff h (zin (dst 2 s c) s) = zOff h (zz c) by rw [e_in]) _ _]
  rfl
theorem landed_2 (c : Dev nD) (h : Fin 4) (s : Fin 3) :
    landed A B (2, h, s) (xdst (2, h, s) c) = hold (xdst (2, h, s) c) (zc bX ((geo c).zSlot h) ((geo c).zSlot_inb h)) fullShare
      (zval A B c h (zPeer c s.val) (Nat.mod_lt _ (by decide))) :=
  hold_congr (zc_congr bX (show zOff h (zin (dst 2 s c) s) = zOff h (zz c) by rw [e_in]) _ _)
    (zval_congr A B h (src_dst 2 s c) (e_zzdst c s) _ _)
theorem landed_2' (c : Dev nD) (h : Fin 4) (s : Fin 3) :
    landed A B (2, h, 2 - s) c = hold c (zc bX ((geo c).zLd h s) ((geo c).zLd_inb h s)) fullShare (zval A B (dst 2 s c) h (zz c) (zz_lt c)) :=
  hold_congr (zc_congr bX (show zOff h (zin c (2 - s)) = zOff h (zPeer c s.val) by rw [e_in_peer]) _ _)
    (zval_congr A B h (e_src_peer c s) rfl _ _)

theorem landed_20 (c : Dev nD) (h : Fin 4) :
    landed A B (2, h, 2) c = hold c (zc bX ((geo c).zLd h 0) ((geo c).zLd_inb h 0)) fullShare (zval A B (dst 2 0 c) h (zz c) (zz_lt c)) :=
  landed_2' A B c h 0
theorem landed_21 (c : Dev nD) (h : Fin 4) :
    landed A B (2, h, 1) c = hold c (zc bX ((geo c).zLd h 1) ((geo c).zLd_inb h 1)) fullShare (zval A B (dst 2 1 c) h (zz c) (zz_lt c)) :=
  landed_2' A B c h 1
theorem landed_22 (c : Dev nD) (h : Fin 4) :
    landed A B (2, h, 0) c = hold c (zc bX ((geo c).zLd h 2) ((geo c).zLd_inb h 2)) fullShare (zval A B (dst 2 2 c) h (zz c) (zz_lt c)) :=
  landed_2' A B c h 2

theorem o3 (c : Dev nD) (h : Fin 4) (s : Fin 3) :
    oOff (512 * pp (dst 3 s c) + 128 * zin (dst 3 s c) s) h = (geo c).oMy h := by rw [e_in3, e_pp3]; rfl
theorem any_3 (c : Dev nD) (h : Fin 4) (s : Fin 3) :
    landAny (F := F) (3, h, s) (xdst (3, h, s) c) = holdAny (xdst (3, h, s) c) (oc ((geo c).oMy h) ((geo c).oMy_inb h)) := by
  show holdAny (dst 3 s c) (ocIn (dst 3 s c) h s) = _
  rw [show ocIn (dst 3 s c) h s = _ from oc_congr (o3 c h s) _ ((geo c).oMy_inb h)]
theorem landed_3 (c : Dev nD) (h : Fin 4) (s : Fin 3) :
    landed A B (3, h, s) (xdst (3, h, s) c) = hold (xdst (3, h, s) c) (oc ((geo c).oMy h) ((geo c).oMy_inb h)) fullShare
      (ocV A B _ ((geo c).oMy_inb h)) :=
  hold_congr (oc_congr (o3 c h s) _ _) (ocV_congr A B (o3 c h s) _ _)

theorem o4 (c : Dev nD) (h : Fin 4) (s : Fin 3) : (geo (dst 4 s c)).gTR h s = (geo c).gTS h s := by
  show oOff (512 * gST (dst 4 s c) (s.val + 1)) h = _; rw [e_gST]; rfl
theorem o5 (c : Dev nD) (h : Fin 4) (s : Fin 3) : (geo (dst 5 s c)).gBR h s = (geo c).gBS h s := by
  show oOff (512 * gSB (dst 5 s c) (s.val + 1) + 256) h = _; rw [e_gSB]; rfl
theorem any_4 (c : Dev nD) (h : Fin 4) (s : Fin 3) :
    landAny (F := F) (4, h, s) (xdst (4, h, s) c) = holdAny (xdst (4, h, s) c) (oh ((geo c).gTS h s) ((geo c).gTS_inb h s)) := by
  show holdAny (dst 4 s c) (oh ((geo (dst 4 s c)).gTR h s) _) = _
  rw [oh_congr (o4 c h s) _ ((geo c).gTS_inb h s)]
theorem any_5 (c : Dev nD) (h : Fin 4) (s : Fin 3) :
    landAny (F := F) (5, h, s) (xdst (5, h, s) c) = holdAny (xdst (5, h, s) c) (oh ((geo c).gBS h s) ((geo c).gBS_inb h s)) := by
  show holdAny (dst 5 s c) (oh ((geo (dst 5 s c)).gBR h s) _) = _
  rw [oh_congr (o5 c h s) _ ((geo c).gBS_inb h s)]
theorem landed_4 (c : Dev nD) (h : Fin 4) (s : Fin 3) :
    landed A B (4, h, s) (xdst (4, h, s) c) = hold (xdst (4, h, s) c) (oh ((geo c).gTS h s) ((geo c).gTS_inb h s)) fullShare
      (ohV A B _ ((geo c).gTS_inb h s)) :=
  hold_congr (oh_congr (o4 c h s) _ _) (ohV_congr A B (o4 c h s) _ _)
theorem landed_5 (c : Dev nD) (h : Fin 4) (s : Fin 3) :
    landed A B (5, h, s) (xdst (5, h, s) c) = hold (xdst (5, h, s) c) (oh ((geo c).gBS h s) ((geo c).gBS_inb h s)) fullShare
      (ohV A B _ ((geo c).gBS_inb h s)) :=
  hold_congr (oh_congr (o5 c h s) _ _) (ohV_congr A B (o5 c h s) _ _)

/-! ### The scratch of the column exchange in a lane -/

abbrev myZ (c : Dev nD) (h : Fin 4) : sProp 𝕄 :=
  hold c (zc bZ ((geo c).zOwn h) ((geo c).zOwn_inb h)) fullShare (zval A B c h (zz c) (zz_lt c))

def laneSet (h : Fin 4) : Finset S4x512x512.Idx := Finset.univ.filter fun i => (i 0).val = h.val
theorem mem_laneSet (h : Fin 4) (i : S4x512x512.Idx) : i ∈ laneSet h ↔ (i 0).val = h.val := by simp [laneSet]

/-- The partial sums of a device's row group in a lane. -/
def laneZ (c : Dev nD) (h : Fin 4) : sProp 𝕄 := ((c : Thread nD τ).loc cc0_scratch2) ↦[laneSet h]{fullShare} fZ A B c

/-- The rows of a device's column, its own first. -/
def zlist (c : Dev nD) : Fin 4 → ℕ := ![zz c, zPeer c 0, zPeer c 1, zPeer c 2]
theorem zlist_lt (c : Dev nD) (j : Fin 4) : zlist c j < 4 := by revert c j; decide +kernel
theorem zlist_inj : ∀ c j j', zlist c j = zlist c j' → j = j' := by decide +kernel
theorem zlist_surj : ∀ c (z : Fin 4), ∃ j, zlist c j = z.val := by decide +kernel

theorem laneZ_cut (c : Dev nD) (h : Fin 4) :
    laneZ A B c h = iprop(myZ A B c h ∗ lent A B (2, h, 0) c ∗ lent A B (2, h, 1) c ∗ lent A B (2, h, 2) c) := by
  have e := cut_pts (F := F) (ℓ := (c : Thread nD τ).loc cc0_scratch2) (q := fullShare) (f := fZ A B c) (laneSet h)
    (fun j : Fin 4 => (zc bZ (zOff h (zlist c j)) (zOff_inb h (zlist_lt c j))).view.set)
    (fun i => by
      rw [mem_laneSet]
      constructor
      · intro hi
        have h1 : (i 1).val < 512 := (i 1).isLt
        obtain ⟨j, hj⟩ := zlist_surj c ⟨(i 1).val / 128, by omega⟩
        refine ⟨j, (mem_zcZ h _ _ i).mpr ⟨hi, ?_⟩⟩
        rw [hj]; constructor
        · show 128 * ((i 1).val / 128) ≤ _; omega
        · show _ < 128 * ((i 1).val / 128) + 128; omega
      · rintro ⟨j, hj⟩
        exact ((mem_zcZ h _ _ i).mp hj).1)
    (fun i j j' hj hj' => by
      have h1 := (mem_zcZ h _ _ i).mp hj
      have h2 := (mem_zcZ h _ _ i).mp hj'
      exact zlist_inj c j j' (by omega))
  unfold laneZ
  rw [e, bigSep_univ_eq_bigSepL [0, 1, 2, 3] (by decide) (by decide), bigSepL_cons_cons, bigSepL_cons_cons, bigSepL_cons_cons, bigSepL_singleton]
  have p : ∀ j : Fin 4, _ = _ := fun j => hold_eq c (zc bZ (zOff h (zlist c j)) (zOff_inb h (zlist_lt c j))) fullShare (fZ A B c)
  have p0 : myZ A B c h = _ := p 0
  have p1 : lent A B (2, h, 0) c = _ := p 1
  have p2 : lent A B (2, h, 1) c = _ := p 2
  have p3 : lent A B (2, h, 2) c = _ := p 3
  rw [p0, p1, p2, p3]
  rfl

theorem zh_lane (c : Dev nD) (h : Fin 4) :
    iprop(hold c (zh h 0) fullShare (SR A B 3 c h) ∗ hold c (zh h 1) fullShare (SL A B 3 c h)) ⊢ laneZ A B c h := by
  have e := cut_pts (F := F) (ℓ := (c : Thread nD τ).loc cc0_scratch2) (q := fullShare) (f := fZ A B c) (laneSet h)
    (fun j : Fin 2 => (zh h j).view.set)
    (fun i => by
      rw [mem_laneSet]
      constructor
      · intro hi
        have h1 : (i 1).val < 512 := (i 1).isLt
        by_cases h2 : (i 1).val < 256
        · exact ⟨0, (mem_zh h 0 i).mpr ⟨hi, by show 256 * 0 ≤ _; omega, by show _ < 256 * 0 + 256; omega⟩⟩
        · exact ⟨1, (mem_zh h 1 i).mpr ⟨hi, by show 256 * 1 ≤ _; omega, by show _ < 256 * 1 + 256; omega⟩⟩
      · rintro ⟨j, hj⟩
        exact ((mem_zh h j i).mp hj).1)
    (fun i j j' hj hj' => by
      have h1 := (mem_zh h j i).mp hj
      have h2 := (mem_zh h j' i).mp hj'
      exact Fin.ext (by omega))
  unfold laneZ
  rw [e, bigSep_univ_eq_bigSepL [0, 1] (by decide) (by decide), bigSepL_cons_cons, bigSepL_singleton, ← fZ_half0, ← fZ_half1, hold_eq, hold_eq]
  exact Entails.of_eq rfl

/-- The last round of the rings: the sums go to the scratch of the column exchange. -/
theorem wp_finB (c : Dev nD) (h : Fin 4) (i : ℕ) (h0 : rank (0, h, 2) < i) (h1 : rank (1, h, 2) < i) {Q : PUnit → sProp 𝕄} :
    iprop(Ctx A B K ∗ (ptA A c ∗ ptB B c ∗ Ow c i) ∗ (Sent (0, h, 2) c ∗ Sent (1, h, 2) c) ∗ (Rcv (0, h, 2) c ∗ Rcv (1, h, 2) c)
        ∗ holdAny c (zh h 0) ∗ holdAny c (zh h 1))
      ⊢ iprop((((ptA A c ∗ ptB B c ∗ Ow c i)
            ∗ (myZ A B c h ∗ lent A B (2, h, 0) c ∗ lent A B (2, h, 1) c ∗ lent A B (2, h, 2) c)
            ∗ (lent A B (0, h, 2) c ∗ lent A B (1, h, 2) c) ∗ (landed A B (0, h, 2) c ∗ landed A B (1, h, 2) c) ∗ ringDone c h 2) -∗ Q ⟨⟩)
        -∗ wpc c (finB (F := F) (geo c) h) Q) := by
  unfold finB
  iintro ⟨#HC, Hc, HS, HR, HZ0, HZ1⟩ Hk
  iapply (wp_dots A B K c h 2 i h0 h1) $$ [Hc HS HR]
  · isplitr; · iexact HC
    isplitl [Hc]; · iexact Hc
    isplitl [HS] <;> iassumption
  iintro ⟨Hc, Hl, ⟨Hm0, Hm1⟩, HD⟩
  simp only [Prog.lift, Prog.bind_op, Prog.bind_ret, Prog.pure_eq_ret]
  ihave Hm0 := (Entails.of_eq (landed_0' A B c h 2)) $$ Hm0
  ihave Hm1 := (Entails.of_eq (landed_1' A B c h 2)) $$ Hm1
  iapply (wp_ldq c bR (rSlot h 3) (fun _ => rfl) squeezes_S1x1x256x512_S256x512 (q := fullShare)
    (v := SR A B 2 (mk (zz c) (pp c + 3)) h) shapeCasts_S1x1x256x512_S256x512) $$ [Hm0]
  · iexact Hm0
  iintro %w %hw Hm0
  iapply (wp_ldq_any c bZ (rHalf h 0) (fun _ => rfl) sq_half_ev) $$ HZ0; iintro %w' HZ0
  iapply (wp_stq c bZ (rHalf h 0) (fun _ => rfl) sq_half_ev _ shapeCasts_S256x512_S1x256x512) $$ HZ0
  iintro HZ0
  iapply (wp_ldq c bL (rSlot h 3) (fun _ => rfl) squeezes_S1x1x256x512_S256x512 (q := fullShare)
    (v := SL A B 2 (mk (zz c) (pp c + 1)) h) shapeCasts_S1x1x256x512_S256x512) $$ [Hm1]
  · iexact Hm1
  iintro %u %hu Hm1
  iapply (wp_ldq_any c bZ (rHalf h 1) (fun _ => rfl) sq_half_ev) $$ HZ1; iintro %u' HZ1
  iapply (wp_stq c bZ (rHalf h 1) (fun _ => rfl) sq_half_ev _ shapeCasts_S256x512_S1x256x512) $$ HZ1
  iintro HZ1
  iapply (wpc_ret c)
  iapply Hk
  isplitl [Hc]; · iexact Hc
  isplitl [HZ0 HZ1]
  · iapply (Entails.of_eq (laneZ_cut A B c h))
    iapply (zh_lane A B c h)
    isplitl [HZ0]
    · iapply (Entails.of_eq (hold_congr (c := c) (q := fullShare) rfl (show addIn (ofSlot w) _ = SR A B 3 c h from by
        show addIn (shapeCast _ w _) _ = addIn _ _; rw [hw]))); iexact HZ0
    · iapply (Entails.of_eq (hold_congr (c := c) (q := fullShare) rfl (show addIn (ofSlot u) _ = SL A B 3 c h from by
        show addIn (shapeCast _ u _) _ = addIn _ _; rw [hu]))); iexact HZ1
  isplitl [Hl]; · iexact Hl
  isplitl [Hm0 Hm1]
  · isplitl [Hm0]
    · iapply (Entails.of_eq (landed_0' A B c h 2).symm); iexact Hm0
    · iapply (Entails.of_eq (landed_1' A B c h 2).symm); iexact Hm1
  iexact HD

theorem wp_send2 (c : Dev nD) (h : Fin 4) (i : ℕ) (h0 : rank (2, h, 0) = i) (h1 : rank (2, h, 1) = i + 1) (h2 : rank (2, h, 2) = i + 2)
    {Q : PUnit → sProp 𝕄} :
    iprop(Ctx A B K ∗ (lent A B (2, h, 0) c ∗ lent A B (2, h, 1) c ∗ lent A B (2, h, 2) c)
        ∗ (Snd (2, h, 0) c ∗ Snd (2, h, 1) c ∗ Snd (2, h, 2) c) ∗ Ow c i)
      ⊢ iprop((((Sent (2, h, 0) c ∗ Sent (2, h, 1) c ∗ Sent (2, h, 2) c) ∗ Ow c (i + 3)) -∗ Q ⟨⟩)
        -∗ wpc c (send2 (F := F) (geo c) h) Q) := by
  unfold send2 sendZ
  simp only [send, Prog.lift, Prog.bind_op, Prog.bind_ret, Prog.pure_eq_ret]
  iintro ⟨#HC, ⟨Hl0, Hl1, Hl2⟩, ⟨Hs0, Hs1, Hs2⟩, HO⟩ Hk
  iapply (wp_xsend A B K c (2, h, 0) (zc bZ ((geo c).zChunk h 0) ((geo c).zChunk_inb h 0)) _ fullShare _ (xdst (2, h, 0) c) _ _ _ _ _ rfl
    (s_send c (2, h, 0)) (s_recv2 c h 0) rfl (any_2 c h 0) (landed_2 A B c h 0) rfl i h0) $$ [Hl0 Hs0 HO]
  · isplitr; · iexact HC
    isplitl [Hs0]; · iexact Hs0
    isplitl [Hl0] <;> iassumption
  iintro ⟨Hs0, HO⟩
  iapply (wp_xsend A B K c (2, h, 1) (zc bZ ((geo c).zChunk h 1) ((geo c).zChunk_inb h 1)) _ fullShare _ (xdst (2, h, 1) c) _ _ _ _ _ rfl
    (s_send c (2, h, 1)) (s_recv2 c h 1) rfl (any_2 c h 1) (landed_2 A B c h 1) rfl (i + 1) h1) $$ [Hl1 Hs1 HO]
  · isplitr; · iexact HC
    isplitl [Hs1]; · iexact Hs1
    isplitl [Hl1] <;> iassumption
  iintro ⟨Hs1, HO⟩
  iapply (wp_xsend A B K c (2, h, 2) (zc bZ ((geo c).zChunk h 2) ((geo c).zChunk_inb h 2)) _ fullShare _ (xdst (2, h, 2) c) _ _ _ _ _ rfl
    (s_send c (2, h, 2)) (s_recv2 c h 2) rfl (any_2 c h 2) (landed_2 A B c h 2) rfl (i + 2) h2) $$ [Hl2 Hs2 HO]
  · isplitr; · iexact HC
    isplitl [Hs2]; · iexact Hs2
    isplitl [Hl2] <;> iassumption
  iintro ⟨Hs2, HO⟩
  iapply (wpc_ret c)
  iapply Hk
  isplitl [Hs0 Hs1 Hs2]
  · isplitl [Hs0]; · iexact Hs0
    isplitl [Hs1] <;> iassumption
  iexact HO

/-- The finished chunk. -/
theorem wp_red (c : Dev nD) (h : Fin 4) (i : ℕ) (h0 : rank (2, h, 0) < i) (h1 : rank (2, h, 1) < i) (h2 : rank (2, h, 2) < i)
    {Q : PUnit → sProp 𝕄} :
    iprop(Ctx A B K ∗ Ow c i ∗ myZ A B c h ∗ holdAny c (oc ((geo c).oMy h) ((geo c).oMy_inb h))
        ∗ Rcv (2, h, 0) c ∗ Rcv (2, h, 1) c ∗ Rcv (2, h, 2) c)
      ⊢ iprop(((Ow c i ∗ hold c (oc ((geo c).oMy h) ((geo c).oMy_inb h)) fullShare (ocV A B _ ((geo c).oMy_inb h))
            ∗ (myZ A B c h ∗ landed A B (2, h, 0) c ∗ landed A B (2, h, 1) c ∗ landed A B (2, h, 2) c)
            ∗ Done false (2, h, 0) c ∗ Done false (2, h, 1) c ∗ Done false (2, h, 2) c) -∗ Q ⟨⟩)
        -∗ wpc c (red (F := F) (geo c) h) Q) := by
  unfold red waitX
  simp only [wait, Prog.lift, Prog.bind_op, Prog.bind_ret, Prog.pure_eq_ret]
  iintro ⟨#HC, HO, HZ, Ho, Hr0, Hr1, Hr2⟩ Hk
  iapply (wp_ldq c bZ (Rect.unit (s := S4x512x512) ((geo c).zOwn h) S1x128x512.size ((geo c).zOwn_inb h)) (fun _ => rfl)
    squeezes_S1x128x512_S128x512 (q := fullShare) (v := zval A B c h (zz c) (zz_lt c)) shapeCasts_S1x128x512_S128x512) $$ [HZ]
  · iexact HZ
  iintro %w %hw HZ
  iapply (wp_xrcvd A B K c (2, h, 2) _ _ _ _ _ (w_recv2 c h 0) rfl i h2) $$ [Hr2 HO]
  · isplitr; · iexact HC
    isplitl [Hr2] <;> iassumption
  iintro ⟨HD2, Hm2, HO⟩
  ihave Hm2 := (Entails.of_eq (landed_20 A B c h)) $$ Hm2
  iapply (wp_ldq c bX (Rect.unit (s := S4x512x512) ((geo c).zLd h 0) S1x128x512.size ((geo c).zLd_inb h 0)) (fun _ => rfl)
    squeezes_S1x128x512_S128x512 (q := fullShare) (v := zval A B (dst 2 0 c) h (zz c) (zz_lt c)) shapeCasts_S1x128x512_S128x512) $$ [Hm2]
  · iexact Hm2
  iintro %w0 %hw0 Hm2
  iapply (wp_xrcvd A B K c (2, h, 1) _ _ _ _ _ (w_recv2 c h 1) rfl i h1) $$ [Hr1 HO]
  · isplitr; · iexact HC
    isplitl [Hr1] <;> iassumption
  iintro ⟨HD1, Hm1, HO⟩
  ihave Hm1 := (Entails.of_eq (landed_21 A B c h)) $$ Hm1
  iapply (wp_ldq c bX (Rect.unit (s := S4x512x512) ((geo c).zLd h 1) S1x128x512.size ((geo c).zLd_inb h 1)) (fun _ => rfl)
    squeezes_S1x128x512_S128x512 (q := fullShare) (v := zval A B (dst 2 1 c) h (zz c) (zz_lt c)) shapeCasts_S1x128x512_S128x512) $$ [Hm1]
  · iexact Hm1
  iintro %w1 %hw1 Hm1
  iapply (wp_xrcvd A B K c (2, h, 0) _ _ _ _ _ (w_recv2 c h 2) rfl i h0) $$ [Hr0 HO]
  · isplitr; · iexact HC
    isplitl [Hr0] <;> iassumption
  iintro ⟨HD0, Hm0, HO⟩
  ihave Hm0 := (Entails.of_eq (landed_22 A B c h)) $$ Hm0
  iapply (wp_ldq c bX (Rect.unit (s := S4x512x512) ((geo c).zLd h 2) S1x128x512.size ((geo c).zLd_inb h 2)) (fun _ => rfl)
    squeezes_S1x128x512_S128x512 (q := fullShare) (v := zval A B (dst 2 2 c) h (zz c) (zz_lt c)) shapeCasts_S1x128x512_S128x512) $$ [Hm0]
  · iexact Hm0
  iintro %w2 %hw2 Hm0
  ihave Ho := (Entails.of_eq (show holdAny (F := F) c (oc ((geo c).oMy h) ((geo c).oMy_inb h)) = holdAny c (oc ((geo c).oSt h) ((geo c).oSt_inb h))
    from rfl)) $$ Ho
  iapply (wp_ldO c ((geo c).oSt h) ((geo c).oSt_inb h)) $$ Ho; iintro %w3 Ho
  iapply (wp_stO c ((geo c).oSt h) ((geo c).oSt_inb h)) $$ Ho; iintro Ho
  iapply (wpc_ret c)
  iapply Hk
  isplitl [HO]; · iexact HO
  isplitl [Ho]
  · iapply (Entails.of_eq (hold_congr (c := c) (q := fullShare) rfl
      (show silu (sum4 (ofChunk w) (ofChunk w0) (ofChunk w1) (ofChunk w2)) = ocV A B ((geo c).oMy h) ((geo c).oMy_inb h) from by
        show silu (sum4 (shapeCast _ w _) (shapeCast _ w0 _) (shapeCast _ w1 _) (shapeCast _ w2 _)) = _
        rw [hw, hw0, hw1, hw2]
        exact (ocV_my A B c h _).symm)))
    iexact Ho
  isplitl [HZ Hm0 Hm1 Hm2]
  · isplitl [HZ]; · iexact HZ
    isplitl [Hm0]; · iapply (Entails.of_eq (landed_22 A B c h).symm); iexact Hm0
    isplitl [Hm1]; · iapply (Entails.of_eq (landed_21 A B c h).symm); iexact Hm1
    iapply (Entails.of_eq (landed_20 A B c h).symm); iexact Hm2
  isplitl [HD0]; · iexact HD0
  isplitl [HD1] <;> iassumption

end Cert.KernelIdeal.Silu

end
-- ==== Proof.Steps3.lean ====
/-
The steps of a lane that share out the finished chunk, the rings of the all-gather, and the waits for
what was lent.
-/
module

public import proofs.«01_k».proof.Proof.Steps2

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

variable (A : Dev nD → CA F) (B : Dev nD → CB F) (K : Dev nD × Option (Fin 152) → ℕ)

/-! ### A row group of the result in a lane -/

abbrev my (c : Dev nD) (h : Fin 4) (q : PosShare TreeShare) : sProp 𝕄 :=
  hold c (oc ((geo c).oMy h) ((geo c).oMy_inb h)) q (ocV A B _ ((geo c).oMy_inb h))
abbrev pk (c : Dev nD) (h : Fin 4) (s : Fin 3) (q : PosShare TreeShare) : sProp 𝕄 :=
  hold c (ocIn c h s) q (ocV A B _ (ocIn_inb c h s))
abbrev top (c : Dev nD) (h : Fin 4) (q : PosShare TreeShare) : sProp 𝕄 :=
  hold c (oh ((geo c).gTS h 0) ((geo c).gTS_inb h 0)) q (ohV A B _ ((geo c).gTS_inb h 0))
abbrev bot (c : Dev nD) (h : Fin 4) (q : PosShare TreeShare) : sProp 𝕄 :=
  hold c (oh ((geo c).gBS h 0) ((geo c).gBS_inb h 0)) q (ohV A B _ ((geo c).gBS_inb h 0))

def grpSet (h : Fin 4) (p : ℕ) : Finset S2048x2048.Idx :=
  Finset.univ.filter fun i => (i 1).val / 512 = h.val ∧ 512 * p ≤ (i 0).val ∧ (i 0).val < 512 * p + 512
theorem mem_grpSet (h : Fin 4) (p : ℕ) (i : S2048x2048.Idx) :
    i ∈ grpSet h p ↔ (i 1).val / 512 = h.val ∧ 512 * p ≤ (i 0).val ∧ (i 0).val < 512 * p + 512 := by simp [grpSet]

/-- The row group that a device's row of the mesh finishes. -/
def laneG (c : Dev nD) (h : Fin 4) (q : PosShare TreeShare) : sProp 𝕄 :=
  ((c : Thread nD τ).loc cc0_stg2_0) ↦[grpSet h (pp c)]{q} OUT A B

/-- The rows of a device's column, its own first, in the order in which their chunks land. -/
def ilist (c : Dev nD) : Fin 4 → ℕ := ![zz c, zin c 0, zin c 1, zin c 2]
theorem ilist_lt (c : Dev nD) (j : Fin 4) : ilist c j < 4 := by revert c j; decide +kernel
theorem ilist_inj : ∀ c j j', ilist c j = ilist c j' → j = j' := by decide +kernel
theorem ilist_surj : ∀ c (z : Fin 4), ∃ j, ilist c j = z.val := by decide +kernel
theorem ilist_inb (c : Dev nD) (h j : Fin 4) :
    ∀ a, oOff (512 * pp c + 128 * ilist c j) h a + S128x512.size a ≤ S2048x2048.size a :=
  oOff_inb128 h (by have := pp_lt c; have := ilist_lt c j; omega)

theorem laneG_chunks (c : Dev nD) (h : Fin 4) (q : PosShare TreeShare) :
    laneG A B c h q = iprop(my A B c h q ∗ pk A B c h 0 q ∗ pk A B c h 1 q ∗ pk A B c h 2 q) := by
  have e := cut_pts (F := F) (ℓ := (c : Thread nD τ).loc cc0_stg2_0) (q := q) (f := OUT A B) (grpSet h (pp c))
    (fun j : Fin 4 => (oc (oOff (512 * pp c + 128 * ilist c j) h) (ilist_inb c h j)).view.set)
    (fun i => by
      rw [mem_grpSet]
      constructor
      · rintro ⟨hi, h1, h2⟩
        obtain ⟨j, hj⟩ := ilist_surj c ⟨((i 0).val - 512 * pp c) / 128, by omega⟩
        refine ⟨j, (mem_oc _ h _ i).mpr ⟨hi, ?_, ?_⟩⟩
        · rw [hj]; show 512 * pp c + 128 * (((i 0).val - 512 * pp c) / 128) ≤ _; omega
        · rw [hj]; show _ < 512 * pp c + 128 * (((i 0).val - 512 * pp c) / 128) + 128; omega
      · rintro ⟨j, hj⟩
        have h1 := (mem_oc _ h _ i).mp hj
        have h2 := ilist_lt c j
        exact ⟨h1.1, by omega, by omega⟩)
    (fun i j j' hj hj' => by
      have h1 := (mem_oc _ h _ i).mp hj
      have h2 := (mem_oc _ h _ i).mp hj'
      exact ilist_inj c j j' (by omega))
  unfold laneG
  rw [e, bigSep_univ_eq_bigSepL [0, 1, 2, 3] (by decide) (by decide), bigSepL_cons_cons, bigSepL_cons_cons, bigSepL_cons_cons, bigSepL_singleton]
  have p : ∀ j : Fin 4, _ = _ := fun j => hold_eq c (oc (oOff (512 * pp c + 128 * ilist c j) h) (ilist_inb c h j)) q (OUT A B)
  have p0 : my A B c h q = _ := p 0
  have p1 : pk A B c h 0 q = _ := p 1
  have p2 : pk A B c h 1 q = _ := p 2
  have p3 : pk A B c h 2 q = _ := p 3
  rw [p0, p1, p2, p3]
  rfl

theorem e_gST0 : ∀ c, gST c 0 = pp c := by decide +kernel
theorem e_gSB0 : ∀ c, gSB c 0 = pp c := by decide +kernel

theorem laneG_halves (c : Dev nD) (h : Fin 4) (q : PosShare TreeShare) :
    laneG A B c h q = iprop(top A B c h q ∗ bot A B c h q) := by
  have hp := pp_lt c
  have i0 : ∀ a, oOff (512 * pp c + 256 * 0) h a + S256x512.size a ≤ S2048x2048.size a := oOff_inb256 h (by omega)
  have i1 : ∀ a, oOff (512 * pp c + 256 * 1) h a + S256x512.size a ≤ S2048x2048.size a := oOff_inb256 h (by omega)
  have ib : ∀ (j : Fin 2) a, oOff (512 * pp c + 256 * j.val) h a + S256x512.size a ≤ S2048x2048.size a :=
    fun j => oOff_inb256 h (by have := j.isLt; omega)
  have e := cut_pts (F := F) (ℓ := (c : Thread nD τ).loc cc0_stg2_0) (q := q) (f := OUT A B) (grpSet h (pp c))
    (fun j : Fin 2 => (oh (oOff (512 * pp c + 256 * j.val) h) (ib j)).view.set)
    (fun i => by
      rw [mem_grpSet]
      constructor
      · rintro ⟨hi, h1, h2⟩
        by_cases h3 : (i 0).val < 512 * pp c + 256
        · exact ⟨0, (mem_oh _ h _ i).mpr ⟨hi, by show 512 * pp c + 256 * 0 ≤ _; omega, by show _ < 512 * pp c + 256 * 0 + 256; omega⟩⟩
        · exact ⟨1, (mem_oh _ h _ i).mpr ⟨hi, by show 512 * pp c + 256 * 1 ≤ _; omega, by show _ < 512 * pp c + 256 * 1 + 256; omega⟩⟩
      · rintro ⟨j, hj⟩
        have h1 := (mem_oh _ h _ i).mp hj
        have h2 := j.isLt
        exact ⟨h1.1, by omega, by omega⟩)
    (fun i j j' hj hj' => by
      have h1 := (mem_oh _ h _ i).mp hj
      have h2 := (mem_oh _ h _ i).mp hj'
      exact Fin.ext (by omega))
  unfold laneG
  rw [e, bigSep_univ_eq_bigSepL [0, 1] (by decide) (by decide), bigSepL_cons_cons, bigSepL_singleton]
  have o0 : (geo c).gTS h 0 = oOff (512 * pp c + 256 * ((0 : Fin 2) : ℕ)) h := by
    show oOff (512 * gST c 0) h = _; rw [e_gST0]; rfl
  have o1 : (geo c).gBS h 0 = oOff (512 * pp c + 256 * ((1 : Fin 2) : ℕ)) h := by
    show oOff (512 * gSB c 0 + 256) h = _; rw [e_gSB0]; rfl
  have p0 : top A B c h q = _ :=
    (hold_congr (oh_congr o0 _ (ib 0)) (ohV_congr A B o0 _ (ib 0))).trans (hold_eq c (oh _ (ib 0)) q (OUT A B))
  have p1 : bot A B c h q = _ :=
    (hold_congr (oh_congr o1 _ (ib 1)) (ohV_congr A B o1 _ (ib 1))).trans (hold_eq c (oh _ (ib 1)) q (OUT A B))
  rw [p0, p1]
  rfl

/-- A chunk whole is its left and its right share. -/
theorem my_share (c : Dev nD) (h : Fin 4) (q : PosShare TreeShare) : my A B c h q ⊣⊢ iprop(my A B c h q.left ∗ my A B c h q.right) :=
  hold_share c (oc ((geo c).oMy h) ((geo c).oMy_inb h)) q (OUT A B)
theorem pk_share (c : Dev nD) (h : Fin 4) (s : Fin 3) (q : PosShare TreeShare) :
    pk A B c h s q ⊣⊢ iprop(pk A B c h s q.left ∗ pk A B c h s q.right) :=
  hold_share c (ocIn c h s) q (OUT A B)
theorem top_share (c : Dev nD) (h : Fin 4) (q : PosShare TreeShare) : top A B c h q ⊣⊢ iprop(top A B c h q.left ∗ top A B c h q.right) :=
  hold_share c (oh ((geo c).gTS h 0) ((geo c).gTS_inb h 0)) q (OUT A B)
theorem bot_share (c : Dev nD) (h : Fin 4) (q : PosShare TreeShare) : bot A B c h q ⊣⊢ iprop(bot A B c h q.left ∗ bot A B c h q.right) :=
  hold_share c (oh ((geo c).gBS h 0) ((geo c).gBS_inb h 0)) q (OUT A B)

theorem lent_30 (c : Dev nD) (h : Fin 4) : my A B c h fullShare.left.left = lent A B (3, h, 0) c := rfl
theorem lent_31 (c : Dev nD) (h : Fin 4) : my A B c h fullShare.left.right.left = lent A B (3, h, 1) c := rfl
theorem lent_32 (c : Dev nD) (h : Fin 4) : my A B c h fullShare.left.right.right = lent A B (3, h, 2) c := rfl

/-- The left share of the finished chunk, in the three parts lent to its copies. -/
theorem my_three (c : Dev nD) (h : Fin 4) :
    my A B c h fullShare.left ⊢ iprop(lent A B (3, h, 0) c ∗ lent A B (3, h, 1) c ∗ lent A B (3, h, 2) c) := by
  rw [← lent_30, ← lent_31, ← lent_32]
  iintro H
  ihave H := (my_share A B c h fullShare.left).1 $$ H
  icases H with ⟨H0, H⟩
  ihave H := (my_share A B c h fullShare.left.right).1 $$ H
  icases H with ⟨H1, H2⟩
  isplitl [H0]; · iexact H0
  isplitl [H1]; · iexact H1
  iexact H2
theorem three_my (c : Dev nD) (h : Fin 4) :
    iprop(lent A B (3, h, 0) c ∗ lent A B (3, h, 1) c ∗ lent A B (3, h, 2) c) ⊢ my A B c h fullShare.left := by
  rw [← lent_30, ← lent_31, ← lent_32]
  iintro ⟨H0, H1, H2⟩
  iapply (my_share A B c h fullShare.left).2
  isplitl [H0]; · iexact H0
  iapply (my_share A B c h fullShare.left.right).2
  isplitl [H1]; · iexact H1
  iexact H2

/-! ### The steps -/

theorem wp_send3 (c : Dev nD) (h : Fin 4) (i : ℕ) (h0 : rank (3, h, 0) = i) (h1 : rank (3, h, 1) = i + 1) (h2 : rank (3, h, 2) = i + 2)
    {Q : PUnit → sProp 𝕄} :
    iprop(Ctx A B K ∗ my A B c h fullShare ∗ (Snd (3, h, 0) c ∗ Snd (3, h, 1) c ∗ Snd (3, h, 2) c) ∗ Ow c i)
      ⊢ iprop(((my A B c h fullShare.right ∗ (Sent (3, h, 0) c ∗ Sent (3, h, 1) c ∗ Sent (3, h, 2) c) ∗ Ow c (i + 3)) -∗ Q ⟨⟩)
        -∗ wpc c (send3 (F := F) (geo c) h) Q) := by
  unfold send3 sendO
  simp only [send, Prog.lift, Prog.bind_op, Prog.bind_ret, Prog.pure_eq_ret]
  iintro ⟨#HC, Hm, ⟨Hs0, Hs1, Hs2⟩, HO⟩ Hk
  ihave Hm := (my_share A B c h fullShare).1 $$ Hm
  icases Hm with ⟨Hl, Hr⟩
  ihave Hl := (my_three A B c h) $$ Hl
  icases Hl with ⟨Hl0, Hl1, Hl2⟩
  iapply (wp_xsend A B K c (3, h, 0) (oc ((geo c).oMy h) ((geo c).oMy_inb h)) _ (q3 0) _ (xdst (3, h, 0) c) _ _ _ _ _ rfl
    (s_send c (3, h, 0)) (s_recv3 c h 0) rfl (any_3 c h 0) (landed_3 A B c h 0) rfl i h0) $$ [Hl0 Hs0 HO]
  · isplitr; · iexact HC
    isplitl [Hs0]; · iexact Hs0
    isplitl [Hl0] <;> iassumption
  iintro ⟨Hs0, HO⟩
  iapply (wp_xsend A B K c (3, h, 1) (oc ((geo c).oMy h) ((geo c).oMy_inb h)) _ (q3 1) _ (xdst (3, h, 1) c) _ _ _ _ _ rfl
    (s_send c (3, h, 1)) (s_recv3 c h 1) rfl (any_3 c h 1) (landed_3 A B c h 1) rfl (i + 1) h1) $$ [Hl1 Hs1 HO]
  · isplitr; · iexact HC
    isplitl [Hs1]; · iexact Hs1
    isplitl [Hl1] <;> iassumption
  iintro ⟨Hs1, HO⟩
  iapply (wp_xsend A B K c (3, h, 2) (oc ((geo c).oMy h) ((geo c).oMy_inb h)) _ (q3 2) _ (xdst (3, h, 2) c) _ _ _ _ _ rfl
    (s_send c (3, h, 2)) (s_recv3 c h 2) rfl (any_3 c h 2) (landed_3 A B c h 2) rfl (i + 2) h2) $$ [Hl2 Hs2 HO]
  · isplitr; · iexact HC
    isplitl [Hs2]; · iexact Hs2
    isplitl [Hl2] <;> iassumption
  iintro ⟨Hs2, HO⟩
  iapply (wpc_ret c)
  iapply Hk
  isplitl [Hr]; · iexact Hr
  isplitl [Hs0 Hs1 Hs2]
  · isplitl [Hs0]; · iexact Hs0
    isplitl [Hs1] <;> iassumption
  iexact HO

theorem lent_40 (c : Dev nD) (h : Fin 4) : lent A B (4, h, 0) c = top A B c h fullShare.right := rfl
theorem lent_50 (c : Dev nD) (h : Fin 4) : lent A B (5, h, 0) c = bot A B c h fullShare.right := rfl
theorem landed_pk (c : Dev nD) (h : Fin 4) (s : Fin 3) : landed A B (3, h, s) c = pk A B c h s fullShare := rfl

/-- The right shares of the four chunks are those of the two halves. -/
theorem chunks_right (c : Dev nD) (h : Fin 4) :
    iprop(my A B c h fullShare.right ∗ pk A B c h 0 fullShare.right ∗ pk A B c h 1 fullShare.right ∗ pk A B c h 2 fullShare.right)
      ⊢ iprop(lent A B (4, h, 0) c ∗ lent A B (5, h, 0) c) := by
  rw [← laneG_chunks, laneG_halves, lent_40, lent_50]
theorem chunks_left (c : Dev nD) (h : Fin 4) :
    iprop(my A B c h fullShare.left ∗ pk A B c h 0 fullShare.left ∗ pk A B c h 1 fullShare.left ∗ pk A B c h 2 fullShare.left)
      ⊢ iprop(top A B c h fullShare.left ∗ bot A B c h fullShare.left) := by
  rw [← laneG_chunks, laneG_halves]

theorem wp_wait3 (c : Dev nD) (h : Fin 4) (i : ℕ) (h0 : rank (3, h, 0) < i) (h1 : rank (3, h, 1) < i) (h2 : rank (3, h, 2) < i)
    {Q : PUnit → sProp 𝕄} :
    iprop(Ctx A B K ∗ Ow c i ∗ my A B c h fullShare.right ∗ Rcv (3, h, 0) c ∗ Rcv (3, h, 1) c ∗ Rcv (3, h, 2) c)
      ⊢ iprop(((Ow c i ∗ (pk A B c h 0 fullShare.left ∗ pk A B c h 1 fullShare.left ∗ pk A B c h 2 fullShare.left)
            ∗ (lent A B (4, h, 0) c ∗ lent A B (5, h, 0) c)
            ∗ Done false (3, h, 0) c ∗ Done false (3, h, 1) c ∗ Done false (3, h, 2) c) -∗ Q ⟨⟩)
        -∗ wpc c (wait3 (F := F) (geo c) h) Q) := by
  unfold wait3 waitO
  simp only [wait, Prog.lift, Prog.bind_op, Prog.bind_ret, Prog.pure_eq_ret]
  iintro ⟨#HC, HO, Hm, Hr0, Hr1, Hr2⟩ Hk
  iapply (wp_xrcvd A B K c (3, h, 2) _ _ _ _ _ (w_recv3 c h 0) rfl i h2) $$ [Hr2 HO]
  · isplitr; · iexact HC
    isplitl [Hr2] <;> iassumption
  iintro ⟨HD2, Hm2, HO⟩
  iapply (wp_xrcvd A B K c (3, h, 1) _ _ _ _ _ (w_recv3 c h 1) rfl i h1) $$ [Hr1 HO]
  · isplitr; · iexact HC
    isplitl [Hr1] <;> iassumption
  iintro ⟨HD1, Hm1, HO⟩
  iapply (wp_xrcvd A B K c (3, h, 0) _ _ _ _ _ (w_recv3 c h 2) rfl i h0) $$ [Hr0 HO]
  · isplitr; · iexact HC
    isplitl [Hr0] <;> iassumption
  iintro ⟨HD0, Hm0, HO⟩
  ihave Hm0 := (Entails.of_eq (landed_pk A B c h 0)) $$ Hm0
  ihave Hm1 := (Entails.of_eq (landed_pk A B c h 1)) $$ Hm1
  ihave Hm2 := (Entails.of_eq (landed_pk A B c h 2)) $$ Hm2
  ihave Hm0 := (pk_share A B c h 0 fullShare).1 $$ Hm0
  icases Hm0 with ⟨Hl0, Hm0⟩
  ihave Hm1 := (pk_share A B c h 1 fullShare).1 $$ Hm1
  icases Hm1 with ⟨Hl1, Hm1⟩
  ihave Hm2 := (pk_share A B c h 2 fullShare).1 $$ Hm2
  icases Hm2 with ⟨Hl2, Hm2⟩
  iapply (wpc_ret c)
  iapply Hk
  isplitl [HO]; · iexact HO
  isplitl [Hl0 Hl1 Hl2]
  · isplitl [Hl0]; · iexact Hl0
    isplitl [Hl1] <;> iassumption
  isplitl [Hm Hm0 Hm1 Hm2]
  · iapply (chunks_right A B c h)
    isplitl [Hm]; · iexact Hm
    isplitl [Hm0]; · iexact Hm0
    isplitl [Hm1] <;> iassumption
  isplitl [HD0]; · iexact HD0
  isplitl [HD1] <;> iassumption

theorem lent_4 (c : Dev nD) (h : Fin 4) (s : Fin 3) :
    lent A B (4, h, s) c = hold c (oh ((geo c).gTS h s) ((geo c).gTS_inb h s)) (q4 s) (ohV A B _ ((geo c).gTS_inb h s)) := rfl
theorem lent_5 (c : Dev nD) (h : Fin 4) (s : Fin 3) :
    lent A B (5, h, s) c = hold c (oh ((geo c).gBS h s) ((geo c).gBS_inb h s)) (q4 s) (ohV A B _ ((geo c).gBS_inb h s)) := rfl

theorem wp_send4 (c : Dev nD) (h : Fin 4) (s : Fin 3) (i : ℕ) (h0 : rank (4, h, s) = i) (h1 : rank (5, h, s) = i + 1)
    {Q : PUnit → sProp 𝕄} :
    iprop(Ctx A B K ∗ (lent A B (4, h, s) c ∗ lent A B (5, h, s) c) ∗ (Snd (4, h, s) c ∗ Snd (5, h, s) c) ∗ Ow c i)
      ⊢ iprop((((Sent (4, h, s) c ∗ Sent (5, h, s) c) ∗ Ow c (i + 2)) -∗ Q ⟨⟩)
        -∗ wpc c (send4 (F := F) (geo c) h s) Q) := by
  unfold send4
  simp only [send, Prog.lift, Prog.bind_op, Prog.bind_ret, Prog.pure_eq_ret]
  iintro ⟨#HC, ⟨Hl0, Hl1⟩, ⟨Hs0, Hs1⟩, HO⟩ Hk
  iapply (wp_xsend A B K c (4, h, s) (oh ((geo c).gTS h s) ((geo c).gTS_inb h s)) _ (q4 s) _ (xdst (4, h, s) c) _ _ _ _ _ rfl
    (s_send c (4, h, s)) (s_recv4 c h s) rfl (any_4 c h s) (landed_4 A B c h s) rfl i h0) $$ [Hl0 Hs0 HO]
  · isplitr; · iexact HC
    isplitl [Hs0]; · iexact Hs0
    isplitl [Hl0] <;> iassumption
  iintro ⟨Hs0, HO⟩
  iapply (wp_xsend A B K c (5, h, s) (oh ((geo c).gBS h s) ((geo c).gBS_inb h s)) _ (q4 s) _ (xdst (5, h, s) c) _ _ _ _ _ rfl
    (s_send c (5, h, s)) (s_recv5 c h s) rfl (any_5 c h s) (landed_5 A B c h s) rfl (i + 1) h1) $$ [Hl1 Hs1 HO]
  · isplitr; · iexact HC
    isplitl [Hs1]; · iexact Hs1
    isplitl [Hl1] <;> iassumption
  iintro ⟨Hs1, HO⟩
  iapply (wpc_ret c)
  iapply Hk
  isplitl [Hs0 Hs1]
  · isplitl [Hs0] <;> iassumption
  iexact HO

theorem wp_wait4 (c : Dev nD) (h : Fin 4) (s : Fin 3) (i : ℕ) (h0 : rank (4, h, s) < i) (h1 : rank (5, h, s) < i)
    {Q : PUnit → sProp 𝕄} :
    iprop(Ctx A B K ∗ Ow c i ∗ Rcv (4, h, s) c ∗ Rcv (5, h, s) c)
      ⊢ iprop(((Ow c i ∗ (landed A B (4, h, s) c ∗ landed A B (5, h, s) c) ∗ Done false (4, h, s) c ∗ Done false (5, h, s) c) -∗ Q ⟨⟩)
        -∗ wpc c (wait4 (F := F) (geo c) h s) Q) := by
  unfold wait4
  simp only [wait, Prog.lift, Prog.bind_op, Prog.bind_ret, Prog.pure_eq_ret]
  iintro ⟨#HC, HO, Hr0, Hr1⟩ Hk
  iapply (wp_xrcvd A B K c (4, h, s) _ _ _ _ _ (w_recv4 c h s) rfl i h0) $$ [Hr0 HO]
  · isplitr; · iexact HC
    isplitl [Hr0] <;> iassumption
  iintro ⟨HD0, Hm0, HO⟩
  iapply (wp_xrcvd A B K c (5, h, s) _ _ _ _ _ (w_recv5 c h s) rfl i h1) $$ [Hr1 HO]
  · isplitr; · iexact HC
    isplitl [Hr1] <;> iassumption
  iintro ⟨HD1, Hm1, HO⟩
  iapply (wpc_ret c)
  iapply Hk
  isplitl [HO]; · iexact HO
  isplitl [Hm0 Hm1]
  · isplitl [Hm0] <;> iassumption
  isplitl [HD0] <;> iassumption

/-- The waits at the end of a lane, three of them or two. -/
theorem wp_drain2 (c : Dev nD) (h : Fin 4) (i : ℕ) {Q : PUnit → sProp 𝕄} :
    iprop(Ctx A B K ∗ Ow c i ∗ Sent (2, h, 0) c ∗ Sent (2, h, 1) c ∗ Sent (2, h, 2) c)
      ⊢ iprop(((Ow c i ∗ (lent A B (2, h, 0) c ∗ lent A B (2, h, 1) c ∗ lent A B (2, h, 2) c)
            ∗ Done true (2, h, 0) c ∗ Done true (2, h, 1) c ∗ Done true (2, h, 2) c) -∗ Q ⟨⟩)
        -∗ wpc c (drain2 (F := F) (geo c) h) Q) := by
  unfold drain2 drainZ
  simp only [wait, Prog.lift, Prog.bind_op, Prog.bind_ret, Prog.pure_eq_ret]
  iintro ⟨#HC, HO, Hr0, Hr1, Hr2⟩ Hk
  iapply (wp_xsent A B K c (2, h, 0) _ _ _ _ _ (s_send c (2, h, 0)) rfl i) $$ [Hr0 HO]
  · isplitr; · iexact HC
    isplitl [Hr0] <;> iassumption
  iintro ⟨HD0, Hm0, HO⟩
  iapply (wp_xsent A B K c (2, h, 1) _ _ _ _ _ (s_send c (2, h, 1)) rfl i) $$ [Hr1 HO]
  · isplitr; · iexact HC
    isplitl [Hr1] <;> iassumption
  iintro ⟨HD1, Hm1, HO⟩
  iapply (wp_xsent A B K c (2, h, 2) _ _ _ _ _ (s_send c (2, h, 2)) rfl i) $$ [Hr2 HO]
  · isplitr; · iexact HC
    isplitl [Hr2] <;> iassumption
  iintro ⟨HD2, Hm2, HO⟩
  iapply (wpc_ret c)
  iapply Hk
  isplitl [HO]; · iexact HO
  isplitl [Hm0 Hm1 Hm2]
  · isplitl [Hm0]; · iexact Hm0
    isplitl [Hm1] <;> iassumption
  isplitl [HD0]; · iexact HD0
  isplitl [HD1] <;> iassumption

theorem wp_drain3 (c : Dev nD) (h : Fin 4) (i : ℕ) {Q : PUnit → sProp 𝕄} :
    iprop(Ctx A B K ∗ Ow c i ∗ Sent (3, h, 0) c ∗ Sent (3, h, 1) c ∗ Sent (3, h, 2) c)
      ⊢ iprop(((Ow c i ∗ my A B c h fullShare.left
            ∗ Done true (3, h, 0) c ∗ Done true (3, h, 1) c ∗ Done true (3, h, 2) c) -∗ Q ⟨⟩)
        -∗ wpc c (drain3 (F := F) (geo c) h) Q) := by
  unfold drain3 drainO
  simp only [wait, Prog.lift, Prog.bind_op, Prog.bind_ret, Prog.pure_eq_ret]
  iintro ⟨#HC, HO, Hr0, Hr1, Hr2⟩ Hk
  iapply (wp_xsent A B K c (3, h, 0) _ _ _ _ _ (s_send c (3, h, 0)) rfl i) $$ [Hr0 HO]
  · isplitr; · iexact HC
    isplitl [Hr0] <;> iassumption
  iintro ⟨HD0, Hm0, HO⟩
  iapply (wp_xsent A B K c (3, h, 1) _ _ _ _ _ (s_send c (3, h, 1)) rfl i) $$ [Hr1 HO]
  · isplitr; · iexact HC
    isplitl [Hr1] <;> iassumption
  iintro ⟨HD1, Hm1, HO⟩
  iapply (wp_xsent A B K c (3, h, 2) _ _ _ _ _ (s_send c (3, h, 2)) rfl i) $$ [Hr2 HO]
  · isplitr; · iexact HC
    isplitl [Hr2] <;> iassumption
  iintro ⟨HD2, Hm2, HO⟩
  iapply (wpc_ret c)
  iapply Hk
  isplitl [HO]; · iexact HO
  isplitl [Hm0 Hm1 Hm2]
  · iapply (three_my A B c h)
    isplitl [Hm0]; · iexact Hm0
    isplitl [Hm1] <;> iassumption
  isplitl [HD0]; · iexact HD0
  isplitl [HD1] <;> iassumption

theorem wp_drain4 (c : Dev nD) (h : Fin 4) (s : Fin 3) (i : ℕ) {Q : PUnit → sProp 𝕄} :
    iprop(Ctx A B K ∗ Ow c i ∗ Sent (4, h, s) c ∗ Sent (5, h, s) c)
      ⊢ iprop(((Ow c i ∗ (lent A B (4, h, s) c ∗ lent A B (5, h, s) c) ∗ Done true (4, h, s) c ∗ Done true (5, h, s) c) -∗ Q ⟨⟩)
        -∗ wpc c (drain4 (F := F) (geo c) h s) Q) := by
  unfold drain4
  simp only [wait, Prog.lift, Prog.bind_op, Prog.bind_ret, Prog.pure_eq_ret]
  iintro ⟨#HC, HO, Hr0, Hr1⟩ Hk
  iapply (wp_xsent A B K c (4, h, s) _ _ _ _ _ (s_send c (4, h, s)) rfl i) $$ [Hr0 HO]
  · isplitr; · iexact HC
    isplitl [Hr0] <;> iassumption
  iintro ⟨HD0, Hm0, HO⟩
  iapply (wp_xsent A B K c (5, h, s) _ _ _ _ _ (s_send c (5, h, s)) rfl i) $$ [Hr1 HO]
  · isplitr; · iexact HC
    isplitl [Hr1] <;> iassumption
  iintro ⟨HD1, Hm1, HO⟩
  iapply (wpc_ret c)
  iapply Hk
  isplitl [HO]; · iexact HO
  isplitl [Hm0 Hm1]
  · isplitl [Hm0] <;> iassumption
  isplitl [HD0] <;> iassumption

end Cert.KernelIdeal.Silu

end
-- ==== Proof.Lane.lean ====
/-
A lane from step to step: what it holds before a step, what the step takes from what the lane was given
at the start, and what it leaves for the end. Then the whole schedule.
-/
module

public import proofs.«01_k».proof.Proof.Steps3

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

/-- Of two families at one number; of one family at its three numbers. -/
abbrev two (f : X → sProp 𝕄) (a b : Fin 6) (h : Fin 4) (s : Fin 3) : sProp 𝕄 := iprop(f (a, h, s) ∗ f (b, h, s))
abbrev three (f : X → sProp 𝕄) (k : Fin 6) (h : Fin 4) : sProp 𝕄 := iprop(f (k, h, 0) ∗ f (k, h, 1) ∗ f (k, h, 2))

variable (A : Dev nD → CA F) (B : Dev nD → CB F) (K : Dev nD × Option (Fin 152) → ℕ)

/-- While the rings of the all-gather turn: the peers' chunks and what the exchanges have lent. -/
abbrev kept (c : Dev nD) (h : Fin 4) : sProp 𝕄 :=
  iprop((pk A B c h 0 fullShare.left ∗ pk A B c h 1 fullShare.left ∗ pk A B c h 2 fullShare.left)
    ∗ three (fun x => Sent x c) 2 h ∗ three (fun x => Sent x c) 3 h)

/-- What lane `h` of device `c` holds before step `n`. -/
def Hand (c : Dev nD) (h : Fin 4) (n : ℕ) : sProp 𝕄 :=
  match n with
  | 1 => two (fun x => lent A B x c) 0 1 h 0
  | 2 => two (fun x => Sent x c) 0 1 h 0
  | 3 => two (fun x => lent A B x c) 0 1 h 1
  | 4 => two (fun x => Sent x c) 0 1 h 1
  | 5 => two (fun x => lent A B x c) 0 1 h 2
  | 6 => two (fun x => Sent x c) 0 1 h 2
  | 7 => iprop(myZ A B c h ∗ three (fun x => lent A B x c) 2 h)
  | 8 => iprop(myZ A B c h ∗ three (fun x => Sent x c) 2 h)
  | 9 => iprop(my A B c h fullShare ∗ three (fun x => Sent x c) 2 h)
  | 10 => iprop(my A B c h fullShare.right ∗ three (fun x => Sent x c) 2 h ∗ three (fun x => Sent x c) 3 h)
  | 11 => iprop(kept A B c h ∗ two (fun x => lent A B x c) 4 5 h 0)
  | 12 => iprop(kept A B c h ∗ two (fun x => Sent x c) 4 5 h 0)
  | 13 => iprop((kept A B c h ∗ two (fun x => Sent x c) 4 5 h 0) ∗ two (fun x => lent A B x c) 4 5 h 1)
  | 14 => iprop((kept A B c h ∗ two (fun x => Sent x c) 4 5 h 0) ∗ two (fun x => Sent x c) 4 5 h 1)
  | 15 => iprop(((kept A B c h ∗ two (fun x => Sent x c) 4 5 h 0) ∗ two (fun x => Sent x c) 4 5 h 1) ∗ two (fun x => lent A B x c) 4 5 h 2)
  | 16 => iprop(((kept A B c h ∗ two (fun x => Sent x c) 4 5 h 0) ∗ two (fun x => Sent x c) 4 5 h 1) ∗ two (fun x => Sent x c) 4 5 h 2)
  | 17 => iprop(((kept A B c h ∗ two (fun x => Sent x c) 4 5 h 0) ∗ two (fun x => Sent x c) 4 5 h 1) ∗ two (fun x => Sent x c) 4 5 h 2)
  | 18 => iprop((pk A B c h 0 fullShare.left ∗ pk A B c h 1 fullShare.left ∗ pk A B c h 2 fullShare.left) ∗ three (fun x => Sent x c) 3 h
      ∗ two (fun x => Sent x c) 4 5 h 0 ∗ two (fun x => Sent x c) 4 5 h 1 ∗ two (fun x => Sent x c) 4 5 h 2)
  | 19 => iprop((top A B c h fullShare.left ∗ bot A B c h fullShare.left)
      ∗ two (fun x => Sent x c) 4 5 h 0 ∗ two (fun x => Sent x c) 4 5 h 1 ∗ two (fun x => Sent x c) 4 5 h 2)
  | 20 => iprop(two (fun x => Sent x c) 4 5 h 1 ∗ two (fun x => Sent x c) 4 5 h 2)
  | 21 => two (fun x => Sent x c) 4 5 h 2
  | _ => iprop(emp)

/-- What step `n` takes of what the lane was given. -/
def Need (c : Dev nD) (h : Fin 4) (n : ℕ) : sProp 𝕄 :=
  match n with
  | 0 => iprop(holdAny c (slot bR h 0) ∗ holdAny c (slot bL h 0))
  | 1 => two (fun x => Snd x c) 0 1 h 0
  | 2 => two (fun x => Rcv x c) 0 1 h 0
  | 3 => two (fun x => Snd x c) 0 1 h 1
  | 4 => two (fun x => Rcv x c) 0 1 h 1
  | 5 => two (fun x => Snd x c) 0 1 h 2
  | 6 => iprop(two (fun x => Rcv x c) 0 1 h 2 ∗ holdAny c (zh h 0) ∗ holdAny c (zh h 1))
  | 7 => three (fun x => Snd x c) 2 h
  | 8 => iprop(holdAny c (oc ((geo c).oMy h) ((geo c).oMy_inb h)) ∗ three (fun x => Rcv x c) 2 h)
  | 9 => three (fun x => Snd x c) 3 h
  | 10 => three (fun x => Rcv x c) 3 h
  | 11 => two (fun x => Snd x c) 4 5 h 0
  | 12 => two (fun x => Rcv x c) 4 5 h 0
  | 13 => two (fun x => Snd x c) 4 5 h 1
  | 14 => two (fun x => Rcv x c) 4 5 h 1
  | 15 => two (fun x => Snd x c) 4 5 h 2
  | 16 => two (fun x => Rcv x c) 4 5 h 2
  | _ => iprop(emp)

/-- What step `n` leaves. -/
def Left (c : Dev nD) (h : Fin 4) (n : ℕ) : sProp 𝕄 :=
  match n with
  | 2 => iprop(two (fun x => lent A B x c) 0 1 h 0 ∗ ringDone c h 0)
  | 4 => iprop(two (fun x => lent A B x c) 0 1 h 1 ∗ ringDone c h 1)
  | 6 => iprop(two (fun x => lent A B x c) 0 1 h 2 ∗ two (fun x => landed A B x c) 0 1 h 2 ∗ ringDone c h 2)
  | 8 => iprop((myZ A B c h ∗ three (fun x => landed A B x c) 2 h) ∗ three (fun x => Done false x c) 2 h)
  | 10 => three (fun x => Done false x c) 3 h
  | 12 => two (fun x => Done false x c) 4 5 h 0
  | 14 => two (fun x => Done false x c) 4 5 h 1
  | 16 => iprop(two (fun x => landed A B x c) 4 5 h 2 ∗ two (fun x => Done false x c) 4 5 h 2)
  | 17 => iprop(three (fun x => lent A B x c) 2 h ∗ three (fun x => Done true x c) 2 h)
  | 18 => three (fun x => Done true x c) 3 h
  | 19 => iprop((top A B c h fullShare ∗ bot A B c h fullShare) ∗ two (fun x => Done true x c) 4 5 h 0)
  | 20 => iprop(two (fun x => lent A B x c) 4 5 h 1 ∗ two (fun x => Done true x c) 4 5 h 1)
  | 21 => iprop(two (fun x => lent A B x c) 4 5 h 2 ∗ two (fun x => Done true x c) 4 5 h 2)
  | _ => iprop(emp)

/-- The copies that step `n` starts come next in the order, and those it waits for have been started. -/
def okP (h : Fin 4) (n i : ℕ) : Prop :=
  match n with
  | 1 => rank (0, h, 0) = i ∧ rank (1, h, 0) = i + 1
  | 2 => rank (0, h, 0) < i ∧ rank (1, h, 0) < i
  | 3 => rank (0, h, 1) = i ∧ rank (1, h, 1) = i + 1
  | 4 => rank (0, h, 1) < i ∧ rank (1, h, 1) < i
  | 5 => rank (0, h, 2) = i ∧ rank (1, h, 2) = i + 1
  | 6 => rank (0, h, 2) < i ∧ rank (1, h, 2) < i
  | 7 => rank (2, h, 0) = i ∧ rank (2, h, 1) = i + 1 ∧ rank (2, h, 2) = i + 2
  | 8 => rank (2, h, 0) < i ∧ rank (2, h, 1) < i ∧ rank (2, h, 2) < i
  | 9 => rank (3, h, 0) = i ∧ rank (3, h, 1) = i + 1 ∧ rank (3, h, 2) = i + 2
  | 10 => rank (3, h, 0) < i ∧ rank (3, h, 1) < i ∧ rank (3, h, 2) < i
  | 11 => rank (4, h, 0) = i ∧ rank (5, h, 0) = i + 1
  | 12 => rank (4, h, 0) < i ∧ rank (5, h, 0) < i
  | 13 => rank (4, h, 1) = i ∧ rank (5, h, 1) = i + 1
  | 14 => rank (4, h, 1) < i ∧ rank (5, h, 1) < i
  | 15 => rank (4, h, 2) = i ∧ rank (5, h, 2) = i + 1
  | 16 => rank (4, h, 2) < i ∧ rank (5, h, 2) < i
  | _ => True

instance (h : Fin 4) (n i : ℕ) : Decidable (okP h n i) := by unfold okP; split <;> infer_instance

/-- The triple of a step. -/
abbrev StepOk (c : Dev nD) (h : Fin 4) (n i : ℕ) : Prop :=
  iprop(Ctx A B K ∗ Hand A B c h n ∗ Need c h n ∗ (ptA A c ∗ ptB B c ∗ Ow c i))
    ⊢ wpc c (step (F := F) (geo c) h n) fun _ =>
        iprop(Hand A B c h (n + 1) ∗ Left A B c h n ∗ (ptA A c ∗ ptB B c ∗ Ow c (i + (sends n).length)))

theorem ok_0 (c : Dev nD) (h : Fin 4) (i : ℕ) : StepOk A B K c h 0 i := by
  show iprop(Ctx A B K ∗ emp ∗ (holdAny c (slot bR h 0) ∗ holdAny c (slot bL h 0)) ∗ (ptA A c ∗ ptB B c ∗ Ow c i))
    ⊢ wpc c (stage (F := F) (geo c) h) fun _ => iprop((hold c (slot bR h 0) fullShare (SR A B 0 c h) ∗ hold c (slot bL h 0) fullShare (SL A B 0 c h))
      ∗ emp ∗ (ptA A c ∗ ptB B c ∗ Ow c i))
  iintro ⟨-, -, ⟨H0, H1⟩, HA, HB, HO⟩
  iapply (wp_stage A B c h) $$ [HA HB H0 H1]
  · isplitl [HA]; · iexact HA
    isplitl [HB]; · iexact HB
    isplitl [H0] <;> iassumption
  iintro ⟨HA, HB, H0, H1⟩
  isplitl [H0 H1]
  · isplitl [H0] <;> iassumption
  isplitr; · iempintro
  isplitl [HA]; · iexact HA
  isplitl [HB] <;> iassumption

/-- A start of the rings. -/
theorem ok_start (c : Dev nD) (h : Fin 4) (s : Fin 3) (i : ℕ) (hr : rank (0, h, s) = i ∧ rank (1, h, s) = i + 1) :
    iprop(Ctx A B K ∗ two (fun x => lent A B x c) 0 1 h s ∗ two (fun x => Snd x c) 0 1 h s ∗ (ptA A c ∗ ptB B c ∗ Ow c i))
      ⊢ wpc c (start (F := F) (geo c) h s) fun _ =>
          iprop(two (fun x => Sent x c) 0 1 h s ∗ emp ∗ (ptA A c ∗ ptB B c ∗ Ow c (i + 2))) := by
  iintro ⟨#HC, Hl, Hs, HA, HB, HO⟩
  iapply (wp_start A B K c h s i hr.1 hr.2) $$ [Hl Hs HO]
  · isplitr; · iexact HC
    isplitl [Hl]; · iexact Hl
    isplitl [Hs] <;> iassumption
  iintro ⟨Hs, HO⟩
  isplitl [Hs]; · iexact Hs
  isplitr; · iempintro
  isplitl [HA]; · iexact HA
  isplitl [HB] <;> iassumption

/-- A round of the rings that is not the last. -/
theorem ok_finA (c : Dev nD) (h : Fin 4) (s s' : Fin 3) (i : ℕ) (hr : rank (0, h, s) < i ∧ rank (1, h, s) < i)
    (e0 : hold c (slot bR h s.succ) fullShare (SR A B (s.val + 1) c h) = lent A B (0, h, s') c)
    (e1 : hold c (slot bL h s.succ) fullShare (SL A B (s.val + 1) c h) = lent A B (1, h, s') c) :
    iprop(Ctx A B K ∗ two (fun x => Sent x c) 0 1 h s ∗ two (fun x => Rcv x c) 0 1 h s ∗ (ptA A c ∗ ptB B c ∗ Ow c i))
      ⊢ wpc c (finA (F := F) (geo c) h s) fun _ =>
          iprop(two (fun x => lent A B x c) 0 1 h s' ∗ (two (fun x => lent A B x c) 0 1 h s ∗ ringDone c h s)
            ∗ (ptA A c ∗ ptB B c ∗ Ow c i)) := by
  iintro ⟨#HC, Hs, ⟨Hr0, Hr1⟩, Hc⟩
  iapply (wp_finA A B K c h s i hr.1 hr.2) $$ [Hs Hr0 Hr1 Hc]
  · isplitr; · iexact HC
    isplitl [Hc]; · iexact Hc
    isplitl [Hs]; · iexact Hs
    isplitl [Hr0] <;> iassumption
  iintro ⟨Hc, ⟨H0, H1⟩, Hl, HD⟩
  isplitl [H0 H1]
  · isplitl [H0]
    · iapply (Entails.of_eq e0); iexact H0
    · iapply (Entails.of_eq e1); iexact H1
  isplitl [Hl HD]
  · isplitl [Hl] <;> iassumption
  iexact Hc

theorem ok_6 (c : Dev nD) (h : Fin 4) (i : ℕ) (hr : okP h 6 i) : StepOk A B K c h 6 i := by
  show iprop(Ctx A B K ∗ two (fun x => Sent x c) 0 1 h 2 ∗ (two (fun x => Rcv x c) 0 1 h 2 ∗ holdAny c (zh h 0) ∗ holdAny c (zh h 1))
      ∗ (ptA A c ∗ ptB B c ∗ Ow c i))
    ⊢ wpc c (finB (F := F) (geo c) h) fun _ => iprop((myZ A B c h ∗ three (fun x => lent A B x c) 2 h)
      ∗ (two (fun x => lent A B x c) 0 1 h 2 ∗ two (fun x => landed A B x c) 0 1 h 2 ∗ ringDone c h 2) ∗ (ptA A c ∗ ptB B c ∗ Ow c i))
  iintro ⟨#HC, Hs, ⟨Hr, Hz⟩, Hc⟩
  iapply (wp_finB A B K c h i hr.1 hr.2) $$ [Hs Hr Hz Hc]
  · isplitr; · iexact HC
    isplitl [Hc]; · iexact Hc
    isplitl [Hs]; · iexact Hs
    isplitl [Hr] <;> iassumption
  iintro ⟨Hc, Hz, H⟩
  isplitl [Hz]; · iexact Hz
  isplitl [H]; · iexact H
  iexact Hc

theorem ok_7 (c : Dev nD) (h : Fin 4) (i : ℕ) (hr : okP h 7 i) : StepOk A B K c h 7 i := by
  show iprop(Ctx A B K ∗ (myZ A B c h ∗ three (fun x => lent A B x c) 2 h) ∗ three (fun x => Snd x c) 2 h ∗ (ptA A c ∗ ptB B c ∗ Ow c i))
    ⊢ wpc c (send2 (F := F) (geo c) h) fun _ => iprop((myZ A B c h ∗ three (fun x => Sent x c) 2 h) ∗ emp ∗ (ptA A c ∗ ptB B c ∗ Ow c (i + 3)))
  iintro ⟨#HC, ⟨Hz, Hl⟩, Hs, HA, HB, HO⟩
  iapply (wp_send2 A B K c h i hr.1 hr.2.1 hr.2.2) $$ [Hl Hs HO]
  · isplitr; · iexact HC
    isplitl [Hl]; · iexact Hl
    isplitl [Hs] <;> iassumption
  iintro ⟨Hs, HO⟩
  isplitl [Hz Hs]
  · isplitl [Hz] <;> iassumption
  isplitr; · iempintro
  isplitl [HA]; · iexact HA
  isplitl [HB] <;> iassumption

theorem ok_8 (c : Dev nD) (h : Fin 4) (i : ℕ) (hr : okP h 8 i) : StepOk A B K c h 8 i := by
  show iprop(Ctx A B K ∗ (myZ A B c h ∗ three (fun x => Sent x c) 2 h)
      ∗ (holdAny c (oc ((geo c).oMy h) ((geo c).oMy_inb h)) ∗ three (fun x => Rcv x c) 2 h) ∗ (ptA A c ∗ ptB B c ∗ Ow c i))
    ⊢ wpc c (red (F := F) (geo c) h) fun _ => iprop((my A B c h fullShare ∗ three (fun x => Sent x c) 2 h)
      ∗ ((myZ A B c h ∗ three (fun x => landed A B x c) 2 h) ∗ three (fun x => Done false x c) 2 h) ∗ (ptA A c ∗ ptB B c ∗ Ow c i))
  iintro ⟨#HC, ⟨Hz, Hs⟩, ⟨Ho, Hr⟩, HA, HB, HO⟩
  iapply (wp_red A B K c h i hr.1 hr.2.1 hr.2.2) $$ [Hz Ho Hr HO]
  · isplitr; · iexact HC
    isplitl [HO]; · iexact HO
    isplitl [Hz]; · iexact Hz
    isplitl [Ho] <;> iassumption
  iintro ⟨HO, Hm, Hz, HD⟩
  isplitl [Hm Hs]
  · isplitl [Hm] <;> iassumption
  isplitl [Hz HD]
  · isplitl [Hz] <;> iassumption
  isplitl [HA]; · iexact HA
  isplitl [HB] <;> iassumption

theorem ok_9 (c : Dev nD) (h : Fin 4) (i : ℕ) (hr : okP h 9 i) : StepOk A B K c h 9 i := by
  show iprop(Ctx A B K ∗ (my A B c h fullShare ∗ three (fun x => Sent x c) 2 h) ∗ three (fun x => Snd x c) 3 h ∗ (ptA A c ∗ ptB B c ∗ Ow c i))
    ⊢ wpc c (send3 (F := F) (geo c) h) fun _ => iprop((my A B c h fullShare.right ∗ three (fun x => Sent x c) 2 h
      ∗ three (fun x => Sent x c) 3 h) ∗ emp ∗ (ptA A c ∗ ptB B c ∗ Ow c (i + 3)))
  iintro ⟨#HC, ⟨Hm, Hs2⟩, Hs, HA, HB, HO⟩
  iapply (wp_send3 A B K c h i hr.1 hr.2.1 hr.2.2) $$ [Hm Hs HO]
  · isplitr; · iexact HC
    isplitl [Hm]; · iexact Hm
    isplitl [Hs] <;> iassumption
  iintro ⟨Hm, Hs, HO⟩
  isplitl [Hm Hs Hs2]
  · isplitl [Hm]; · iexact Hm
    isplitl [Hs2] <;> iassumption
  isplitr; · iempintro
  isplitl [HA]; · iexact HA
  isplitl [HB] <;> iassumption

theorem ok_10 (c : Dev nD) (h : Fin 4) (i : ℕ) (hr : okP h 10 i) : StepOk A B K c h 10 i := by
  show iprop(Ctx A B K ∗ (my A B c h fullShare.right ∗ three (fun x => Sent x c) 2 h ∗ three (fun x => Sent x c) 3 h)
      ∗ three (fun x => Rcv x c) 3 h ∗ (ptA A c ∗ ptB B c ∗ Ow c i))
    ⊢ wpc c (wait3 (F := F) (geo c) h) fun _ => iprop((kept A B c h ∗ two (fun x => lent A B x c) 4 5 h 0)
      ∗ three (fun x => Done false x c) 3 h ∗ (ptA A c ∗ ptB B c ∗ Ow c i))
  iintro ⟨#HC, ⟨Hm, Hs⟩, Hr, HA, HB, HO⟩
  iapply (wp_wait3 A B K c h i hr.1 hr.2.1 hr.2.2) $$ [Hm Hr HO]
  · isplitr; · iexact HC
    isplitl [HO]; · iexact HO
    isplitl [Hm] <;> iassumption
  iintro ⟨HO, Hp, Hl, HD⟩
  isplitl [Hp Hs Hl]
  · isplitl [Hp Hs]
    · isplitl [Hp] <;> iassumption
    iexact Hl
  isplitl [HD]; · iexact HD
  isplitl [HA]; · iexact HA
  isplitl [HB] <;> iassumption

/-- A start and a wait of the all-gather's rings, beside what is not touched. -/
theorem ok_send4 (c : Dev nD) (h : Fin 4) (s : Fin 3) (i : ℕ) (R : sProp 𝕄) (hr : rank (4, h, s) = i ∧ rank (5, h, s) = i + 1) :
    iprop(Ctx A B K ∗ (R ∗ two (fun x => lent A B x c) 4 5 h s) ∗ two (fun x => Snd x c) 4 5 h s ∗ (ptA A c ∗ ptB B c ∗ Ow c i))
      ⊢ wpc c (send4 (F := F) (geo c) h s) fun _ =>
          iprop((R ∗ two (fun x => Sent x c) 4 5 h s) ∗ emp ∗ (ptA A c ∗ ptB B c ∗ Ow c (i + 2))) := by
  iintro ⟨#HC, ⟨HR, Hl⟩, Hs, HA, HB, HO⟩
  iapply (wp_send4 A B K c h s i hr.1 hr.2) $$ [Hl Hs HO]
  · isplitr; · iexact HC
    isplitl [Hl]; · iexact Hl
    isplitl [Hs] <;> iassumption
  iintro ⟨Hs, HO⟩
  isplitl [HR Hs]
  · isplitl [HR] <;> iassumption
  isplitr; · iempintro
  isplitl [HA]; · iexact HA
  isplitl [HB] <;> iassumption

theorem ok_wait4 (c : Dev nD) (h : Fin 4) (s : Fin 3) (i : ℕ) (R P0 P1 : sProp 𝕄) (hr : rank (4, h, s) < i ∧ rank (5, h, s) < i)
    (e0 : landed A B (4, h, s) c = P0) (e1 : landed A B (5, h, s) c = P1) :
    iprop(Ctx A B K ∗ R ∗ two (fun x => Rcv x c) 4 5 h s ∗ (ptA A c ∗ ptB B c ∗ Ow c i))
      ⊢ wpc c (wait4 (F := F) (geo c) h s) fun _ =>
          iprop((R ∗ P0 ∗ P1) ∗ two (fun x => Done false x c) 4 5 h s ∗ (ptA A c ∗ ptB B c ∗ Ow c i)) := by
  iintro ⟨#HC, HR, Hr, HA, HB, HO⟩
  iapply (wp_wait4 A B K c h s i hr.1 hr.2) $$ [Hr HO]
  · isplitr; · iexact HC
    isplitl [HO] <;> iassumption
  iintro ⟨HO, ⟨H0, H1⟩, HD⟩
  isplitl [HR H0 H1]
  · isplitl [HR]; · iexact HR
    isplitl [H0]
    · iapply (Entails.of_eq e0); iexact H0
    · iapply (Entails.of_eq e1); iexact H1
  isplitl [HD]; · iexact HD
  isplitl [HA]; · iexact HA
  isplitl [HB] <;> iassumption

theorem ok_16 (c : Dev nD) (h : Fin 4) (i : ℕ) (hr : okP h 16 i) : StepOk A B K c h 16 i := by
  refine (ok_wait4 A B K c h 2 i (Hand A B c h 16) _ _ hr rfl rfl).trans ?_
  refine wp_mono _ _ _ fun _ => ?_
  show _ ⊢ iprop(Hand A B c h 16 ∗ (two (fun x => landed A B x c) 4 5 h 2 ∗ two (fun x => Done false x c) 4 5 h 2) ∗ (ptA A c ∗ ptB B c ∗ Ow c i))
  iintro ⟨⟨HR, Hl⟩, HD, Hc⟩
  isplitl [HR]; · iexact HR
  isplitl [Hl HD]
  · isplitl [Hl] <;> iassumption
  iexact Hc

theorem ok_17 (c : Dev nD) (h : Fin 4) (i : ℕ) : StepOk A B K c h 17 i := by
  show iprop(Ctx A B K ∗ (((kept A B c h ∗ two (fun x => Sent x c) 4 5 h 0) ∗ two (fun x => Sent x c) 4 5 h 1) ∗ two (fun x => Sent x c) 4 5 h 2)
      ∗ emp ∗ (ptA A c ∗ ptB B c ∗ Ow c i))
    ⊢ wpc c (drain2 (F := F) (geo c) h) fun _ => iprop(((pk A B c h 0 fullShare.left ∗ pk A B c h 1 fullShare.left ∗ pk A B c h 2 fullShare.left)
        ∗ three (fun x => Sent x c) 3 h ∗ two (fun x => Sent x c) 4 5 h 0 ∗ two (fun x => Sent x c) 4 5 h 1 ∗ two (fun x => Sent x c) 4 5 h 2)
      ∗ (three (fun x => lent A B x c) 2 h ∗ three (fun x => Done true x c) 2 h) ∗ (ptA A c ∗ ptB B c ∗ Ow c i))
  iintro ⟨#HC, ⟨⟨⟨⟨Hp, Hs2, Hs3⟩, H0⟩, H1⟩, H2⟩, -, HA, HB, HO⟩
  iapply (wp_drain2 A B K c h i) $$ [Hs2 HO]
  · isplitr; · iexact HC
    isplitl [HO] <;> iassumption
  iintro ⟨HO, Hl, HD⟩
  isplitl [Hp Hs3 H0 H1 H2]
  · isplitl [Hp]; · iexact Hp
    isplitl [Hs3]; · iexact Hs3
    isplitl [H0]; · iexact H0
    isplitl [H1] <;> iassumption
  isplitl [Hl HD]
  · isplitl [Hl] <;> iassumption
  isplitl [HA]; · iexact HA
  isplitl [HB] <;> iassumption

theorem ok_18 (c : Dev nD) (h : Fin 4) (i : ℕ) : StepOk A B K c h 18 i := by
  show iprop(Ctx A B K ∗ ((pk A B c h 0 fullShare.left ∗ pk A B c h 1 fullShare.left ∗ pk A B c h 2 fullShare.left)
        ∗ three (fun x => Sent x c) 3 h ∗ two (fun x => Sent x c) 4 5 h 0 ∗ two (fun x => Sent x c) 4 5 h 1 ∗ two (fun x => Sent x c) 4 5 h 2)
      ∗ emp ∗ (ptA A c ∗ ptB B c ∗ Ow c i))
    ⊢ wpc c (drain3 (F := F) (geo c) h) fun _ => iprop(((top A B c h fullShare.left ∗ bot A B c h fullShare.left)
        ∗ two (fun x => Sent x c) 4 5 h 0 ∗ two (fun x => Sent x c) 4 5 h 1 ∗ two (fun x => Sent x c) 4 5 h 2)
      ∗ three (fun x => Done true x c) 3 h ∗ (ptA A c ∗ ptB B c ∗ Ow c i))
  iintro ⟨#HC, ⟨⟨Hp0, Hp1, Hp2⟩, Hs3, H⟩, -, HA, HB, HO⟩
  iapply (wp_drain3 A B K c h i) $$ [Hs3 HO]
  · isplitr; · iexact HC
    isplitl [HO] <;> iassumption
  iintro ⟨HO, Hm, HD⟩
  isplitl [Hp0 Hp1 Hp2 Hm H]
  · isplitl [Hp0 Hp1 Hp2 Hm]
    · iapply (chunks_left A B c h)
      isplitl [Hm]; · iexact Hm
      isplitl [Hp0]; · iexact Hp0
      isplitl [Hp1] <;> iassumption
    iexact H
  isplitl [HD]; · iexact HD
  isplitl [HA]; · iexact HA
  isplitl [HB] <;> iassumption

theorem ok_19 (c : Dev nD) (h : Fin 4) (i : ℕ) : StepOk A B K c h 19 i := by
  show iprop(Ctx A B K ∗ ((top A B c h fullShare.left ∗ bot A B c h fullShare.left)
        ∗ two (fun x => Sent x c) 4 5 h 0 ∗ two (fun x => Sent x c) 4 5 h 1 ∗ two (fun x => Sent x c) 4 5 h 2)
      ∗ emp ∗ (ptA A c ∗ ptB B c ∗ Ow c i))
    ⊢ wpc c (drain4 (F := F) (geo c) h 0) fun _ => iprop((two (fun x => Sent x c) 4 5 h 1 ∗ two (fun x => Sent x c) 4 5 h 2)
      ∗ ((top A B c h fullShare ∗ bot A B c h fullShare) ∗ two (fun x => Done true x c) 4 5 h 0) ∗ (ptA A c ∗ ptB B c ∗ Ow c i))
  iintro ⟨#HC, ⟨⟨Ht, Hb⟩, Hs, H⟩, -, HA, HB, HO⟩
  iapply (wp_drain4 A B K c h 0 i) $$ [Hs HO]
  · isplitr; · iexact HC
    isplitl [HO] <;> iassumption
  iintro ⟨HO, ⟨Hl0, Hl1⟩, HD⟩
  ihave Hl0 := (Entails.of_eq (lent_40 A B c h)) $$ Hl0
  ihave Hl1 := (Entails.of_eq (lent_50 A B c h)) $$ Hl1
  isplitl [H]; · iexact H
  isplitl [Ht Hb Hl0 Hl1 HD]
  · isplitl [Ht Hb Hl0 Hl1]
    · isplitl [Ht Hl0]
      · iapply (top_share A B c h fullShare).2; isplitl [Ht] <;> iassumption
      · iapply (bot_share A B c h fullShare).2; isplitl [Hb] <;> iassumption
    iexact HD
  isplitl [HA]; · iexact HA
  isplitl [HB] <;> iassumption

theorem ok_20 (c : Dev nD) (h : Fin 4) (i : ℕ) : StepOk A B K c h 20 i := by
  show iprop(Ctx A B K ∗ (two (fun x => Sent x c) 4 5 h 1 ∗ two (fun x => Sent x c) 4 5 h 2) ∗ emp ∗ (ptA A c ∗ ptB B c ∗ Ow c i))
    ⊢ wpc c (drain4 (F := F) (geo c) h 1) fun _ => iprop(two (fun x => Sent x c) 4 5 h 2
      ∗ (two (fun x => lent A B x c) 4 5 h 1 ∗ two (fun x => Done true x c) 4 5 h 1) ∗ (ptA A c ∗ ptB B c ∗ Ow c i))
  iintro ⟨#HC, ⟨Hs, H⟩, -, HA, HB, HO⟩
  iapply (wp_drain4 A B K c h 1 i) $$ [Hs HO]
  · isplitr; · iexact HC
    isplitl [HO] <;> iassumption
  iintro ⟨HO, Hl, HD⟩
  isplitl [H]; · iexact H
  isplitl [Hl HD]
  · isplitl [Hl] <;> iassumption
  isplitl [HA]; · iexact HA
  isplitl [HB] <;> iassumption

theorem ok_21 (c : Dev nD) (h : Fin 4) (i : ℕ) : StepOk A B K c h 21 i := by
  show iprop(Ctx A B K ∗ two (fun x => Sent x c) 4 5 h 2 ∗ emp ∗ (ptA A c ∗ ptB B c ∗ Ow c i))
    ⊢ wpc c (drain4 (F := F) (geo c) h 2) fun _ => iprop(emp
      ∗ (two (fun x => lent A B x c) 4 5 h 2 ∗ two (fun x => Done true x c) 4 5 h 2) ∗ (ptA A c ∗ ptB B c ∗ Ow c i))
  iintro ⟨#HC, Hs, -, HA, HB, HO⟩
  iapply (wp_drain4 A B K c h 2 i) $$ [Hs HO]
  · isplitr; · iexact HC
    isplitl [HO] <;> iassumption
  iintro ⟨HO, Hl, HD⟩
  isplitr; · iempintro
  isplitl [Hl HD]
  · isplitl [Hl] <;> iassumption
  isplitl [HA]; · iexact HA
  isplitl [HB] <;> iassumption

/-- Every step of a lane. -/
theorem step_ok (c : Dev nD) (h : Fin 4) (n i : ℕ) (hn : n < 22) (hr : okP h n i) : StepOk A B K c h n i := by
  match n, hn, hr with
  | 0, _, _ => exact ok_0 A B K c h i
  | 1, _, hr => exact ok_start A B K c h 0 i hr
  | 2, _, hr => exact ok_finA A B K c h 0 1 i hr rfl rfl
  | 3, _, hr => exact ok_start A B K c h 1 i hr
  | 4, _, hr => exact ok_finA A B K c h 1 2 i hr rfl rfl
  | 5, _, hr => exact ok_start A B K c h 2 i hr
  | 6, _, hr => exact ok_6 A B K c h i hr
  | 7, _, hr => exact ok_7 A B K c h i hr
  | 8, _, hr => exact ok_8 A B K c h i hr
  | 9, _, hr => exact ok_9 A B K c h i hr
  | 10, _, hr => exact ok_10 A B K c h i hr
  | 11, _, hr => exact ok_send4 A B K c h 0 i (kept A B c h) hr
  | 12, _, hr => exact ok_wait4 A B K c h 0 i (Hand A B c h 12) (lent A B (4, h, 1) c) (lent A B (5, h, 1) c) hr rfl rfl
  | 13, _, hr => exact ok_send4 A B K c h 1 i (Hand A B c h 12) hr
  | 14, _, hr => exact ok_wait4 A B K c h 1 i (Hand A B c h 14) (lent A B (4, h, 2) c) (lent A B (5, h, 2) c) hr rfl rfl
  | 15, _, hr => exact ok_send4 A B K c h 2 i (Hand A B c h 14) hr
  | 16, _, hr => exact ok_16 A B K c h i hr
  | 17, _, _ => exact ok_17 A B K c h i
  | 18, _, _ => exact ok_18 A B K c h i
  | 19, _, _ => exact ok_19 A B K c h i
  | 20, _, _ => exact ok_20 A B K c h i
  | 21, _, _ => exact ok_21 A B K c h i
  | n + 22, hn, _ => exact absurd hn (by omega)

/-! ### The schedule -/

/-- What lane `h` has before step `n`. -/
def LS (c : Dev nD) (h : Fin 4) (n : ℕ) : sProp 𝕄 :=
  iprop(Hand A B c h n ∗ bigSep (Finset.Ico n 22) (fun j => Need (F := F) c h j) ∗ bigSep (Finset.range n) (fun j => Left A B c h j))

/-- The lanes' steps come in order, the copies too, and all are taken. -/
def good : (Fin 4 → ℕ) → ℕ → List (Fin 4 × ℕ) → Prop
  | f, i, [] => (∀ h, f h = 22) ∧ i = 72
  | f, i, a :: l => f a.1 = a.2 ∧ a.2 < 22 ∧ okP a.1 a.2 i ∧ good (Function.update f a.1 (a.2 + 1)) (i + (sends a.2).length) l

instance good_dec : ∀ f i l, Decidable (good f i l)
  | f, i, [] => by unfold good; infer_instance
  | f, i, a :: l => by
    unfold good
    haveI := good_dec (Function.update f a.1 (a.2 + 1)) (i + (sends a.2).length) l
    infer_instance

theorem sched_good : good (fun _ => 0) 0 sched := by decide +kernel

/-- The lane of a step, before it and after it. -/
theorem LS_step (c : Dev nD) (h : Fin 4) (n i : ℕ) (hn : n < 22) (hr : okP h n i) {Q : PUnit → sProp 𝕄} :
    iprop(Ctx A B K ∗ LS A B c h n ∗ (ptA A c ∗ ptB B c ∗ Ow c i))
      ⊢ iprop(((LS A B c h (n + 1) ∗ (ptA A c ∗ ptB B c ∗ Ow c (i + (sends n).length))) -∗ Q ⟨⟩)
        -∗ wpc c (step (F := F) (geo c) h n) Q) := by
  unfold LS
  have e1 : (bigSep (Finset.Ico n 22) fun j => Need (F := F) c h j)
      = iprop(Need c h n ∗ bigSep (Finset.Ico (n + 1) 22) fun j => Need c h j) := by
    rw [← Finset.insert_Ico_add_one_left_eq_Ico hn, bigSep_insert (by simp)]; rfl
  have e2 : (bigSep (Finset.range (n + 1)) fun j => Left A B c h j)
      = iprop(Left A B c h n ∗ bigSep (Finset.range n) fun j => Left A B c h j) := by
    rw [Finset.range_add_one, bigSep_insert (by simp)]; rfl
  rw [e1, e2]
  iintro ⟨#HC, ⟨Hh, ⟨Hn, HN⟩, HL⟩, Hc⟩ Hk
  iapply (wp_wand _ _ _) $$ [Hh Hn Hc]
  · iapply (step_ok A B K c h n i hn hr)
    isplitr; · iexact HC
    isplitl [Hh]; · iexact Hh
    isplitl [Hn] <;> iassumption
  iintro %u ⟨Hh, Hl, Hc⟩
  iapply Hk
  isplitl [Hh HN Hl HL]
  · isplitl [Hh]; · iexact Hh
    isplitl [HN]; · iexact HN
    isplitl [Hl] <;> iassumption
  iexact Hc

theorem run_ok (c : Dev nD) : ∀ (l : List (Fin 4 × ℕ)) (f : Fin 4 → ℕ) (i : ℕ), good f i l →
    iprop(Ctx A B K ∗ (bigSep Finset.univ fun h : Fin 4 => LS A B c h (f h)) ∗ (ptA A c ∗ ptB B c ∗ Ow c i))
      ⊢ wpc c (runAll (F := F) (geo c) l) fun _ =>
          iprop((bigSep Finset.univ fun h : Fin 4 => LS A B c h 22) ∗ (ptA A c ∗ ptB B c ∗ Ow c 72)) := by
  intro l
  induction l with
  | nil =>
    rintro f i ⟨hf, rfl⟩
    rw [show f = fun _ => 22 from funext hf]
    iintro ⟨-, H⟩
    iapply (wpc_ret c); iexact H
  | cons a l ih =>
    rintro f i ⟨h1, h2, h3, h4⟩
    show _ ⊢ wpc c (step (geo c) a.1 a.2 >>= fun _ => runAll (geo c) l) _
    unfold wpc
    rw [wp_bind]
    have e : (Finset.univ : Finset (Fin 4)) = insert a.1 (Finset.univ.erase a.1) := (Finset.insert_erase (Finset.mem_univ _)).symm
    have e1 : (bigSep Finset.univ fun h : Fin 4 => LS A B c h (f h))
        = iprop(LS A B c a.1 a.2 ∗ bigSep (Finset.univ.erase a.1) fun h : Fin 4 => LS A B c h (f h)) := by
      conv_lhs => rw [e]
      rw [bigSep_insert (by simp), h1]
      rfl
    have e2 : (bigSep Finset.univ fun h : Fin 4 => LS A B c h (Function.update f a.1 (a.2 + 1) h))
        = iprop(LS A B c a.1 (a.2 + 1) ∗ bigSep (Finset.univ.erase a.1) fun h : Fin 4 => LS A B c h (f h)) := by
      conv_lhs => rw [e]
      rw [bigSep_insert (by simp), Function.update_self]
      refine congrArg₂ _ rfl (bigSep_congr fun h hh => ?_)
      rw [Function.update_of_ne (Finset.ne_of_mem_erase hh)]
    rw [e1]
    iintro ⟨#HC, ⟨Ha, HR⟩, Hc⟩
    iapply (LS_step A B K c a.1 a.2 i h2 h3) $$ [Ha Hc]
    · isplitr; · iexact HC
      isplitl [Ha] <;> iassumption
    iintro ⟨Ha, Hc⟩
    iapply (ih _ _ h4)
    isplitr; · iexact HC
    isplitl [Ha HR]
    · iapply (Entails.of_eq e2.symm)
      isplitl [Ha] <;> iassumption
    iexact Hc

end Cert.KernelIdeal.Silu

end
-- ==== Proof.Bufs.lean ====
/-
The buffers of a device cut up for the lanes and for the devices that copy into them, and put together
again at the end.
-/
module

public import proofs.«01_k».proof.Proof.Lane

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MM F

/-- A whole buffer, whatever it holds. -/
abbrev anyBuf (c : Dev nD) (b : Ref sig .tc) : sProp 𝕄 :=
  iprop(∃ f : Buf (Elt F) ((c : Thread nD τ).loc b), ((c : Thread nD τ).loc b) ↦{fullShare} f)
/-- A part of it. -/
abbrev anyOn (c : Dev nD) (b : Ref sig .tc) (S : Finset (Idx ((c : Thread nD τ).loc b))) : sProp 𝕄 :=
  iprop(∃ f : Buf (Elt F) ((c : Thread nD τ).loc b), ((c : Thread nD τ).loc b) ↦[S]{fullShare} f)

theorem any_cut {T : Type} [Fintype T] [DecidableEq T] (c : Dev nD) (b : Ref sig .tc) (Kk : T → Finset (Idx ((c : Thread nD τ).loc b)))
    (h : ∀ i, ∃ t, i ∈ Kk t) (h1 : ∀ i t t', i ∈ Kk t → i ∈ Kk t' → t = t') :
    anyBuf (F := F) c b ⊢ bigSep Finset.univ fun t => anyOn c b (Kk t) := by
  have e : ∀ (f : Buf (Elt F) ((c : Thread nD τ).loc b)) (t : T),
      (((c : Thread nD τ).loc b) ↦[Kk t]{fullShare} f : sProp 𝕄) ⊢ anyOn c b (Kk t) := fun f t => by
    iintro H; iexists f; iexact H
  iintro ⟨%f, H⟩
  ihave H := (Entails.of_eq (cut_pts (F := F) Finset.univ Kk (fun i => ⟨fun _ => h i, fun _ => Finset.mem_univ i⟩) h1)) $$ H
  iapply (show (bigSep Finset.univ fun t => (((c : Thread nD τ).loc b) ↦[Kk t]{fullShare} f : sProp 𝕄))
      ⊢ bigSep Finset.univ fun t => anyOn c b (Kk t) from bigSep_mono fun t _ => e f t)
  iexact H

theorem any_join {T : Type} [Fintype T] [DecidableEq T] (c : Dev nD) (b : Ref sig .tc) (f₀ : Buf (Elt F) ((c : Thread nD τ).loc b))
    (Kk : T → Finset (Idx ((c : Thread nD τ).loc b)))
    (h : ∀ i, ∃ t, i ∈ Kk t) (h1 : ∀ i t t', i ∈ Kk t → i ∈ Kk t' → t = t') :
    (bigSep Finset.univ fun t => anyOn (F := F) c b (Kk t)) ⊢ anyBuf c b :=
  join_pts f₀ Finset.univ Kk (fun i => ⟨fun _ => h i, fun _ => Finset.mem_univ i⟩) h1

theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ### The scratch of the rings -/

theorem slotsR (c : Dev nD) : (bigSep Finset.univ fun t : Fin 4 × Fin 4 => anyOn (F := F) c cc0_scratch0 (slot bR t.1 t.2).view.set)
    = bigSep Finset.univ fun h : Fin 4 => iprop(holdAny c (slot bR h 0) ∗ landAny (0, h, 0) c ∗ landAny (0, h, 1) c ∗ landAny (0, h, 2) c) := by
  rw [bigSep_univ_prod]
  exact bigSep_congr fun h _ => sep4 _
theorem slotsL (c : Dev nD) : (bigSep Finset.univ fun t : Fin 4 × Fin 4 => anyOn (F := F) c cc0_scratch1 (slot bL t.1 t.2).view.set)
    = bigSep Finset.univ fun h : Fin 4 => iprop(holdAny c (slot bL h 0) ∗ landAny (1, h, 0) c ∗ landAny (1, h, 1) c ∗ landAny (1, h, 2) c) := by
  rw [bigSep_univ_prod]
  exact bigSep_congr fun h _ => sep4 _

theorem cut_R (c : Dev nD) : anyBuf (F := F) c cc0_scratch0
    ⊢ bigSep Finset.univ fun h : Fin 4 => iprop(holdAny c (slot bR h 0) ∗ landAny (0, h, 0) c ∗ landAny (0, h, 1) c ∗ landAny (0, h, 2) c) := by
  rw [← slotsR]
  exact any_cut c cc0_scratch0 _ (fun i => ⟨(i 0, i 1), (mem_slotR _ _ i).mpr ⟨rfl, rfl⟩⟩)
    (fun i t t' h h' => by
      have a := (mem_slotR _ _ i).mp h; have b := (mem_slotR _ _ i).mp h'
      exact Prod.ext (a.1.symm.trans b.1) (a.2.symm.trans b.2))
theorem cut_L (c : Dev nD) : anyBuf (F := F) c cc0_scratch1
    ⊢ bigSep Finset.univ fun h : Fin 4 => iprop(holdAny c (slot bL h 0) ∗ landAny (1, h, 0) c ∗ landAny (1, h, 1) c ∗ landAny (1, h, 2) c) := by
  rw [← slotsL]
  exact any_cut c cc0_scratch1 _ (fun i => ⟨(i 0, i 1), (mem_slotL _ _ i).mpr ⟨rfl, rfl⟩⟩)
    (fun i t t' h h' => by
      have a := (mem_slotL _ _ i).mp h; have b := (mem_slotL _ _ i).mp h'
      exact Prod.ext (a.1.symm.trans b.1) (a.2.symm.trans b.2))

variable (A : Dev nD → CA F) (B : Dev nD → CB F)

include A B in
theorem join_R (c : Dev nD) : (bigSep Finset.univ fun h : Fin 4 =>
      iprop(holdAny c (slot bR h 0) ∗ landAny (0, h, 0) c ∗ landAny (0, h, 1) c ∗ landAny (0, h, 2) c)) ⊢ anyBuf (F := F) c cc0_scratch0 := by
  rw [← slotsR]
  exact any_join c cc0_scratch0 (fun _ => fZ A B c fun _ => ⟨0, by decide +revert⟩) _ (fun i => ⟨(i 0, i 1), (mem_slotR _ _ i).mpr ⟨rfl, rfl⟩⟩)
    (fun i t t' h h' => by
      have a := (mem_slotR _ _ i).mp h; have b := (mem_slotR _ _ i).mp h'
      exact Prod.ext (a.1.symm.trans b.1) (a.2.symm.trans b.2))
include A B in
theorem join_L (c : Dev nD) : (bigSep Finset.univ fun h : Fin 4 =>
      iprop(holdAny c (slot bL h 0) ∗ landAny (1, h, 0) c ∗ landAny (1, h, 1) c ∗ landAny (1, h, 2) c)) ⊢ anyBuf (F := F) c cc0_scratch1 := by
  rw [← slotsL]
  exact any_join c cc0_scratch1 (fun _ => fZ A B c fun _ => ⟨0, by decide +revert⟩) _ (fun i => ⟨(i 0, i 1), (mem_slotL _ _ i).mpr ⟨rfl, rfl⟩⟩)
    (fun i t t' h h' => by
      have a := (mem_slotL _ _ i).mp h; have b := (mem_slotL _ _ i).mp h'
      exact Prod.ext (a.1.symm.trans b.1) (a.2.symm.trans b.2))

/-! ### The scratch of the column exchange -/

theorem cut_Z (c : Dev nD) : anyBuf (F := F) c cc0_scratch2
    ⊢ bigSep Finset.univ fun h : Fin 4 => iprop(holdAny c (zh h 0) ∗ holdAny c (zh h 1)) := by
  have e : (bigSep Finset.univ fun t : Fin 4 × Fin 2 => anyOn (F := F) c cc0_scratch2 (zh t.1 t.2).view.set)
      = bigSep Finset.univ fun h : Fin 4 => iprop(holdAny c (zh h 0) ∗ holdAny c (zh h 1)) := by
    rw [bigSep_univ_prod]
    exact bigSep_congr fun h _ => bigSep_univ_eq_bigSepL [0, 1] (by decide) (by decide) _
  rw [← e]
  exact any_cut c cc0_scratch2 _
    (fun i => by
      have h0 : (i 0).val < 4 := (i 0).isLt
      have h1 : (i 1).val < 512 := (i 1).isLt
      refine ⟨(⟨(i 0).val, h0⟩, ⟨(i 1).val / 256, by omega⟩), (mem_zh _ _ i).mpr ⟨rfl, ?_, ?_⟩⟩
      · show 256 * ((i 1).val / 256) ≤ _; omega
      · show _ < 256 * ((i 1).val / 256) + 256; omega)
    (fun i t t' h h' => by
      have a := (mem_zh _ _ i).mp h; have b := (mem_zh _ _ i).mp h'
      exact Prod.ext (Fin.ext (by omega)) (Fin.ext (by omega)))

theorem join_Z (c : Dev nD) : (bigSep Finset.univ fun h : Fin 4 => laneZ A B c h) ⊢ anyBuf (F := F) c cc0_scratch2 := by
  have e := cut_pts (F := F) (ℓ := (c : Thread nD τ).loc cc0_scratch2) (q := fullShare) (f := fZ A B c) Finset.univ laneSet
    (fun i => ⟨fun _ => ⟨i 0, (mem_laneSet _ i).mpr rfl⟩, fun _ => Finset.mem_univ i⟩)
    (fun i t t' h h' => Fin.ext (((mem_laneSet _ i).mp h).symm.trans ((mem_laneSet _ i).mp h')))
  unfold laneZ
  rw [← e]
  iintro H
  iexists fZ A B c; iexact H

/-- The place that no device copies into. -/
abbrev xOwn (c : Dev nD) (h : Fin 4) : sProp 𝕄 := holdAny (F := F) c (zc bX (zOff h (zz c)) (zOff_inb h (zz_lt c)))

theorem chunksX (c : Dev nD) :
    (bigSep Finset.univ fun t : Fin 4 × Fin 4 =>
        anyOn (F := F) c cc0_scratch3 (zc bX (zOff t.1 (ilist c t.2)) (zOff_inb t.1 (ilist_lt c t.2))).view.set)
      = bigSep Finset.univ fun h : Fin 4 => iprop(xOwn c h ∗ landAny (2, h, 0) c ∗ landAny (2, h, 1) c ∗ landAny (2, h, 2) c) := by
  rw [bigSep_univ_prod]
  exact bigSep_congr fun h _ => sep4 _
theorem coverX (c : Dev nD) (i : S4x512x512.Idx) :
    ∃ t : Fin 4 × Fin 4, i ∈ (zc bX (zOff t.1 (ilist c t.2)) (zOff_inb t.1 (ilist_lt c t.2))).view.set := by
  have h0 : (i 0).val < 4 := (i 0).isLt
  have h1 : (i 1).val < 512 := (i 1).isLt
  obtain ⟨j, hj⟩ := ilist_surj c ⟨(i 1).val / 128, by omega⟩
  refine ⟨(⟨(i 0).val, h0⟩, j), (mem_zcX _ _ _ i).mpr ⟨rfl, ?_, ?_⟩⟩
  · show 128 * ilist c j ≤ _; rw [hj]; show 128 * ((i 1).val / 128) ≤ _; omega
  · show _ < 128 * ilist c j + 128; rw [hj]; show _ < 128 * ((i 1).val / 128) + 128; omega
theorem onceX (c : Dev nD) (i : S4x512x512.Idx) (t t' : Fin 4 × Fin 4)
    (h : i ∈ (zc bX (zOff t.1 (ilist c t.2)) (zOff_inb t.1 (ilist_lt c t.2))).view.set)
    (h' : i ∈ (zc bX (zOff t'.1 (ilist c t'.2)) (zOff_inb t'.1 (ilist_lt c t'.2))).view.set) : t = t' := by
  have a := (mem_zcX _ _ _ i).mp h; have b := (mem_zcX _ _ _ i).mp h'
  exact Prod.ext (Fin.ext (by omega)) (ilist_inj c _ _ (by omega))

theorem cut_X (c : Dev nD) : anyBuf (F := F) c cc0_scratch3
    ⊢ bigSep Finset.univ fun h : Fin 4 => iprop(xOwn c h ∗ landAny (2, h, 0) c ∗ landAny (2, h, 1) c ∗ landAny (2, h, 2) c) := by
  rw [← chunksX]
  exact any_cut c cc0_scratch3 _ (coverX c) (onceX c)
include A B in
theorem join_X (c : Dev nD) : (bigSep Finset.univ fun h : Fin 4 =>
      iprop(xOwn c h ∗ landAny (2, h, 0) c ∗ landAny (2, h, 1) c ∗ landAny (2, h, 2) c)) ⊢ anyBuf (F := F) c cc0_scratch3 := by
  rw [← chunksX]
  exact any_join c cc0_scratch3 (fZ A B c) _ (coverX c) (onceX c)

/-! ### The result -/

/-- Where a device's pieces of a lane of the result begin, and how many rows they have: its own chunk, those of
    the devices of its column, the halves that come round the rings. -/
def pst (c : Dev nD) : Fin 10 → ℕ :=
  ![512 * pp c + 128 * zz c, 512 * pp c + 128 * zin c 0, 512 * pp c + 128 * zin c 1, 512 * pp c + 128 * zin c 2,
    512 * gST c 1, 512 * gST c 2, 512 * gST c 3, 512 * gSB c 1 + 256, 512 * gSB c 2 + 256, 512 * gSB c 3 + 256]
def pln : Fin 10 → ℕ := ![128, 128, 128, 128, 256, 256, 256, 256, 256, 256]

def inBlk (c : Dev nD) (j : Fin 10) (b : ℕ) : Bool := decide (pst c j ≤ 128 * b) && decide (128 * b + 128 ≤ pst c j + pln j)
theorem pst_dvd : ∀ c j, pst c j % 128 = 0 ∧ pln j % 128 = 0 := by decide +kernel
theorem blk_cover : ∀ (c : Dev nD) (b : Fin 16), ∃ j, inBlk c j b.val = true := by decide +kernel
theorem blk_once : ∀ (c : Dev nD) (b : Fin 16) (j j' : Fin 10), inBlk c j b.val = true → inBlk c j' b.val = true → j = j' := by decide +kernel

theorem inBlk_iff (c : Dev nD) (j : Fin 10) (r : ℕ) : inBlk c j (r / 128) = true ↔ (pst c j ≤ r ∧ r < pst c j + pln j) := by
  have h := pst_dvd c j
  unfold inBlk
  rw [Bool.and_eq_true, decide_eq_true_eq, decide_eq_true_eq]
  omega

def pset (h : Fin 4) (r n : ℕ) : Finset S2048x2048.Idx := Finset.univ.filter fun i => (i 1).val / 512 = h.val ∧ r ≤ (i 0).val ∧ (i 0).val < r + n
theorem mem_pset (h : Fin 4) (r n : ℕ) (i : S2048x2048.Idx) : i ∈ pset h r n ↔ ((i 1).val / 512 = h.val ∧ r ≤ (i 0).val ∧ (i 0).val < r + n) := by
  simp [pset]
theorem oc_set (h : Fin 4) (r : ℕ) (ho) : (oc (oOff r h) ho).view.set = pset h r 128 := by ext i; rw [mem_oc, mem_pset]
theorem oh_set (h : Fin 4) (r : ℕ) (ho) : (oh (oOff r h) ho).view.set = pset h r 256 := by ext i; rw [mem_oh, mem_pset]

theorem any_oc (c : Dev nD) (h : Fin 4) (r : ℕ) (ho) : anyOn (F := F) c cc0_stg2_0 (pset h r 128) = holdAny c (oc (oOff r h) ho) := by
  unfold holdAny; rw [oc_set]
theorem any_oh (c : Dev nD) (h : Fin 4) (r : ℕ) (ho) : anyOn (F := F) c cc0_stg2_0 (pset h r 256) = holdAny c (oh (oOff r h) ho) := by
  unfold holdAny; rw [oh_set]

/-- A device's own chunk of the result, whatever it holds. -/
abbrev myAny (c : Dev nD) (h : Fin 4) : sProp 𝕄 := holdAny (F := F) c (oc ((geo c).oMy h) ((geo c).oMy_inb h))

theorem piecesO (c : Dev nD) (h : Fin 4) :
    (bigSep Finset.univ fun j : Fin 10 => anyOn (F := F) c cc0_stg2_0 (pset h (pst c j) (pln j)))
      = iprop(myAny c h ∗ landAny (3, h, 0) c ∗ landAny (3, h, 1) c ∗ landAny (3, h, 2) c
          ∗ landAny (4, h, 0) c ∗ landAny (4, h, 1) c ∗ landAny (4, h, 2) c
          ∗ landAny (5, h, 0) c ∗ landAny (5, h, 1) c ∗ landAny (5, h, 2) c) := by
  rw [bigSep_univ_eq_bigSepL [0, 1, 2, 3, 4, 5, 6, 7, 8, 9] (by decide) (by decide)]
  simp only [bigSepL_cons_cons, bigSepL_singleton]
  have p0 : myAny (F := F) c h = _ := (any_oc c h (512 * pp c + 128 * zz c) ((geo c).oMy_inb h)).symm
  have p1 : ∀ s : Fin 3, landAny (F := F) (3, h, s) c = _ := fun s => (any_oc c h (512 * pp c + 128 * zin c s) (ocIn_inb c h s)).symm
  have p2 : ∀ s : Fin 3, landAny (F := F) (4, h, s) c = _ := fun s => (any_oh c h (512 * gST c (s.val + 1)) ((geo c).gTR_inb h s)).symm
  have p3 : ∀ s : Fin 3, landAny (F := F) (5, h, s) c = _ := fun s => (any_oh c h (512 * gSB c (s.val + 1) + 256) ((geo c).gBR_inb h s)).symm
  rw [p0, p1, p1, p1, p2, p2, p2, p3, p3, p3]
  rfl

theorem cut_O (c : Dev nD) : anyBuf (F := F) c cc0_stg2_0
    ⊢ bigSep Finset.univ fun h : Fin 4 => iprop(myAny c h ∗ landAny (3, h, 0) c ∗ landAny (3, h, 1) c ∗ landAny (3, h, 2) c
          ∗ landAny (4, h, 0) c ∗ landAny (4, h, 1) c ∗ landAny (4, h, 2) c
          ∗ landAny (5, h, 0) c ∗ landAny (5, h, 1) c ∗ landAny (5, h, 2) c) := by
  rw [← bigSep_congr (s := Finset.univ) fun h _ => piecesO (F := F) c h,
    ← bigSep_univ_prod (fun t : Fin 4 × Fin 10 => anyOn (F := F) c cc0_stg2_0 (pset t.1 (pst c t.2) (pln t.2)))]
  refine any_cut c cc0_stg2_0 _ (fun i => ?_) (fun i t t' h h' => ?_)
  · have h0 : (i 0).val < 2048 := (i 0).isLt
    have h1 : (i 1).val < 2048 := (i 1).isLt
    obtain ⟨j, hj⟩ := blk_cover c ⟨(i 0).val / 128, by omega⟩
    exact ⟨(⟨(i 1).val / 512, by omega⟩, j), (mem_pset _ _ _ i).mpr ⟨rfl, (inBlk_iff c j _).mp hj⟩⟩
  · have h0 : (i 0).val < 2048 := (i 0).isLt
    have a := (mem_pset _ _ _ i).mp h; have b := (mem_pset _ _ _ i).mp h'
    refine Prod.ext (Fin.ext (a.1.symm.trans b.1)) (blk_once c ⟨(i 0).val / 128, by omega⟩ _ _ ?_ ?_)
    · exact (inBlk_iff c _ _).mpr a.2
    · exact (inBlk_iff c _ _).mpr b.2

/-- The eight halves of a lane of the result. -/
def hst (c : Dev nD) (j : Fin 8) : ℕ :=
  ![512 * gST c 0, 512 * gSB c 0 + 256, 512 * gST c 1, 512 * gSB c 1 + 256, 512 * gST c 2, 512 * gSB c 2 + 256, 512 * gST c 3, 512 * gSB c 3 + 256] j
theorem half_cover : ∀ (c : Dev nD) (b : Fin 8), ∃ j, hst c j = 256 * b.val := by decide +kernel
theorem half_once : ∀ (c : Dev nD) (j j' : Fin 8), hst c j = hst c j' → j = j' := by decide +kernel
theorem hst_form : ∀ (c : Dev nD) (j : Fin 8), hst c j % 256 = 0 := by decide +kernel

theorem out_half (c : Dev nD) (h : Fin 4) (r : ℕ) (ho) : hold c (oh (oOff r h) ho) fullShare (ohV A B (oOff r h) ho)
    = (((c : Thread nD τ).loc cc0_stg2_0) ↦[pset h r 256]{fullShare} OUT A B : sProp 𝕄) := by
  rw [← oh_set h r ho]
  exact hold_eq c (oh (oOff r h) ho) fullShare (OUT A B)

theorem join_O (c : Dev nD) : (bigSep Finset.univ fun h : Fin 4 => iprop(top A B c h fullShare ∗ bot A B c h fullShare
      ∗ lent A B (4, h, 1) c ∗ lent A B (5, h, 1) c ∗ lent A B (4, h, 2) c ∗ lent A B (5, h, 2) c
      ∗ landed A B (4, h, 2) c ∗ landed A B (5, h, 2) c))
    ⊢ (((c : Thread nD τ).loc cc0_stg2_0) ↦{fullShare} OUT A B : sProp 𝕄) := by
  have e : ∀ h : Fin 4, iprop(top A B c h fullShare ∗ bot A B c h fullShare
      ∗ lent A B (4, h, 1) c ∗ lent A B (5, h, 1) c ∗ lent A B (4, h, 2) c ∗ lent A B (5, h, 2) c
      ∗ landed A B (4, h, 2) c ∗ landed A B (5, h, 2) c)
      = bigSep Finset.univ fun j : Fin 8 => (((c : Thread nD τ).loc cc0_stg2_0) ↦[pset h (hst c j) 256]{fullShare} OUT A B : sProp 𝕄) := by
    intro h
    rw [bigSep_univ_eq_bigSepL [0, 1, 2, 3, 4, 5, 6, 7] (by decide) (by decide)]
    simp only [bigSepL_cons_cons, bigSepL_singleton]
    have p0 : top A B c h fullShare = _ := out_half A B c h (512 * gST c 0) ((geo c).gTS_inb h 0)
    have p1 : bot A B c h fullShare = _ := out_half A B c h (512 * gSB c 0 + 256) ((geo c).gBS_inb h 0)
    have p2 : lent A B (4, h, 1) c = _ := out_half A B c h (512 * gST c 1) ((geo c).gTS_inb h 1)
    have p3 : lent A B (5, h, 1) c = _ := out_half A B c h (512 * gSB c 1 + 256) ((geo c).gBS_inb h 1)
    have p4 : lent A B (4, h, 2) c = _ := out_half A B c h (512 * gST c 2) ((geo c).gTS_inb h 2)
    have p5 : lent A B (5, h, 2) c = _ := out_half A B c h (512 * gSB c 2 + 256) ((geo c).gBS_inb h 2)
    have p6 : landed A B (4, h, 2) c = _ := out_half A B c h (512 * gST c 3) ((geo c).gTR_inb h 2)
    have p7 : landed A B (5, h, 2) c = _ := out_half A B c h (512 * gSB c 3 + 256) ((geo c).gBR_inb h 2)
    rw [p0, p1, p2, p3, p4, p5, p6, p7]
    rfl
  rw [bigSep_congr (s := Finset.univ) fun h _ => e h,
    ← bigSep_univ_prod (fun t : Fin 4 × Fin 8 => (((c : Thread nD τ).loc cc0_stg2_0) ↦[pset t.1 (hst c t.2) 256]{fullShare} OUT A B : sProp 𝕄))]
  refine Entails.of_eq (cut_pts (F := F) (ℓ := (c : Thread nD τ).loc cc0_stg2_0) (q := fullShare) (f := OUT A B) Finset.univ (fun t : Fin 4 × Fin 8 => pset t.1 (hst c t.2) 256) (fun i => ⟨fun _ => ?_, fun _ => Finset.mem_univ i⟩)
    fun i t t' h h' => ?_).symm
  · have h0 : (i 0).val < 2048 := (i 0).isLt
    have h1 : (i 1).val < 2048 := (i 1).isLt
    obtain ⟨j, hj⟩ := half_cover c ⟨(i 0).val / 256, by omega⟩
    refine ⟨(⟨(i 1).val / 512, by omega⟩, j), (mem_pset _ _ _ i).mpr ⟨rfl, ?_, ?_⟩⟩
    · show hst c j ≤ _; rw [hj]; show 256 * ((i 0).val / 256) ≤ _; omega
    · show _ < hst c j + 256; rw [hj]; show _ < 256 * ((i 0).val / 256) + 256; omega
  · have a := (mem_pset _ _ _ i).mp h; have b := (mem_pset _ _ _ i).mp h'
    have h2 := hst_form c t.2; have h3 := hst_form c t'.2
    exact Prod.ext (Fin.ext (a.1.symm.trans b.1)) (half_once c _ _ (by omega))

end Cert.KernelIdeal.Silu

end
-- ==== Proof.LaneEnds.lean ====
/-
What the lanes of a device are given and what they leave, in the lists of their steps.
-/
module

public import proofs.«01_k».proof.Proof.Bufs

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MM F

/-! ### Copies by lanes -/

/-- An assertion of every copy of a lane. -/
abbrev lane18 (Φ : X → sProp 𝕄) (h : Fin 4) : sProp 𝕄 :=
  iprop(three Φ 0 h ∗ three Φ 1 h ∗ three Φ 2 h ∗ three Φ 3 h ∗ three Φ 4 h ∗ three Φ 5 h)

theorem bigSep_lanes (Φ : X → sProp 𝕄) : bigSep Finset.univ Φ = bigSep Finset.univ fun h : Fin 4 => lane18 Φ h := by
  have e : (Finset.univ : Finset X) = (Finset.univ : Finset (Fin 4 × (Fin 6 × Fin 3))).map
      ⟨fun y => (y.2.1, y.1, y.2.2), fun y y' hy => by
        have := Prod.ext_iff.mp hy; have h2 := Prod.ext_iff.mp this.2
        exact Prod.ext h2.1 (Prod.ext this.1 h2.2)⟩ := by decide +kernel
  rw [e, bigSep_map, bigSep_univ_prod]
  refine bigSep_congr fun h _ => ?_
  rw [bigSep_univ_prod, bigSep_univ_eq_bigSepL [0, 1, 2, 3, 4, 5] (by decide) (by decide)]
  have t : ∀ k : Fin 6, (bigSep Finset.univ fun s : Fin 3 => Φ (k, h, s)) = three Φ k h :=
    fun k => bigSep_univ_eq_bigSepL [0, 1, 2] (by decide) (by decide) _
  simp only [bigSepL_cons_cons, bigSepL_singleton]
  show iprop((bigSep Finset.univ fun s : Fin 3 => Φ (0, h, s)) ∗ (bigSep Finset.univ fun s : Fin 3 => Φ (1, h, s))
    ∗ (bigSep Finset.univ fun s : Fin 3 => Φ (2, h, s)) ∗ (bigSep Finset.univ fun s : Fin 3 => Φ (3, h, s))
    ∗ (bigSep Finset.univ fun s : Fin 3 => Φ (4, h, s)) ∗ (bigSep Finset.univ fun s : Fin 3 => Φ (5, h, s))) = _
  rw [t, t, t, t, t, t]

/-- What a lane is given is what its steps take. -/
theorem needs (c : Dev nD) (h : Fin 4) :
    iprop(lane18 (fun x => Snd (F := F) x c) h ∗ lane18 (fun x => Rcv (F := F) x c) h ∗ holdAny c (slot bR h 0) ∗ holdAny c (slot bL h 0)
        ∗ (holdAny c (zh h 0) ∗ holdAny c (zh h 1)) ∗ myAny c h)
      ⊢ bigSep (Finset.Ico 0 22) fun j => Need (F := F) c h j := by
  rw [bigSep_eq_bigSepL_of_eq [0, 1, 2, 3, 4, 5, 6, 7, 8, 9, 10, 11, 12, 13, 14, 15, 16, 17, 18, 19, 20, 21] (by decide) (by decide)]
  simp only [bigSepL_cons_cons, bigSepL_singleton]
  show _ ⊢ iprop((holdAny c (slot bR h 0) ∗ holdAny c (slot bL h 0)) ∗ two (fun x => Snd x c) 0 1 h 0 ∗ two (fun x => Rcv x c) 0 1 h 0 ∗ two (fun x => Snd x c) 0 1 h 1 ∗ two (fun x => Rcv x c) 0 1 h 1 ∗ two (fun x => Snd x c) 0 1 h 2 ∗ (two (fun x => Rcv x c) 0 1 h 2 ∗ holdAny c (zh h 0) ∗ holdAny c (zh h 1)) ∗ three (fun x => Snd x c) 2 h ∗ (myAny c h ∗ three (fun x => Rcv x c) 2 h) ∗ three (fun x => Snd x c) 3 h ∗ three (fun x => Rcv x c) 3 h ∗ two (fun x => Snd x c) 4 5 h 0 ∗ two (fun x => Rcv x c) 4 5 h 0 ∗ two (fun x => Snd x c) 4 5 h 1 ∗ two (fun x => Rcv x c) 4 5 h 1 ∗ two (fun x => Snd x c) 4 5 h 2 ∗ two (fun x => Rcv x c) 4 5 h 2 ∗ emp ∗ emp ∗ emp ∗ emp ∗ emp)
  iintro ⟨⟨⟨S00, S01, S02⟩, ⟨S10, S11, S12⟩, ⟨S20, S21, S22⟩, ⟨S30, S31, S32⟩, ⟨S40, S41, S42⟩, ⟨S50, S51, S52⟩⟩, ⟨⟨R00, R01, R02⟩, ⟨R10, R11, R12⟩, ⟨R20, R21, R22⟩, ⟨R30, R31, R32⟩, ⟨R40, R41, R42⟩, ⟨R50, R51, R52⟩⟩, R, L, Z, O⟩
  isplitl [R L]
  · isplitl [R]; · iexact R
    iexact L
  isplitl [S00 S10]
  · isplitl [S00]; · iexact S00
    iexact S10
  isplitl [R00 R10]
  · isplitl [R00]; · iexact R00
    iexact R10
  isplitl [S01 S11]
  · isplitl [S01]; · iexact S01
    iexact S11
  isplitl [R01 R11]
  · isplitl [R01]; · iexact R01
    iexact R11
  isplitl [S02 S12]
  · isplitl [S02]; · iexact S02
    iexact S12
  isplitl [R02 R12 Z]
  · isplitl [R02 R12]
    · isplitl [R02] <;> iassumption
    iexact Z
  isplitl [S20 S21 S22]
  · isplitl [S20]; · iexact S20
    isplitl [S21]; · iexact S21
    iexact S22
  isplitl [O R20 R21 R22]
  · isplitl [O]; · iexact O
    isplitl [R20]; · iexact R20
    isplitl [R21]; · iexact R21
    iexact R22
  isplitl [S30 S31 S32]
  · isplitl [S30]; · iexact S30
    isplitl [S31]; · iexact S31
    iexact S32
  isplitl [R30 R31 R32]
  · isplitl [R30]; · iexact R30
    isplitl [R31]; · iexact R31
    iexact R32
  isplitl [S40 S50]
  · isplitl [S40]; · iexact S40
    iexact S50
  isplitl [R40 R50]
  · isplitl [R40]; · iexact R40
    iexact R50
  isplitl [S41 S51]
  · isplitl [S41]; · iexact S41
    iexact S51
  isplitl [R41 R51]
  · isplitl [R41]; · iexact R41
    iexact R51
  isplitl [S42 S52]
  · isplitl [S42]; · iexact S42
    iexact S52
  isplitl [R42 R52]
  · isplitl [R42]; · iexact R42
    iexact R52
  isplitr; · iempintro
  isplitr; · iempintro
  isplitr; · iempintro
  isplitr; · iempintro
  iempintro

/-- What a lane leaves: its semaphores done with, and its parts of the buffers. -/
abbrev laneEnd (A : Dev nD → CA F) (B : Dev nD → CB F) (c : Dev nD) (h : Fin 4) : sProp 𝕄 :=
  iprop(lane18 (fun x => Done true x c) h ∗ lane18 (fun x => Done false x c) h
    ∗ (holdAny c (slot bR h 0) ∗ landAny (0, h, 0) c ∗ landAny (0, h, 1) c ∗ landAny (0, h, 2) c)
    ∗ (holdAny c (slot bL h 0) ∗ landAny (1, h, 0) c ∗ landAny (1, h, 1) c ∗ landAny (1, h, 2) c)
    ∗ laneZ A B c h ∗ three (fun x => landAny x c) 2 h
    ∗ (top A B c h fullShare ∗ bot A B c h fullShare
      ∗ lent A B (4, h, 1) c ∗ lent A B (5, h, 1) c ∗ lent A B (4, h, 2) c ∗ lent A B (5, h, 2) c
      ∗ landed A B (4, h, 2) c ∗ landed A B (5, h, 2) c))

variable (A : Dev nD → CA F) (B : Dev nD → CB F)

theorem r_any0 (c : Dev nD) (h : Fin 4) : lent A B (0, h, 0) c ⊢ holdAny c (slot bR h 0) := hold_any c _ _
theorem r_any1 (c : Dev nD) (h : Fin 4) : lent A B (0, h, 1) c ⊢ landAny (0, h, 0) c := hold_any c _ _
theorem r_any2 (c : Dev nD) (h : Fin 4) : lent A B (0, h, 2) c ⊢ landAny (0, h, 1) c := hold_any c _ _
theorem l_any0 (c : Dev nD) (h : Fin 4) : lent A B (1, h, 0) c ⊢ holdAny c (slot bL h 0) := hold_any c _ _
theorem l_any1 (c : Dev nD) (h : Fin 4) : lent A B (1, h, 1) c ⊢ landAny (1, h, 0) c := hold_any c _ _
theorem l_any2 (c : Dev nD) (h : Fin 4) : lent A B (1, h, 2) c ⊢ landAny (1, h, 1) c := hold_any c _ _
theorem landed_any0 (c : Dev nD) (h : Fin 4) (s : Fin 3) : landed A B (0, h, s) c ⊢ landAny (0, h, s) c := hold_any c _ _
theorem landed_any1 (c : Dev nD) (h : Fin 4) (s : Fin 3) : landed A B (1, h, s) c ⊢ landAny (1, h, s) c := hold_any c _ _
theorem landed_any2 (c : Dev nD) (h : Fin 4) (s : Fin 3) : landed A B (2, h, s) c ⊢ landAny (2, h, s) c := hold_any c _ _

theorem leavings (c : Dev nD) (h : Fin 4) : (bigSep (Finset.range 22) fun j => Left A B c h j) ⊢ laneEnd A B c h := by
  rw [bigSep_eq_bigSepL_of_eq [0, 1, 2, 3, 4, 5, 6, 7, 8, 9, 10, 11, 12, 13, 14, 15, 16, 17, 18, 19, 20, 21] (by decide) (by decide)]
  simp only [bigSepL_cons_cons, bigSepL_singleton]
  show iprop(emp ∗ emp ∗ (two (fun x => lent A B x c) 0 1 h 0 ∗ (Done true (0, h, 0) c ∗ Done false (0, h, 0) c ∗ Done true (1, h, 0) c ∗ Done false (1, h, 0) c)) ∗ emp ∗ (two (fun x => lent A B x c) 0 1 h 1 ∗ (Done true (0, h, 1) c ∗ Done false (0, h, 1) c ∗ Done true (1, h, 1) c ∗ Done false (1, h, 1) c)) ∗ emp ∗ (two (fun x => lent A B x c) 0 1 h 2 ∗ two (fun x => landed A B x c) 0 1 h 2 ∗ (Done true (0, h, 2) c ∗ Done false (0, h, 2) c ∗ Done true (1, h, 2) c ∗ Done false (1, h, 2) c)) ∗ emp ∗ ((myZ A B c h ∗ three (fun x => landed A B x c) 2 h) ∗ three (fun x => Done false x c) 2 h) ∗ emp ∗ three (fun x => Done false x c) 3 h ∗ emp ∗ two (fun x => Done false x c) 4 5 h 0 ∗ emp ∗ two (fun x => Done false x c) 4 5 h 1 ∗ emp ∗ (two (fun x => landed A B x c) 4 5 h 2 ∗ two (fun x => Done false x c) 4 5 h 2) ∗ (three (fun x => lent A B x c) 2 h ∗ three (fun x => Done true x c) 2 h) ∗ three (fun x => Done true x c) 3 h ∗ ((top A B c h fullShare ∗ bot A B c h fullShare) ∗ two (fun x => Done true x c) 4 5 h 0) ∗ (two (fun x => lent A B x c) 4 5 h 1 ∗ two (fun x => Done true x c) 4 5 h 1) ∗ (two (fun x => lent A B x c) 4 5 h 2 ∗ two (fun x => Done true x c) 4 5 h 2)) ⊢ _
  iintro ⟨-, -, ⟨⟨l00, l10⟩, ⟨Dt00, Df00, Dt10, Df10⟩⟩, -, ⟨⟨l01, l11⟩, ⟨Dt01, Df01, Dt11, Df11⟩⟩, -, ⟨⟨l02, l12⟩, ⟨m02, m12⟩, ⟨Dt02, Df02, Dt12, Df12⟩⟩, -, ⟨⟨z, ⟨m20, m21, m22⟩⟩, ⟨Df20, Df21, Df22⟩⟩, -, ⟨Df30, Df31, Df32⟩, -, ⟨Df40, Df50⟩, -, ⟨Df41, Df51⟩, -, ⟨⟨m42, m52⟩, ⟨Df42, Df52⟩⟩, ⟨⟨l20, l21, l22⟩, ⟨Dt20, Dt21, Dt22⟩⟩, ⟨Dt30, Dt31, Dt32⟩, ⟨⟨t, b⟩, ⟨Dt40, Dt50⟩⟩, ⟨⟨l41, l51⟩, ⟨Dt41, Dt51⟩⟩, ⟨⟨l42, l52⟩, ⟨Dt42, Dt52⟩⟩⟩
  isplitl [Dt00 Dt01 Dt02 Dt10 Dt11 Dt12 Dt20 Dt21 Dt22 Dt30 Dt31 Dt32 Dt40 Dt41 Dt42 Dt50 Dt51 Dt52]
  · isplitl [Dt00 Dt01 Dt02]
    · isplitl [Dt00]
      · iexact Dt00
      isplitl [Dt01]
      · iexact Dt01
      iexact Dt02
    isplitl [Dt10 Dt11 Dt12]
    · isplitl [Dt10]
      · iexact Dt10
      isplitl [Dt11]
      · iexact Dt11
      iexact Dt12
    isplitl [Dt20 Dt21 Dt22]
    · isplitl [Dt20]
      · iexact Dt20
      isplitl [Dt21]
      · iexact Dt21
      iexact Dt22
    isplitl [Dt30 Dt31 Dt32]
    · isplitl [Dt30]
      · iexact Dt30
      isplitl [Dt31]
      · iexact Dt31
      iexact Dt32
    isplitl [Dt40 Dt41 Dt42]
    · isplitl [Dt40]
      · iexact Dt40
      isplitl [Dt41]
      · iexact Dt41
      iexact Dt42
    isplitl [Dt50]
    · iexact Dt50
    isplitl [Dt51]
    · iexact Dt51
    iexact Dt52
  isplitl [Df00 Df01 Df02 Df10 Df11 Df12 Df20 Df21 Df22 Df30 Df31 Df32 Df40 Df41 Df42 Df50 Df51 Df52]
  · isplitl [Df00 Df01 Df02]
    · isplitl [Df00]
      · iexact Df00
      isplitl [Df01]
      · iexact Df01
      iexact Df02
    isplitl [Df10 Df11 Df12]
    · isplitl [Df10]
      · iexact Df10
      isplitl [Df11]
      · iexact Df11
      iexact Df12
    isplitl [Df20 Df21 Df22]
    · isplitl [Df20]
      · iexact Df20
      isplitl [Df21]
      · iexact Df21
      iexact Df22
    isplitl [Df30 Df31 Df32]
    · isplitl [Df30]
      · iexact Df30
      isplitl [Df31]
      · iexact Df31
      iexact Df32
    isplitl [Df40 Df41 Df42]
    · isplitl [Df40]
      · iexact Df40
      isplitl [Df41]
      · iexact Df41
      iexact Df42
    isplitl [Df50]
    · iexact Df50
    isplitl [Df51]
    · iexact Df51
    iexact Df52
  isplitl [l00 l01 l02 m02]
  · isplitl [l00]
    · iapply (r_any0 A B c h); iexact l00
    isplitl [l01]
    · iapply (r_any1 A B c h); iexact l01
    isplitl [l02]
    · iapply (r_any2 A B c h); iexact l02
    iapply (landed_any0 A B c h 2); iexact m02
  isplitl [l10 l11 l12 m12]
  · isplitl [l10]
    · iapply (l_any0 A B c h); iexact l10
    isplitl [l11]
    · iapply (l_any1 A B c h); iexact l11
    isplitl [l12]
    · iapply (l_any2 A B c h); iexact l12
    iapply (landed_any1 A B c h 2); iexact m12
  isplitl [z l20 l21 l22]
  · iapply (Entails.of_eq (laneZ_cut A B c h).symm)
    isplitl [z]; · iexact z
    isplitl [l20]; · iexact l20
    isplitl [l21] <;> iassumption
  isplitl [m20 m21 m22]
  · isplitl [m20]
    · iapply (landed_any2 A B c h 0); iexact m20
    isplitl [m21]
    · iapply (landed_any2 A B c h 1); iexact m21
    iapply (landed_any2 A B c h 2); iexact m22
  isplitl [t]
  · iexact t
  isplitl [b]
  · iexact b
  isplitl [l41]
  · iexact l41
  isplitl [l51]
  · iexact l51
  isplitl [l42]
  · iexact l42
  isplitl [l52]
  · iexact l52
  isplitl [m42]
  · iexact m42
  iexact m52

end Cert.KernelIdeal.Silu

end
-- ==== Proof.Bar.lean ====
/-
The barrier: a device hands its landing places to their senders, and takes those of its own copies.
-/
module

public import proofs.«01_k».proof.Proof.Lane

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MM F

variable (A : Dev nD → CA F) (B : Dev nD → CB F) (K : Dev nD × Option (Fin 152) → ℕ)

/-- What device `c` owes when it has given the first `k` signals. -/
def OwB (c : Dev nD) (k : ℕ) : sProp 𝕄 := iprop(∃ W, owes (c : Thread nD τ) (oweBar c k) W)

/-- The `k`-th signal. -/
theorem wp_sig {α : Type} (c : Dev nD) (k : Fin 6) {Q : α → sProp 𝕄} {kk : PUnit → Prog (TpuEff nD τ sig (Elt F) Λ₀ .tc) α} :
    iprop(Ctx A B K ∗ OwB c k.val ∗ dutyTok ER (barCell (barTo k c)) 0 k ∗ barPay (barTo k c) k)
      ⊢ iprop((OwB c (k.val + 1) -∗ wpc c (kk ⟨⟩) Q) -∗ wpc c (signal (F := F) (geo c) k >>= kk) Q) := by
  unfold OwB Ctx
  iintro ⟨⟨#HR, #Hlev⟩, ⟨%W, HO⟩, Ht, Hp⟩ Hk
  iapply (Rounds.wp_signal 𝒱₀ ER (Rd A B) (c : Thread nD τ) none (dst := (barTo k c : Thread nD τ)) (κ := K (barTo k c, none))
      (r := 0)
      (d := k) (by rw [duties_bar]; exact Finset.mem_univ _) (by rfl) () (oweBar c (k.val + 1)) (oweBar_step c k) (W := W)) $$ [HO Ht Hp]
  · isplitr; · iapply (inv_at A B K (barTo k c, none)); iexact HR
    isplitl [HO]; · iexact HO
    isplitl [Ht]; · iexact Ht
    isplitl [Hp]; · rw [payload_bar]; iexact Hp
    iapply (reached_at A B K (barTo k c, none)); iexact HR
  iintro HO
  iapply Hk
  iexists W; iexact HO

/-- The landing places of a device, by the signals that hand them over. -/
theorem places (c : Dev nD) : (bigSep Finset.univ fun x : X => landAny (F := F) x c)
    = bigSep Finset.univ fun k : Fin 6 => barPay (F := F) (barTo k c) k := by
  have hU : (Finset.univ : Finset X) = Finset.univ.biUnion fun j => Finset.univ.filter fun x : X => cls x = j := by ext x; simp
  conv_lhs => rw [hU]
  rw [bigSep_biUnion_eq]
  · refine bigSep_congr fun k _ => ?_
    unfold barPay
    refine bigSep_congr fun x hx => ?_
    have := cls_dst x c
    rw [(Finset.mem_filter.mp hx).2] at this
    rw [this]
  · intro i _ j _ hij
    exact Finset.disjoint_left.mpr fun x hx hy => hij ((Finset.mem_filter.mp hx).2.symm.trans (Finset.mem_filter.mp hy).2)

theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The wait for the six signals. -/
theorem wp_six {α : Type} (c : Dev nD) {Q : α → sProp 𝕄} {kk : PUnit → Prog (TpuEff nD τ sig (Elt F) Λ₀ .tc) α} :
    iprop(Ctx A B K ∗ OwB c 6 ∗ cred (tallyAt (barCell c) () 6) ∗ atPos ER (barCell c) 0 ∅ 0)
      ⊢ iprop(((semVal (barCell c) 0 ∗ (bigSep Finset.univ fun x : X => landAny (F := F) x (xdst x c)) ∗ Ow c 0) -∗ wpc c (kk ⟨⟩) Q)
        -∗ wpc c ((semWaitWord barSem 6#32 : Prg F) >>= kk) Q) := by
  unfold OwB Ow Ctx
  rw [oweBar_top]
  iintro ⟨⟨#HR, #Hlev⟩, ⟨%W, HO⟩, Hc, Hat⟩ Hk
  iapply (Rounds.wp_wait_rest_token 𝒱₀ ER (Rd A B) (c : Thread nD τ) none (κ := K (c, none))
      (wpE_semWait_eq 𝒱₀ (c : Thread nD τ) none Set.univ) (Set.mem_univ _) ()
      (O := owe c 0) (W := W) (R := 0) (m := 0) (T := ∅)
      (by rw [expect_bar]; rfl)) $$ [Hc HO Hat]
  · isplitr; · iapply (inv_at A B K (c, none)); iexact HR
    isplitl [Hc]; · iexact Hc
    isplitl [HO]; · iexact HO
    isplitr; · iapply (mayWait_owe c (.reg barSem) 0 (by show 1 < 2; omega)); iexact Hlev
    iexact Hat
  iintro ⟨HO, Hat, -, Hpay⟩
  imod (Rounds.cell_close ER (Rd A B) (g := barCell c) (Set.mem_univ (K (c, none))) (fun h => h) (R := 0 + 1)
    (duties_later A B _)) $$ [Hat] with Hz
  · isplitr; · iapply (inv_at A B K (c, none)); iexact HR
    iexact Hat
  iapply Hk
  isplitl [Hz]; · iexact Hz
  isplitl [Hpay]; · iapply (Entails.of_eq (rest_bar A B c)); iexact Hpay
  iexists _; iexact HO

/-- The barrier. -/
theorem wp_barrier {α : Type} (c : Dev nD) {Q : α → sProp 𝕄} {kk : PUnit → Prog (TpuEff nD τ sig (Elt F) Λ₀ .tc) α} :
    iprop(Ctx A B K ∗ OwB c 0 ∗ (bigSep Finset.univ fun k : Fin 6 => dutyTok ER (barCell (barTo k c)) 0 k)
        ∗ (bigSep Finset.univ fun x : X => landAny (F := F) x c)
        ∗ (cred (tallyAt (barCell c) () 6) ∗ atPos ER (barCell c) 0 ∅ 0))
      ⊢ iprop(((semVal (barCell c) 0 ∗ (bigSep Finset.univ fun x : X => landAny (F := F) x (xdst x c)) ∗ Ow c 0) -∗ wpc c (kk ⟨⟩) Q)
        -∗ wpc c (barrier (F := F) (geo c) >>= kk) Q) := by
  have e : (barrier (F := F) (geo c) >>= kk) = (signal (F := F) (geo c) 0 >>= fun _ => signal (geo c) 1 >>= fun _ => signal (geo c) 2 >>= fun _ =>
    signal (geo c) 3 >>= fun _ => signal (geo c) 4 >>= fun _ => signal (geo c) 5 >>= fun _ => semWaitWord barSem 6#32 >>= kk) := rfl
  rw [places, sep6, sep6, e]
  iintro ⟨#HC, HO, ⟨T0, T1, T2, T3, T4, T5⟩, ⟨P0, P1, P2, P3, P4, P5⟩, Hc⟩ Hk
  iapply (wp_sig A B K c 0) $$ [HO T0 P0]
  · isplitr; · iexact HC
    isplitl [HO]; · iexact HO
    isplitl [T0] <;> iassumption
  iintro HO
  iapply (wp_sig A B K c 1) $$ [HO T1 P1]
  · isplitr; · iexact HC
    isplitl [HO]; · iexact HO
    isplitl [T1] <;> iassumption
  iintro HO
  iapply (wp_sig A B K c 2) $$ [HO T2 P2]
  · isplitr; · iexact HC
    isplitl [HO]; · iexact HO
    isplitl [T2] <;> iassumption
  iintro HO
  iapply (wp_sig A B K c 3) $$ [HO T3 P3]
  · isplitr; · iexact HC
    isplitl [HO]; · iexact HO
    isplitl [T3] <;> iassumption
  iintro HO
  iapply (wp_sig A B K c 4) $$ [HO T4 P4]
  · isplitr; · iexact HC
    isplitl [HO]; · iexact HO
    isplitl [T4] <;> iassumption
  iintro HO
  iapply (wp_sig A B K c 5) $$ [HO T5 P5]
  · isplitr; · iexact HC
    isplitl [HO]; · iexact HO
    isplitl [T5] <;> iassumption
  iintro HO
  iapply (wp_six A B K c) $$ [HO Hc]
  · isplitr; · iexact HC
    isplitl [HO]; · iexact HO
    iexact Hc
  iexact Hk

end Cert.KernelIdeal.Silu

end
-- ==== Proof.Body.lean ====
/-
The whole body of a device, from what the launch gives it to the result.
-/
module

public import proofs.«01_k».proof.Proof.LaneEnds
public import proofs.«01_k».proof.Proof.Bar

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MM F

variable (A : Dev nD → CA F) (B : Dev nD → CB F) (K : Dev nD × Option (Fin 152) → ℕ)

/-! ### A device's semaphores -/

/-- The copies' semaphores that device `c` does not use. -/
abbrev idle (c : Dev nD) : Finset (Fin 152) := Finset.univ.filter fun i : Fin 152 => (dec c i.val).isNone

theorem enc_dec : ∀ (c : Dev nD) (i : Fin 152), (dec c i.val).elim True (fun e => enc c e.1 e.2 = i) := by
  have h : ∀ (c : Dev nD) (i : Fin 152), (dec c i.val).elim true (fun e => decide (enc c e.1 e.2 = i)) = true := by decide +kernel
  intro c i
  have := h c i
  rcases hd : dec c i.val with _ | e
  · trivial
  · rw [hd] at this
    exact of_decide_eq_true (p := enc c e.1 e.2 = i) this

theorem bigSep_own (c : Dev nD) (Φ : Fin 152 → sProp 𝕄) : bigSep Finset.univ Φ
    = iprop((bigSep Finset.univ fun x : X => Φ (enc c true x)) ∗ (bigSep Finset.univ fun x : X => Φ (enc c false x)) ∗ bigSep (idle c) Φ) := by
  have e : (Finset.univ : Finset (Fin 152)) = (Finset.univ : Finset (Bool × X)).map ⟨fun e => enc c e.1 e.2, enc_inj c⟩ ∪ idle c := by
    ext i
    simp only [Finset.mem_univ, Finset.mem_union, Finset.mem_map, true_and, Function.Embedding.coeFn_mk, Finset.mem_filter, true_iff]
    have h := enc_dec c i
    rcases hd : dec c i.val with _ | e
    · exact .inr rfl
    · rw [hd] at h
      exact .inl ⟨e, h⟩
  have dj : Disjoint ((Finset.univ : Finset (Bool × X)).map ⟨fun e => enc c e.1 e.2, enc_inj c⟩) (idle c) := by
    refine Finset.disjoint_left.mpr fun i hi hn => ?_
    obtain ⟨e, -, rfl⟩ := Finset.mem_map.mp hi
    have := (Finset.mem_filter.mp hn).2
    rw [show (⟨fun e => enc c e.1 e.2, enc_inj c⟩ : Bool × X ↪ Fin 152) e = enc c e.1 e.2 from rfl, dec_enc] at this
    exact Bool.false_ne_true this
  conv_lhs => rw [e]
  rw [bigSep_union dj, bigSep_map, bigSep_univ_prod, bigSep_univ_eq_bigSepL [true, false] (by decide) (by decide)]
  simp only [bigSepL_cons_cons, bigSepL_singleton]
  exact equiv_iff.mp ⟨BI.sep_assoc, BI.sep_assoc'⟩

theorem bigSep_opt (Φ : Option (Fin 152) → sProp 𝕄) :
    bigSep Finset.univ Φ = iprop(Φ none ∗ bigSep Finset.univ fun i : Fin 152 => Φ (some i)) := by
  have e : (Finset.univ : Finset (Option (Fin 152))) = insert none (Finset.univ.map Function.Embedding.some) := by
    ext i; cases i <;> simp
  rw [e, bigSep_insert (by simp), bigSep_map]
  rfl

theorem duties_idle (c : Dev nD) (i : Fin 152) (h : i ∈ idle c) : ∀ r, 0 ≤ r → (Rd A B).duties ((c : Thread nD τ), .dma (osm i)) r = ∅ := by
  intro r _
  have h := (Finset.mem_filter.mp h).2
  show (if r = 0 then (if (role c (osm i)).isSome then ({0} : Finset (Fin 6)) else ∅) else ∅) = ∅
  have e : role c (osm i) = dec c i.val := by
    unfold role osm
    rw [if_pos (by show 3 ≤ 3 + i.val; omega), show 3 + i.val - 3 = i.val by omega]
  rw [e, Option.isNone_iff_eq_none.mp h]
  split <;> rfl

/-- The semaphores not used are closed as they stand. -/
theorem close_idle (c : Dev nD) :
    iprop(Ctx A B K ∗ bigSep (idle c) fun i => atPos ER ((c : Thread nD τ), .dma (osm i)) 0 ∅ 0)
      ⊢ |={Set.univ}=> (bigSep (idle c) fun i => (semVal ((c : Thread nD τ), .dma (osm i)) 0 : sProp 𝕄)) := by
  have e : ∀ i ∈ idle c, iprop(Ctx A B K ∗ atPos ER ((c : Thread nD τ), .dma (osm i)) 0 ∅ 0)
      ⊢ |={Set.univ}=> (semVal ((c : Thread nD τ), .dma (osm i)) 0 : sProp 𝕄) := fun i hi => by
    unfold Ctx
    iintro ⟨⟨#HR, -⟩, Hat⟩
    iapply (Rounds.cell_close ER (Rd A B) (g := ((c : Thread nD τ), .dma (osm i))) (Set.mem_univ (K (c, some i))) (fun h => h) (R := 0)
      (duties_idle A B c i hi))
    isplitr; · iapply (inv_at A B K (c, some i)); iexact HR
    iexact Hat
  exact (bigSep_with_persistent e).trans (bigSep_fupd _ _)

/-! ### The buffers by lanes -/

theorem lane_places (c : Dev nD) (h : Fin 4) :
    iprop((holdAny c (slot bR h 0) ∗ landAny (0, h, 0) c ∗ landAny (0, h, 1) c ∗ landAny (0, h, 2) c)
      ∗ (holdAny c (slot bL h 0) ∗ landAny (1, h, 0) c ∗ landAny (1, h, 1) c ∗ landAny (1, h, 2) c)
      ∗ (holdAny c (zh h 0) ∗ holdAny c (zh h 1))
      ∗ (xOwn c h ∗ landAny (2, h, 0) c ∗ landAny (2, h, 1) c ∗ landAny (2, h, 2) c)
      ∗ (myAny c h ∗ landAny (3, h, 0) c ∗ landAny (3, h, 1) c ∗ landAny (3, h, 2) c
          ∗ landAny (4, h, 0) c ∗ landAny (4, h, 1) c ∗ landAny (4, h, 2) c
          ∗ landAny (5, h, 0) c ∗ landAny (5, h, 1) c ∗ landAny (5, h, 2) c))
      ⊢ iprop(lane18 (fun x => landAny (F := F) x c) h ∗ xOwn c h
          ∗ (holdAny c (slot bR h 0) ∗ holdAny c (slot bL h 0) ∗ (holdAny c (zh h 0) ∗ holdAny c (zh h 1)) ∗ myAny c h)) := by
  iintro ⟨⟨R, a00, a01, a02⟩, ⟨L, a10, a11, a12⟩, Z, ⟨Y, a20, a21, a22⟩, ⟨O, a30, a31, a32, a40, a41, a42, a50, a51, a52⟩⟩
  isplitl [a00 a01 a02 a10 a11 a12 a20 a21 a22 a30 a31 a32 a40 a41 a42 a50 a51 a52]
  · isplitl [a00 a01 a02]
    · isplitl [a00]; · iexact a00
      isplitl [a01] <;> iassumption
    isplitl [a10 a11 a12]
    · isplitl [a10]; · iexact a10
      isplitl [a11] <;> iassumption
    isplitl [a20 a21 a22]
    · isplitl [a20]; · iexact a20
      isplitl [a21] <;> iassumption
    isplitl [a30 a31 a32]
    · isplitl [a30]; · iexact a30
      isplitl [a31] <;> iassumption
    isplitl [a40 a41 a42]
    · isplitl [a40]; · iexact a40
      isplitl [a41] <;> iassumption
    isplitl [a50]; · iexact a50
    isplitl [a51] <;> iassumption
  isplitl [Y]; · iexact Y
  isplitl [R]; · iexact R
  isplitl [L]; · iexact L
  isplitl [Z] <;> iassumption

/-- The buffers cut into the copies' landing places and the rest. -/
theorem cut_all (c : Dev nD) :
    iprop(anyBuf (F := F) c cc0_scratch0 ∗ anyBuf (F := F) c cc0_scratch1 ∗ anyBuf (F := F) c cc0_scratch2 ∗ anyBuf (F := F) c cc0_scratch3 ∗ anyBuf (F := F) c cc0_stg2_0)
      ⊢ iprop((bigSep Finset.univ fun x : X => landAny (F := F) x c) ∗ (bigSep Finset.univ fun h : Fin 4 => xOwn (F := F) c h)
        ∗ bigSep Finset.univ fun h : Fin 4 => iprop(holdAny (F := F) c (slot bR h 0) ∗ holdAny c (slot bL h 0) ∗ (holdAny c (zh h 0) ∗ holdAny c (zh h 1)) ∗ myAny c h)) := by
  refine (BIClass.sep_mono (cut_R c) (BIClass.sep_mono (cut_L c) (BIClass.sep_mono (cut_Z c) (BIClass.sep_mono (cut_X c) (cut_O c))))).trans ?_
  rw [← bigSep_sep', ← bigSep_sep', ← bigSep_sep', ← bigSep_sep', bigSep_lanes, ← bigSep_sep', ← bigSep_sep']
  exact bigSep_mono fun h _ => lane_places c h

/-- What a device has for its copies when the barrier is passed is what the lanes begin with. -/
theorem lanes_begin (c : Dev nD) :
    iprop((bigSep Finset.univ fun x : X => Snd (F := F) x c) ∗ (bigSep Finset.univ fun x : X => Rcv (F := F) x c)
        ∗ bigSep Finset.univ fun h : Fin 4 => iprop(holdAny (F := F) c (slot bR h 0) ∗ holdAny c (slot bL h 0) ∗ (holdAny c (zh h 0) ∗ holdAny c (zh h 1)) ∗ myAny c h))
      ⊢ bigSep Finset.univ fun h : Fin 4 => LS A B c h 0 := by
  rw [bigSep_lanes, bigSep_lanes, ← bigSep_sep', ← bigSep_sep']
  refine bigSep_mono fun h _ => (needs c h).trans ?_
  show _ ⊢ iprop(emp ∗ _ ∗ bigSep (Finset.range 0) _)
  rw [Finset.range_zero, bigSep_empty]
  iintro H
  isplitr; · iempintro
  isplitl [H]; · iexact H
  iempintro

theorem bigSep_sep7 (P Q R S T U V : Fin 4 → sProp 𝕄) :
    (bigSep Finset.univ fun h => iprop(P h ∗ Q h ∗ R h ∗ S h ∗ T h ∗ U h ∗ V h))
      = iprop(bigSep Finset.univ P ∗ bigSep Finset.univ Q ∗ bigSep Finset.univ R ∗ bigSep Finset.univ S ∗ bigSep Finset.univ T
        ∗ bigSep Finset.univ U ∗ bigSep Finset.univ V) := by
  rw [bigSep_sep', bigSep_sep', bigSep_sep', bigSep_sep', bigSep_sep', bigSep_sep']

/-- What the lanes leave: the semaphores, the scratch and the result. -/
theorem lanes_end (c : Dev nD) :
    iprop((bigSep Finset.univ fun h : Fin 4 => LS A B c h 22) ∗ (bigSep Finset.univ fun h : Fin 4 => xOwn (F := F) c h))
      ⊢ iprop((bigSep Finset.univ fun x : X => Done (F := F) true x c) ∗ (bigSep Finset.univ fun x : X => Done (F := F) false x c)
        ∗ anyBuf (F := F) c cc0_scratch0 ∗ anyBuf (F := F) c cc0_scratch1 ∗ anyBuf (F := F) c cc0_scratch2 ∗ anyBuf (F := F) c cc0_scratch3
        ∗ (((c : Thread nD τ).loc cc0_stg2_0) ↦{fullShare} OUT A B)) := by
  have e : ∀ h ∈ (Finset.univ : Finset (Fin 4)), iprop(LS A B c h 22 ∗ xOwn (F := F) c h) ⊢
      iprop(lane18 (fun x => Done (F := F) true x c) h ∗ lane18 (fun x => Done (F := F) false x c) h
      ∗ (holdAny c (slot bR h 0) ∗ landAny (0, h, 0) c ∗ landAny (0, h, 1) c ∗ landAny (0, h, 2) c)
      ∗ (holdAny c (slot bL h 0) ∗ landAny (1, h, 0) c ∗ landAny (1, h, 1) c ∗ landAny (1, h, 2) c)
      ∗ laneZ A B c h ∗ (xOwn c h ∗ landAny (2, h, 0) c ∗ landAny (2, h, 1) c ∗ landAny (2, h, 2) c)
      ∗ (top A B c h fullShare ∗ bot A B c h fullShare
        ∗ lent A B (4, h, 1) c ∗ lent A B (5, h, 1) c ∗ lent A B (4, h, 2) c ∗ lent A B (5, h, 2) c
        ∗ landed A B (4, h, 2) c ∗ landed A B (5, h, 2) c)) := fun h _ => by
    unfold LS
    iintro ⟨⟨-, -, Hl⟩, Hx⟩
    ihave H := (leavings A B c h) $$ Hl
    icases H with ⟨D1, D2, R, L, Z, Y, O⟩
    isplitl [D1]; · iexact D1
    isplitl [D2]; · iexact D2
    isplitl [R]; · iexact R
    isplitl [L]; · iexact L
    isplitl [Z]; · iexact Z
    isplitl [Hx Y]
    · isplitl [Hx]; · iexact Hx
      iexact Y
    iexact O
  rw [← bigSep_sep']
  refine (bigSep_mono e).trans ?_
  rw [bigSep_sep7, bigSep_lanes, bigSep_lanes]
  exact BIClass.sep_mono (Entails.refl _) (BIClass.sep_mono (Entails.refl _) (BIClass.sep_mono (join_R A B c) (BIClass.sep_mono (join_L A B c)
    (BIClass.sep_mono (join_Z A B c) (BIClass.sep_mono (join_X A B c) (join_O A B c))))))

/-! ### The body -/

/-- The tokens a device pays with. -/
def payToks (c : Dev nD) : sProp 𝕄 :=
  iprop((bigSep Finset.univ fun k : Fin 6 => dutyTok ER (barCell (barTo k c)) 0 k)
    ∗ (bigSep Finset.univ fun x : X => dutyTok ER (xcell c true x) 0 0)
    ∗ (bigSep Finset.univ fun x : X => dutyTok ER (xcell (xdst x c) false x) 0 0))
/-- The credits it waits with. -/
def creds (c : Dev nD) : sProp 𝕄 :=
  iprop(cred (tallyAt (barCell c) () 6) ∗ bigSep Finset.univ fun x : X => cred (tallyAt (xcell c false x) () (nX x)))
/-- Its places in the protocol. -/
def poss (c : Dev nD) : sProp 𝕄 := bigSep Finset.univ fun k : Option (Fin 152) => atPos ER (kcell (c, k)) 0 ∅ 0

/-- The scratch buffers. -/
def scr (c : Dev nD) : sProp 𝕄 :=
  iprop(anyBuf (F := F) c cc0_scratch0 ∗ anyBuf (F := F) c cc0_scratch1 ∗ anyBuf (F := F) c cc0_scratch2 ∗ anyBuf (F := F) c cc0_scratch3)
/-- A device's semaphores at rest. -/
def rest (c : Dev nD) : sProp 𝕄 :=
  iprop((bigSep Finset.univ fun i : Fin 152 => semVal ((c : Thread nD τ), .dma (osm i)) 0) ∗ semVal (barCell c) 0)

theorem poss_eq (c : Dev nD) : poss (F := F) c = iprop(atPos ER (barCell c) 0 ∅ 0 ∗ (bigSep Finset.univ fun x : X => atPos ER (xcell c true x) 0 ∅ 0)
    ∗ (bigSep Finset.univ fun x : X => atPos ER (xcell c false x) 0 ∅ 0) ∗ bigSep (idle c) fun i => atPos ER ((c : Thread nD τ), .dma (osm i)) 0 ∅ 0) := by
  unfold poss
  rw [bigSep_opt, bigSep_own c]
  rfl
theorem rest_eq (c : Dev nD) : rest (F := F) c = iprop(((bigSep Finset.univ fun x : X => Done (F := F) true x c) ∗ (bigSep Finset.univ fun x : X => Done (F := F) false x c)
    ∗ bigSep (idle c) fun i => semVal ((c : Thread nD τ), .dma (osm i)) 0) ∗ semVal (barCell c) 0) := by
  unfold rest
  rw [bigSep_own c]
  rfl

theorem body_ok (c : Dev nD) :
    iprop(Ctx A B K ∗ payToks c ∗ creds c ∗ poss c ∗ scr c ∗ anyBuf c cc0_stg2_0 ∗ OwB c 0 ∗ ptA A c ∗ ptB B c)
      ⊢ wpc c (bodyOn (F := F) geo) fun _ =>
        iprop(rest c ∗ scr c ∗ Ow c 72 ∗ ptA A c ∗ ptB B c ∗ (((c : Thread nD τ).loc cc0_stg2_0) ↦{fullShare} OUT A B)) := by
  have e : bodyOn (F := F) geo = (.op .deviceId fun d => barrier (F := F) (geo d) >>= fun _ => runAll (geo d) sched) := rfl
  rw [e, poss_eq, rest_eq]
  unfold wpc
  rw [wp_deviceId]
  unfold payToks creds scr
  iintro ⟨#HC, ⟨TB, T1, T2⟩, ⟨CB, C2⟩, ⟨PB, P1, P2, PI⟩, ⟨S0, S1, S2, S3⟩, SO, HO, HA, HB⟩
  ihave Hcut := (cut_all c) $$ [S0 S1 S2 S3 SO]
  · isplitl [S0]; · iexact S0
    isplitl [S1]; · iexact S1
    isplitl [S2]; · iexact S2
    isplitl [S3] <;> iassumption
  icases Hcut with ⟨Hl, Hx, Hh⟩
  iapply (wp_barrier A B K c) $$ [HO TB Hl CB PB]
  · isplitr; · iexact HC
    isplitl [HO]; · iexact HO
    isplitl [TB]; · iexact TB
    isplitl [Hl]; · iexact Hl
    isplitl [CB] <;> iassumption
  iintro ⟨Hbar, Hl, HO⟩
  iapply (fupd_wp frame _ _ _ _)
  imod (close_idle A B K c) $$ [PI] with HI
  · isplitr; · iexact HC
    iexact PI
  imodintro
  ihave HL := (show iprop((bigSep Finset.univ fun x : X => dutyTok ER (xcell c true x) 0 0) ∗ (bigSep Finset.univ fun x : X => dutyTok ER (xcell (xdst x c) false x) 0 0)
      ∗ (bigSep Finset.univ fun x : X => landAny (F := F) x (xdst x c)) ∗ (bigSep Finset.univ fun x : X => atPos ER (xcell c true x) 0 ∅ 0))
      ⊢ (bigSep Finset.univ fun x : X => Snd (F := F) x c) from by
    unfold Snd; rw [bigSep_sep', bigSep_sep', bigSep_sep']) $$ [T1 T2 Hl P1]
  · isplitl [T1]; · iexact T1
    isplitl [T2]; · iexact T2
    isplitl [Hl] <;> iassumption
  ihave HR := (show iprop((bigSep Finset.univ fun x : X => cred (tallyAt (xcell c false x) () (nX x))) ∗ (bigSep Finset.univ fun x : X => atPos ER (xcell c false x) 0 ∅ 0))
      ⊢ (bigSep Finset.univ fun x : X => Rcv (F := F) x c) from by
    unfold Rcv; rw [bigSep_sep']) $$ [C2 P2]
  · isplitl [C2] <;> iassumption
  ihave HS := (lanes_begin A B c) $$ [HL HR Hh]
  · isplitl [HL]; · iexact HL
    isplitl [HR] <;> iassumption
  iapply (wp_wand _ _ _) $$ [HS HA HB HO]
  · iapply (run_ok A B K c sched (fun _ => 0) 0 sched_good)
    isplitr; · iexact HC
    isplitl [HS]; · iexact HS
    isplitl [HA]; · iexact HA
    isplitl [HB] <;> iassumption
  iintro %a ⟨HS, HA, HB, HO⟩
  ihave H := (lanes_end A B c) $$ [HS Hx]
  · isplitl [HS] <;> iassumption
  icases H with ⟨D1, D2, S0, S1, S2, S3, HC⟩
  isplitl [D1 D2 HI Hbar]
  · isplitl [D1 D2 HI]
    · isplitl [D1]; · iexact D1
      isplitl [D2] <;> iassumption
    iexact Hbar
  isplitl [S0 S1 S2 S3]
  · isplitl [S0]; · iexact S0
    isplitl [S1]; · iexact S1
    isplitl [S2] <;> iassumption
  isplitl [HO]; · iexact HO
  isplitl [HA]; · iexact HA
  isplitl [HB] <;> iassumption

end Cert.KernelIdeal.Silu

end
-- ==== Proof.Deal.lean ====
/-
What the launch deals every device: its places, its tokens and its credits.
-/
module

public import proofs.«01_k».proof.Proof.Body

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MM F

variable (A : Dev nD → CA F) (B : Dev nD → CB F) (K : Dev nD × Option (Fin 152) → ℕ)

/-! ### Cells and tokens -/

abbrev osem (i : Fin 152) : SemLoc sig := .dma (osm i)

theorem osm_inj : Function.Injective osm := fun i j h => by
  have : 3 + i.val = 3 + j.val := congrArg Fin.val h
  exact Fin.ext (by omega)

theorem kcell_inj : Function.Injective (kcell : Dev nD × Option (Fin 152) → GSem nD τ sig) := by
  rintro ⟨c, k⟩ ⟨c', k'⟩ h
  rcases k with _ | i <;> rcases k' with _ | j
  · have h1 : c = c' := congrArg (fun g : GSem nD τ sig => g.1.1) h
    rw [h1]
  · exact absurd (congrArg Prod.snd h) (fun h' => by cases h')
  · exact absurd (congrArg Prod.snd h) (fun h' => by cases h')
  · have h1 : c = c' := congrArg (fun g : GSem nD τ sig => g.1.1) h
    have h2 : osm i = osm j := SemLoc.dma.inj (congrArg Prod.snd h)
    rw [h1, osm_inj h2]

theorem xcell_inj {c c' : Dev nD} {b b' : Bool} {x x' : X} (h : xcell c b x = xcell c' b' x') : c = c' ∧ b = b' ∧ x = x' := by
  have h1 : c = c' := congrArg (fun g : GSem nD τ sig => g.1.1) h
  subst h1
  have h2 : osm (enc c b x) = osm (enc c b' x') := SemLoc.dma.inj (congrArg Prod.snd h)
  have h3 := enc_inj c (a₁ := (b, x)) (a₂ := (b', x')) (osm_inj h2)
  exact ⟨rfl, congrArg Prod.fst h3, congrArg Prod.snd h3⟩

def cells : Finset (GSem nD τ sig) := Finset.univ.map ⟨kcell, kcell_inj⟩

/-- A device's tokens: the six signals' of its barrier, and those of its copies' semaphores. -/
abbrev tokOf (y : Dev nD × (Fin 6 ⊕ (Bool × X))) : GSem nD τ sig × ℕ × Fin 6 :=
  match y.2 with
  | .inl k => (barCell y.1, 0, k)
  | .inr e => (xcell y.1 e.1 e.2, 0, 0)
theorem tokOf_inj : Function.Injective tokOf := by
  rintro ⟨c, y⟩ ⟨c', y'⟩ h
  rcases y with k | ⟨b, x⟩ <;> rcases y' with k' | ⟨b', x'⟩
  · have h1 : c = c' := congrArg (fun g : GSem nD τ sig × ℕ × Fin 6 => g.1.1.1) h
    have h2 : k = k' := congrArg (fun g : GSem nD τ sig × ℕ × Fin 6 => g.2.2) h
    rw [h1, h2]
  · exact absurd (congrArg (fun g : GSem nD τ sig × ℕ × Fin 6 => g.1.2) h) (fun h' => by cases h')
  · exact absurd (congrArg (fun g : GSem nD τ sig × ℕ × Fin 6 => g.1.2) h) (fun h' => by cases h')
  · obtain ⟨h1, h2, h3⟩ := xcell_inj (congrArg Prod.fst h)
    exact Prod.ext h1 (congrArg Sum.inr (Prod.ext h2 h3))
def minted : Finset (GSem nD τ sig × ℕ × Fin 6) := Finset.univ.map ⟨tokOf, tokOf_inj⟩

def u₀ : UU := (initOf (Pipeline.cells cfgs cellOf_inj) (Pipeline.launchToks cfgs cellOf_inj), initOf cells minted)

/-- The tokens of device `c`'s own cells. -/
def toks (c : Dev nD) : sProp 𝕄 :=
  iprop((bigSep Finset.univ fun k : Fin 6 => dutyTok ER (barCell c) 0 k)
    ∗ (bigSep Finset.univ fun x : X => dutyTok ER (xcell c true x) 0 0)
    ∗ (bigSep Finset.univ fun x : X => dutyTok ER (xcell c false x) 0 0))

theorem minted_eq : bigSep minted (fun y => (dutyTok ER y.1 y.2.1 y.2.2 : sProp 𝕄)) = bigSep Finset.univ fun c : Dev nD => toks c := by
  unfold minted
  rw [bigSep_map, bigSep_univ_prod]
  refine bigSep_congr fun c _ => ?_
  rw [bigSep_univ_sum, bigSep_univ_prod, bigSep_univ_eq_bigSepL [true, false] (by decide) (by decide)]
  simp only [bigSepL_cons_cons, bigSepL_singleton]
  rfl

/-- What the launch's ghost state deals a device. -/
def G (c : Dev nD) : sProp 𝕄 :=
  iprop((bigSep Finset.univ fun k : Option (Fin 152) => roundState ER (Rd A B) (kcell (c, k)) 0)
    ∗ (poss c ∗ bigSep Finset.univ fun k : Option (Fin 152) => reached ER (kcell (c, k)) 0) ∗ toks c)

/-- What a device starts with. -/
def G' (c : Dev nD) : sProp 𝕄 := iprop(∃ K, records A B K ∗ poss c ∗ payToks c)

theorem fund_all : BI.own (ER (initOf cells minted)) ⊢ (|==> bigSep Finset.univ (G A B) : sProp 𝕄) := by
  have hX (Φ : GSem nD τ sig → sProp 𝕄) : bigSep cells Φ = bigSep Finset.univ fun c : Dev nD => bigSep Finset.univ fun k : Option (Fin 152) => Φ (kcell (c, k)) := by
    unfold cells; rw [bigSep_map, bigSep_univ_prod]; rfl
  iintro HX
  imod (Rounds.fund ER (Rd A B) cells minted) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq (minted_eq (F := F))) $$ Htok
  unfold G poss; simp only [bigSep_sep']
  isplitl [Hst']; · iexact Hst'
  isplitl [Hat' Hr']
  · isplitl [Hat'] <;> iassumption
  iexact Htok'

/-! ### The invariants -/

theorem ownSems0_eq (c : Dev nD) : (Pipeline.ownSems0 (Ix := Unit) (Name := ℕ) (U := UU) (Lvl := ℕ) (Val := Elt F) (τ := τ) osem c : sProp 𝕄)
    = bigSep Finset.univ fun i : Fin 152 => semVal ((c : Thread nD τ), .dma (osm i)) 0 := rfl
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : Option (Fin 152) => iprop(∃ κ : ℕ, cellInv ER (Rd A B) κ (kcell (c, k))))
          ∗ (poss c ∗ bigSep Finset.univ fun k : Option (Fin 152) => reached ER (kcell (c, k)) 0) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Option (Fin 152) => semVal (kcell (c, k)) 0 : sProp 𝕄) from by
    rw [ownSems0_eq, unscopedSems0_eq, bigSep_opt]
    iintro ⟨H1, H2⟩
    isplitl [H2]; · iexact H2
    iexact H1) $$ [Hos Hus]
  · isplitl [Hos] <;> iassumption
  imod (show iprop((bigSep Finset.univ fun k : Option (Fin 152) => semVal (kcell (c, k)) 0) ∗ bigSep Finset.univ fun k : Option (Fin 152) => roundState ER (Rd A B) (kcell (c, k)) 0)
      ⊢ (|={Set.univ}=> bigSep Finset.univ fun k : Option (Fin 152) => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens go to those who pay with them -/

theorem around {T : Type} [Fintype T] [DecidableEq T] (f : T → Dev nD → Dev nD) (hf : ∀ t, Function.Injective (f t)) (Φ : T → Dev nD → sProp 𝕄) :
    (bigSep Finset.univ fun c : Dev nD => bigSep Finset.univ fun t : T => Φ t c)
      = bigSep Finset.univ fun c : Dev nD => bigSep Finset.univ fun t : T => Φ t (f t c) := by
  rw [bigSep_univ_comm, bigSep_univ_comm fun c t => Φ t (f t c)]
  exact bigSep_congr fun t _ => bigSep_univ_equiv (Equiv.ofBijective (f t) (Finite.injective_iff_bijective.mp (hf t))) (Φ t)

theorem barTo_inj : ∀ k, Function.Injective (barTo k) := by
  have : ∀ k c c', barTo k c = barTo k c' → c = c' := by decide +kernel
  exact fun k c c' => this k c c'
theorem xdst_inj : ∀ x, Function.Injective (xdst x) := by
  have : ∀ x c c', xdst x c = xdst x c' → c = c' := by decide +kernel
  exact fun x c c' => this x c c'

theorem toks_around : (bigSep Finset.univ fun c : Dev nD => (toks c : sProp 𝕄)) = bigSep Finset.univ fun c : Dev nD => payToks c := by
  unfold toks payToks
  rw [bigSep_sep', bigSep_sep', bigSep_sep', bigSep_sep']
  rw [around barTo barTo_inj (fun k c => (dutyTok ER (barCell c) 0 k : sProp 𝕄)),
    around xdst xdst_inj (fun x c => (dutyTok ER (xcell c false x) 0 0 : sProp 𝕄))]

theorem regroup :
    (bigSep Finset.univ fun c : Dev nD => iprop((bigSep Finset.univ fun k : Option (Fin 152) => iprop(∃ κ : ℕ, cellInv ER (Rd A B) κ (kcell (c, k))))
          ∗ (poss c ∗ bigSep Finset.univ fun k : Option (Fin 152) => reached ER (kcell (c, k)) 0) ∗ toks c) : sProp 𝕄)
      ⊢ bigSep Finset.univ (G' A B) := by
  have e : ∀ K, ∀ c ∈ (Finset.univ : Finset (Dev nD)), iprop(records A B K ∗ (poss c ∗ payToks c)) ⊢ G' A B c := fun K c _ => by
    unfold G'
    iintro H
    iexists K
    iexact H
  rw [bigSep_sep', bigSep_sep', bigSep_sep', toks_around, ← bigSep_univ_prod (fun ck : Dev nD × Option (Fin 152) => iprop(∃ κ : ℕ, cellInv ER (Rd A B) κ (kcell ck))),
    ← bigSep_univ_prod (fun ck : Dev nD × Option (Fin 152) => (reached ER (kcell ck) 0 : sProp 𝕄))]
  iintro ⟨HI, ⟨Hat, #HR⟩, Htok⟩
  ihave HK := (BI.bigSep_exists_pi Finset.univ (fun (ck : Dev nD × Option (Fin 152)) (κ : ℕ) => (cellInv ER (Rd A B) κ (kcell ck) : sProp 𝕄))) $$ HI
  icases HK with ⟨%K, #HI⟩
  iapply (bigSep_with_persistent (e K))
  isplitr
  · unfold records; isplitl; · iexact HI
    iexact HR
  · iapply (Entails.of_eq (bigSep_sep' Finset.univ (fun c : Dev nD => poss (F := F) c) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ### The credits -/

/-- What device `d` owes device `c`'s cell of copy `x`. -/
theorem owed_x (d c : Dev nD) (x : X) : oweBar d 0 (xcell c false x) () = if xdst x d = c then nX x else 0 := by
  unfold oweBar owe
  rw [Pi.add_apply, Finsupp.add_apply, Finset.sum_apply, Finset.sum_apply, Finsupp.finset_sum_apply, Finsupp.finset_sum_apply]
  rw [Finset.sum_eq_zero (s := Finset.univ.filter fun k : Fin 6 => 0 ≤ k.val) fun k _ => by
      rw [tallyAt_ne_cell (fun h => by cases congrArg Prod.snd h)]; rfl, Nat.add_zero]
  have h : ∀ y ∈ Finset.univ.filter (fun y : X => 0 ≤ rank y), tallyAt (xcell (xdst y d) false y) () (nX y) (xcell c false x) ()
      = if y = x then (if xdst x d = c then nX x else 0) else 0 := fun y _ => by
    rw [tallyAt_apply]
    by_cases hy : y = x
    · subst hy
      rw [if_pos rfl]
      by_cases hc : xdst y d = c
      · rw [if_pos hc, hc, if_pos ⟨rfl, rfl⟩]
      · rw [if_neg hc, if_neg fun h => hc (xcell_inj h.1).1.symm]
    · rw [if_neg hy, if_neg fun h => hy (xcell_inj h.1).2.2.symm]
  rw [Finset.sum_congr rfl h, Finset.sum_ite_eq' _ x, if_pos (Finset.mem_filter.mpr ⟨Finset.mem_univ x, Nat.zero_le _⟩)]

theorem owed_bar (d c : Dev nD) : oweBar d 0 (barCell c) () = ∑ k : Fin 6, if barTo k d = c then 1 else 0 := by
  unfold oweBar owe
  rw [Pi.add_apply, Finsupp.add_apply, Finset.sum_apply, Finset.sum_apply, Finsupp.finset_sum_apply, Finsupp.finset_sum_apply]
  rw [Finset.sum_eq_zero (s := Finset.univ.filter fun x : X => 0 ≤ rank x) fun k _ => by
      rw [tallyAt_ne_cell (fun h => by cases congrArg Prod.snd h)]; rfl, Nat.zero_add]
  rw [Finset.filter_true_of_mem fun k _ => Nat.zero_le _]
  refine Finset.sum_congr rfl fun k _ => ?_
  rw [tallyAt_apply]
  by_cases hc : barTo k d = c
  · rw [if_pos hc, hc, if_pos ⟨rfl, rfl⟩]
  · rw [if_neg hc, if_neg fun h => hc (congrArg (fun g : GSem nD τ sig => g.1.1) h.1).symm]

theorem sum_inj (f : Dev nD → Dev nD) (hf : Function.Injective f) (c : Dev nD) (n : ℕ) : (∑ d : Dev nD, if f d = c then n else 0) = n := by
  obtain ⟨d, rfl⟩ := (Finite.injective_iff_surjective.mp hf) c
  have e : ∀ a ∈ (Finset.univ : Finset (Dev nD)), (if f a = f d then n else 0) = if a = d then n else 0 := fun a _ => by
    by_cases h : a = d
    · rw [if_pos h, if_pos (congrArg f h)]
    · rw [if_neg h, if_neg fun h' => h (hf h')]
  rw [Finset.sum_congr rfl e, Finset.sum_ite_eq' Finset.univ d, if_pos (Finset.mem_univ _)]

theorem launch_x (c : Dev nD) (x : X) :
    tallyOn (xcell c false x) (launchCredit (Pipeline.owing fun d => oweBar d 0) 0 (xcell c false x)) = (tallyAt (xcell c false x) () (nX x) : CellTallies nD τ sig Unit) := by
  unfold tallyAt; refine congrArg _ (Finsupp.ext fun u => ?_); cases u
  rw [Pipeline.launchCredit_owing, Finsupp.single_eq_same, Finset.sum_congr rfl fun d _ => owed_x d c x, sum_inj _ (xdst_inj x)]

theorem launch_bar (c : Dev nD) :
    tallyOn (barCell c) (launchCredit (Pipeline.owing fun d => oweBar d 0) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => sum_inj _ (barTo_inj k) c 1]
  rfl

theorem creds_of (c : Dev nD) : (Pipeline.launchCred (fun d => oweBar d 0) c : sProp 𝕄) ⊢ creds c := by
  unfold Pipeline.launchCred creds
  rw [bigSep_univ_at _ (SemLoc.reg barSem), launch_bar]
  refine sep_mono_right ?_
  have inj : Function.Injective fun x : X => (SemLoc.dma (xsem c false x) : SemLoc sig) := fun x y h => by
    have h1 : xcell c false x = xcell c false y := congrArg (Prod.mk (c : Thread nD τ)) h
    exact (xcell_inj h1).2.2
  refine (bigSep_subset (t := (Finset.univ : Finset X).map ⟨_, inj⟩) fun g hg => ?_).trans ?_
  · obtain ⟨x, -, rfl⟩ := Finset.mem_map.mp hg
    exact Finset.mem_erase.mpr ⟨show SemLoc.dma (xsem c false x) ≠ SemLoc.reg barSem from fun h => (by cases h), Finset.mem_univ _⟩
  · rw [bigSep_map]
    exact bigSep_mono fun x _ => Entails.of_eq (congrArg cred (launch_x c x))

end Cert.KernelIdeal.Silu

end
-- ==== Proof.ProgEq.lean ====
/-
The printed body is the barrier and the lanes' steps in the kernel's order.
-/
module

public import proofs.«01_k».proof.Proof.Prog
public import Idealize.ShloMosaic.Lib.Pipeline.Regions

@[expose] public section

noncomputable section

namespace Cert.KernelIdeal.Silu

open Idealize.ShloMosaic Idealize.ShloMosaic.TcCoe
open Idealize.SL Idealize.SL.Sem
open Cert.KernelIdeal.Gen

variable {F : FTy → Type} [FloatOps F]

set_option maxRecDepth 200000 in
theorem body_eqP : cc0_body (F := F) bA (Memref.isWhole_whole _) bB (Memref.isWhole_whole _) bO (Memref.isWhole_whole _)
    bR (Memref.isWhole_whole _) bL (Memref.isWhole_whole _) bZ (Memref.isWhole_whole _) bX (Memref.isWhole_whole _)
    cc0_scratch4 cc0_scratch5 cc0_scratch6 cc0_scratch7 cc0_scratch8 cc0_scratch9 cc0_scratch10 cc0_scratch11
    cc0_scratch12 cc0_scratch13 = bodyOn geoP := by
  chain_rfl

end Cert.KernelIdeal.Silu

end
-- ==== Proof.Launch.lean ====
/-
The launch: the kernel's body as the pipeline calls it, and the run of the whole program on the
sixteen devices.
-/
module

public import proofs.«01_k».proof.Proof.Deal
public import proofs.«01_k».proof.Proof.ProgEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Silu

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MM F

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- What a device holds of the operands. -/
def inA (c : Dev nD) : CA F := (win0_0.blk t0_0).view.read (Elt F) ((s₀ m ρ).mem ((c : Thread nD τ).loc main_arg0))
def inB (c : Dev nD) : CB F := (win0_1.blk t0_0).view.read (Elt F) ((s₀ m ρ).mem ((c : Thread nD τ).loc main_arg1))

/-- What the body starts from besides the windows' and the scratch buffers. -/
def begin (c : Dev nD) : sProp 𝕄 := iprop(G' (inA m ρ) (inB m ρ) c ∗ creds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m ρ c
    | ⟨1, _⟩ => inB m ρ c
    | ⟨2, _⟩ => OUT (inA m ρ) (inB m ρ)
  Φ t := match t with
    | ⟨0, _⟩ => iprop(begin m ρ c ∗ scr c)
    | ⟨_ + 1, _⟩ => iprop(scr c ∗ rest c)
  q _ := fullShare
  owed t := match t with
    | ⟨0, _⟩ => oweBar c 0
    | ⟨_ + 1, _⟩ => 0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

theorem before_A (c : Dev nD) (d) : (dats m ρ 0 c).before (0 : Fin 3) t0_0 d = inA m ρ c := by
  unfold Dat.before; rw [if_pos (fetch0_0 _)]; rfl
theorem before_B (c : Dev nD) (d) : (dats m ρ 0 c).before (1 : Fin 3) t0_0 d = inB m ρ c := by
  unfold Dat.before; rw [if_pos (fetch0_1 _)]; rfl

/-- What the pipeline gives the body, and what it takes back. -/
def bodyPre (c : Dev nD) : sProp 𝕄 :=
  iprop((begin m ρ c ∗ scr c) ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((scr c ∗ rest c) ∗ (dats m ρ 0 c).owesAt () (t0_0 : Fin cfg0.N).succ
    ∗ stg c cc0_stg0_0 (inA m ρ c) ∗ stg c cc0_stg1_0 (inB m ρ c) ∗ stg c cc0_stg2_0 (OUT (inA m ρ) (inB m ρ)))

theorem geoP_fun : geoP = geo := funext geoP_eq

theorem body_runs (c : Dev nD) : bodyPre m ρ c ⊢ wpc c (bodyOn (F := F) geo) fun _ => bodyPost m ρ c := by
  unfold bodyPre begin G' bodyPost Dat.owesAt Pipeline.owesWithin
  rw [show (dats m ρ 0 c).owed (t0_0 : Fin cfg0.N).succ = 0 from rfl, show (dats m ρ 0 c).owed (t0_0 : Fin cfg0.N).castSucc = oweBar c 0 from rfl]
  iintro ⟨⟨⟨⟨%K, #HR, HP, HT⟩, HC, #HL⟩, HS⟩, ⟨%W, -, HO⟩, ⟨%d0, %fa, %ea, HA⟩, ⟨%d1, %fb, %eb, HB⟩, ⟨%d2, %fo, -, HO2⟩⟩
  rw [before_A] at ea; rw [before_B] at eb
  subst ea; subst eb
  iapply (wp_wand _ _ _) $$ [HP HT HC HS HO HA HB HO2]
  · iapply (body_ok (inA m ρ) (inB m ρ) K c)
    isplitr
    · unfold Ctx; isplitr <;> iassumption
    isplitl [HT]; · iexact HT
    isplitl [HC]; · iexact HC
    isplitl [HP]; · iexact HP
    isplitl [HS]; · iexact HS
    isplitl [HO2]; · iexists fo; iexact HO2
    isplitl [HO]; · unfold OwB; iexists W; iexact HO
    isplitl [HA]; · iexact HA
    iexact HB
  iintro %a ⟨HD, HS, HO, HA, HB, HO2⟩
  isplitl [HD HS]
  · isplitl [HS] <;> iassumption
  isplitl [HO]
  · unfold Ow; rw [owe_top]
    icases HO with ⟨%W', HO⟩
    iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact HO2

set_option maxRecDepth 200000 in
/-- The library's body obligation. -/
theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [owns_whole_eq]
  show bodyPre m ρ c ⊢ wp frame (wpE (defs₀ (F := F)) 𝒱₀ c none) Set.univ
    (cc0_body (F := F) bA (Memref.isWhole_whole _) bB (Memref.isWhole_whole _) bO (Memref.isWhole_whole _)
    bR (Memref.isWhole_whole _) bL (Memref.isWhole_whole _) bZ (Memref.isWhole_whole _) bX (Memref.isWhole_whole _)
    cc0_scratch4 cc0_scratch5 cc0_scratch6 cc0_scratch7 cc0_scratch8 cc0_scratch9 cc0_scratch10 cc0_scratch11
    cc0_scratch12 cc0_scratch13) (fun _ => bodyPost m ρ c)
  rw [body_eqP, geoP_fun]
  exact body_runs m ρ c

/-! ### The side conditions of the launch -/

theorem ownSemFacts : Pipeline.OwnSemFacts cfg0.spec osem := by decide

theorem share_eq (c : Dev nD) (w : Fin cfg0.W) : (dats m ρ 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred (fun d => oweBar d 0) c ∗ prngReg c (ρ c) ∗ G' (inA m ρ) (inB m ρ) c)
      ⊢ |={Set.univ}=> iprop(begin m ρ c ∗ emp) := by
  iintro ⟨-, Hlev, Hcr, -, HG⟩
  ihave Hc := (creds_of (F := F) c) $$ Hcr
  imodintro
  unfold begin
  isplitl
  · isplitl [HG]; · iexact HG
    isplitl [Hc]; · iexact Hc
    iexact Hlev
  · iempintro

theorem phi_in (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begin m ρ c ∗ scr c) from rfl, scopedRest0_eq]
  unfold scr
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ rest c) from rfl, scopedRest0_eq, ownSems0_eq, unscopedSems0_eq]
  unfold scr rest
  iintro ⟨Hs, HD, HB⟩
  isplitl [HB]; · iexact HB
  isplitl [HD]; · iexact HD
  iexact Hs

omit [FloatOps F] in
theorem lv_stage (c : Dev nD) (q : DmaSem sig) (hq : q.val < 3) : lv ((c : Thread nD τ), .dma q) () = 0 := by
  show (match role c q with | some (false, x) => 2 + rank x | _ => 0) = 0
  unfold role
  rw [if_neg (by omega)]

theorem stage_sem : ∀ (w : Fin 3) (s : Fin (cfg0.win w).nbuf), ((cfg0.win w).sem s).val < 3 := by
  intro w s; fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_bar c _ 0 (lv_stage c _ (stage_sem w s))
    · show _ ⊢ MayWait _ _ _ 0
      rw [MayWait_zero]; iintro -; iempintro

/-! ### The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with its counters at zero, every weakly fair execution ends, with the arrays at
    the computed contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => oweBar c 0) (howed₀ := fun _ => rfl) (howedN := fun _ => rfl)
    (L := L) (lv := lv) (hL := L_of_ne) (hwaits := waits m ρ)
    (G := G (inA m ρ) (inB m ρ)) (G' := G' (inA m ρ) (inB m ρ)) (u₀ := u₀)
    (hu₀ := by
      unfold u₀
      iintro Hu
      ihave H := (ownU_pair _ _) $$ Hu
      icases H with ⟨HP, HX⟩
      imod (fund_all (inA m ρ) (inB m ρ)) $$ HX with HG
      imodintro
      isplitl [HP] <;> iassumption)
    (hglob := glob (inA m ρ) (inB m ρ))
    (hA := fun _ _ => rfl) (hpf := fun _ k => k.elim0)
    (X := begin m ρ) (Y := fun c => unscopedSems0 c) (Z := fun _ => iprop(emp))
    (hX := begin_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are unchanged. -/
theorem finalA_A (c : Dev nD) : finalA m ρ c (0 : Fin 3) = m ((c : Thread nD τ).loc main_arg0) := (dats (F := F) m ρ 0 c).arrAt_in (0 : Fin 3) rfl _
theorem finalA_B (c : Dev nD) : finalA m ρ c (1 : Fin 3) = m ((c : Thread nD τ).loc main_arg1) := (dats (F := F) m ρ 0 c).arrAt_in (1 : Fin 3) rfl _

end Cert.KernelIdeal.Silu

end
-- ==== Proof.Frames.lean ====
/-
The frames: each program ends, its arguments unchanged and every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem
open Cert.KernelIdeal.Silu

/-- The kernel at any float values: what every execution ends with. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨(h.1 c (0 : Fin 3)).trans (finalA_A m g c), (h.1 c (1 : Fin 3)).trans (finalA_B m g c)⟩, h.2⟩)
    (run_main m g)

theorem frame_ideal : Cert.quiescent_KernelIdeal := fun m g _ => run_frame (F := Ideal) m g

set_option maxRecDepth 200000 in
theorem body_same : @Cert.Kernel.cc0_body Bits _ _ = @Cert.KernelIdeal.cc0_body Bits _ _ := rfl

/-- The kernel on bit patterns is the same program. -/
theorem defs₀_same : Cert.Kernel.defs₀ (F := Bits) = Cert.KernelIdeal.defs₀ (F := Bits) := by
  refine congrArg (Defs.onTc (sig := Cert.Kernel.sig) (nD := Cert.Kernel.nD) (τ := Cert.Kernel.τ)) (funext fun l => ?_)
  match l with
  | ⟨0, _⟩ =>
    funext x
    obtain ⟨t, s⟩ := x
    show Cert.Kernel.cc0_body (F := Bits) _ _ _ _ _ _ _ _ _ _ _ _ _ _ _ _ _ _ _ _ _ _ _ _
      = Cert.KernelIdeal.cc0_body (F := Bits) _ _ _ _ _ _ _ _ _ _ _ _ _ _ _ _ _ _ _ _ _ _ _ _
    rw [body_same]
  | ⟨_ + 1, h⟩ => exact absurd h (Nat.not_lt.2 (Nat.le_add_left _ _))

theorem defs_same : Cert.Kernel.defs (F := Bits) = Cert.KernelIdeal.defs (F := Bits) := by
  show Pipeline.defs _ (Cert.Kernel.defs₀ (F := Bits)) = Pipeline.defs _ (Cert.KernelIdeal.defs₀ (F := Bits))
  rw [defs₀_same]

theorem frame_kernel : Cert.quiescent_Kernel := fun m g _ => by
  rw [defs_same]
  exact run_frame (F := Bits) m g

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Part.lean ====
/-
At the ideal values: an entry of a device's block of partial products as a sum of products of the
whole operands' entries.
-/
module

public import proofs.«01_k».proof.Proof.Vals
public import Idealize.ShloMosaic.Lib.ValueIdx
public import Idealize.ShloMosaic.Lib.MatmulPlain
public import Idealize.ShloMosaic.Lib.StackMember
public import Idealize.ShloMosaic.Lib.LayoutAt
public import Idealize.ShloMosaic.Lib.Pipeline.Value
public import Idealize.ShloMosaic.Lib.Pipeline.ValueKit.Acc

@[expose] public section

noncomputable section

namespace Cert.KernelIdeal.Silu

open Idealize.ShloMosaic Idealize.ShloMosaic.TcCoe
open Idealize.ShloMosaic.ValueIdx
open Cert.KernelIdeal.Gen

/-- The whole operands. -/
abbrev WA : Type := (⟨2, ![2048, 16384]⟩ : Shape).Idx → EReal
abbrev WB : Type := (⟨2, ![16384, 2048]⟩ : Shape).Idx → EReal

/-- Their entries, at plain numbers. -/
def atA (X : WA) (r k : ℕ) : EReal := X (ix2 ⟨r % 2048, Nat.mod_lt _ (by decide)⟩ ⟨k % 16384, Nat.mod_lt _ (by decide)⟩)
def atB (Y : WB) (k n : ℕ) : EReal := Y (ix2 ⟨k % 16384, Nat.mod_lt _ (by decide)⟩ ⟨n % 2048, Nat.mod_lt _ (by decide)⟩)

/-- The products that device `c` sums for entry `(r, n)`. -/
def dsum (X : WA) (Y : WB) (c : Dev nD) (r n : ℕ) : EReal := ∑ k : Fin 1024, atA X r (c.val * 1024 + k.val) * atB Y (c.val * 1024 + k.val) n

variable (X : WA) (Y : WB) (A : Dev nD → CA Ideal) (B : Dev nD → CB Ideal)

/-- Every device holds its block of the operands. -/
structure Held : Prop where
  a : ∀ (c : Dev nD) (r : Fin 2048) (k : Fin 1024), (A c : S2048x1024.Idx → EReal) (ix2 r k) = atA X r.val (c.val * 1024 + k.val)
  b : ∀ (c : Dev nD) (k : Fin 1024) (n : Fin 2048), (B c : S1024x2048.Idx → EReal) (ix2 k n) = atB Y (c.val * 1024 + k.val) n.val

variable {X Y A B}

theorem plain_part : dot_S256x1024_S1024x512_S256x512_1_0_0_1_n_n = DotDims.plain 256 1024 512 := rfl

theorem rowsA_apply (a : CA Ideal) (g b : ℕ) (hg : g < 4) (hb : b < 2) (r : Fin 256) (k : Fin 1024) :
    (rowsA a (aOff g b) (aOff_inb hg hb) : S256x1024.Idx → EReal) (ix2 r k)
      = (a : S2048x1024.Idx → EReal) (ix2 ⟨512 * g + 256 * b + r.val, by omega⟩ k) := by
  refine congrArg (a : S2048x1024.Idx → EReal) (funext fun d => Fin.ext ?_)
  match d with
  | ⟨0, _⟩ => show (512 * g + 256 * b) + 1 * r.val = _; rw [Nat.one_mul]
  | ⟨1, _⟩ => show 0 + 1 * k.val = k.val; omega

theorem colsB_apply (b : CB Ideal) (h : Fin 4) (k : Fin 1024) (n : Fin 512) :
    (colsB b h : S1024x512.Idx → EReal) (ix2 k n) = (b : S1024x2048.Idx → EReal) (ix2 k ⟨512 * h.val + n.val, by omega⟩) := by
  refine congrArg (b : S1024x2048.Idx → EReal) (funext fun d => Fin.ext ?_)
  match d with
  | ⟨0, _⟩ => show 0 + 1 * k.val = k.val; omega
  | ⟨1, _⟩ => show 512 * h.val + 1 * n.val = _; rw [Nat.one_mul]

theorem part_apply (a : Vec Ideal S256x1024 .f32) (b : Vec Ideal S1024x512 .f32) (r : Fin 256) (n : Fin 512) :
    (part a b : S256x512.Idx → EReal) (ix2 r n) = ∑ k : Fin 1024, (a : S256x1024.Idx → EReal) (ix2 r k) * (b : S1024x512.Idx → EReal) (ix2 k n) := by
  unfold part
  rw [plain_part, shapeCast_self, shapeCast_self]
  refine (Ideal.matmul_plain_apply none a b (constant S256x512 .f32 0x00000000#32) r n).trans ?_
  rw [ValueIdx.constant_apply]
  exact (congrArg (· + _) Ideal.ofBits_zero_f32).trans (zero_add _)

/-- Device `c`'s block for half `b` of row group `g`, lane `h`. -/
theorem own_apply (H : Held X Y A B) (c : Dev nD) (g b : ℕ) (hg : g < 4) (hb : b < 2) (h : Fin 4) (r n : ℕ) :
    (own A B c g b hg hb h : S256x512.Idx → EReal) (ixH r n) = dsum X Y c (512 * g + 256 * b + r % 256) (512 * h.val + n % 512) := by
  have e : ixH r n = ix2 (⟨r % 256, Nat.mod_lt _ (by decide)⟩ : Fin 256) (⟨n % 512, Nat.mod_lt _ (by decide)⟩ : Fin 512) := by
    funext d; match d with
    | ⟨0, _⟩ => rfl
    | ⟨1, _⟩ => rfl
  rw [e]
  refine (part_apply _ _ _ _).trans (Finset.sum_congr rfl fun k _ => ?_)
  rw [rowsA_apply _ _ _ hg hb, colsB_apply, H.a, H.b]

end Cert.KernelIdeal.Silu

end
-- ==== Proof.Total.lean ====
/-
At the ideal values: what the rings and the column exchange add up is the whole matrix product, and
the kernel's result is the reference's.
-/
module

public import proofs.«01_k».proof.Proof.Part
public import proofs.«01_k».proof.Proof.Sets

@[expose] public section

noncomputable section

namespace Cert.KernelIdeal.Silu

open Idealize.ShloMosaic Idealize.ShloMosaic.TcCoe
open Cert.KernelIdeal.Gen

variable {X : WA} {Y : WB} {A : Dev nD → CA Ideal} {B : Dev nD → CB Ideal}

/-! ### Round the rings -/

theorem right_at : ∀ c : Dev nD, mk (zz (mk (zz c) (pp c + 3))) (pp (mk (zz c) (pp c + 3)) + 3) = mk (zz c) (pp c + 2)
    ∧ mk (zz (mk (zz c) (pp c + 2))) (pp (mk (zz c) (pp c + 2)) + 3) = mk (zz c) (pp c + 1)
    ∧ (pp (mk (zz c) (pp c + 1)) + 3) % 4 = pp c ∧ gRdT (mk (zz c) (pp c + 2)) 0 = pp c ∧ gRdT (mk (zz c) (pp c + 3)) 1 = pp c ∧ gRdT c 2 = pp c := by
  decide +kernel
theorem left_at : ∀ c : Dev nD, mk (zz (mk (zz c) (pp c + 1))) (pp (mk (zz c) (pp c + 1)) + 1) = mk (zz c) (pp c + 2)
    ∧ mk (zz (mk (zz c) (pp c + 2))) (pp (mk (zz c) (pp c + 2)) + 1) = mk (zz c) (pp c + 3)
    ∧ (pp (mk (zz c) (pp c + 3)) + 1) % 4 = pp c ∧ gRdB (mk (zz c) (pp c + 2)) 0 = pp c ∧ gRdB (mk (zz c) (pp c + 1)) 1 = pp c ∧ gRdB c 2 = pp c := by
  decide +kernel

theorem mk_add4 (z p : ℕ) : mk z (p + 4) = mk z p := Fin.ext (by show 4 * (z % 4) + (p + 4) % 4 = 4 * (z % 4) + p % 4; omega)
theorem mk_add4z (z p : ℕ) : mk (z + 4) p = mk z p := Fin.ext (by show 4 * ((z + 4) % 4) + p % 4 = 4 * (z % 4) + p % 4; omega)
theorem mk_self : ∀ c : Dev nD, mk (zz c) (pp c) = c := by decide +kernel

/-- Four values in turn, from any one of them, add up to the same. -/
theorem turn_sum (f : ℕ → EReal) (hf : ∀ p, f (p + 4) = f p) (p : ℕ) (hp : p < 4) :
    f p + f (p + 1) + f (p + 2) + f (p + 3) = ∑ q : Fin 4, f q.val := by
  rw [Fin.sum_univ_four]
  show _ = f 0 + f 1 + f 2 + f 3
  have h4 : p = 0 ∨ p = 1 ∨ p = 2 ∨ p = 3 := by omega
  have e0 : f 4 = f 0 := hf 0
  have e1 : f 5 = f 1 := hf 1
  have e2 : f 6 = f 2 := hf 2
  rcases h4 with rfl | rfl | rfl | rfl
  · rfl
  · show f 1 + f 2 + f 3 + f 4 = _; rw [e0]; ac_rfl
  · show f 2 + f 3 + f 4 + f 5 = _; rw [e0, e1]; ac_rfl
  · show f 3 + f 4 + f 5 + f 6 = _; rw [e0, e1, e2]; ac_rfl

theorem addIn_apply (v : FVec Ideal S256x512 .bf16) (x : FVec Ideal S256x512 .f32) (i : S256x512.Idx) :
    (addIn v x : S256x512.Idx → EReal) i = (v : S256x512.Idx → EReal) i + (x : S256x512.Idx → EReal) i := rfl
theorem nar_apply (x : FVec Ideal S256x512 .f32) (i : S256x512.Idx) :
    (nar x : S256x512.Idx → EReal) i = (x : S256x512.Idx → EReal) i := rfl

/-- After three steps round the ring to the right a device has its row's sum of the upper half of
    its row group. -/
theorem right_sum (H : Held X Y A B) (c : Dev nD) (h : Fin 4) (r n : ℕ) :
    (SR A B 3 c h : S256x512.Idx → EReal) (ixH r n)
      = ∑ q : Fin 4, dsum X Y (mk (zz c) q.val) (512 * pp c + r % 256) (512 * h.val + n % 512) := by
  obtain ⟨m1, m2, g3, g0, g1, g2⟩ := right_at c
  simp only [SR, addIn_apply, nar_apply, own_apply H, m1, m2, g3, g0, g1, g2, Nat.mul_zero, Nat.add_zero]
  refine Eq.trans ?_ (turn_sum (fun q => dsum X Y (mk (zz c) q) (512 * pp c + r % 256) (512 * h.val + n % 512))
    (fun p => by rw [mk_add4]) (pp c) (pp_lt c))
  simp only [mk_self]
  ac_rfl

/-- And round the ring to the left, that of the lower half. -/
theorem left_sum (H : Held X Y A B) (c : Dev nD) (h : Fin 4) (r n : ℕ) :
    (SL A B 3 c h : S256x512.Idx → EReal) (ixH r n)
      = ∑ q : Fin 4, dsum X Y (mk (zz c) q.val) (512 * pp c + 256 + r % 256) (512 * h.val + n % 512) := by
  obtain ⟨m1, m2, g3, g0, g1, g2⟩ := left_at c
  simp only [SL, addIn_apply, nar_apply, own_apply H, m1, m2, g3, g0, g1, g2, Nat.mul_one]
  refine Eq.trans ?_ (turn_sum (fun q => dsum X Y (mk (zz c) q) (512 * pp c + 256 + r % 256) (512 * h.val + n % 512))
    (fun p => by rw [mk_add4]) (pp c) (pp_lt c))
  simp only [mk_self]
  ac_rfl

/-! ### Down the column -/

theorem emb_zc (h : Fin 4) (z : ℕ) (hz : z < 4) (x : S128x512.Idx) :
    ((zc bZ (zOff h z) (zOff_inb h hz)).view.emb x : S4x512x512.Idx)
      = ((Rect.unit (s := S4x512x512) (zOff h z) S1x128x512.size (zOff_inb h hz)).emb (Fin.cons ⟨0, Nat.one_pos⟩ x : S1x128x512.Idx) : S4x512x512.Idx) := by
  refine congrArg (Rect.unit (s := S4x512x512) (zOff h z) S1x128x512.size (zOff_inb h hz)).emb ?_
  exact Shape.reshapeEquiv_cons_one (n := 2) (d := S128x512.size) _ x

/-- A chunk of a device's partial sums. -/
theorem zval_apply (H : Held X Y A B) (c : Dev nD) (h : Fin 4) (z : ℕ) (hz : z < 4) (r n : ℕ) :
    (zval A B c h z hz : S128x512.Idx → EReal) (ixC r n)
      = ∑ q : Fin 4, dsum X Y (mk (zz c) q.val) (512 * pp c + 128 * z + r % 128) (512 * h.val + n % 512) := by
  refine Eq.trans (congrArg (fZ A B c : S4x512x512.Idx → EReal) (emb_zc h z hz (ixC r n))) ?_
  generalize hi : ((Rect.unit (s := S4x512x512) (zOff h z) S1x128x512.size (zOff_inb h hz)).emb (Fin.cons ⟨0, Nat.one_pos⟩ (ixC r n) : S1x128x512.Idx) : S4x512x512.Idx) = i
  have e0 : i 0 = h := by rw [← hi]; exact Fin.ext ((ValueKit.rect_emb_unit_val _ _ _ _ 0).trans rfl)
  have e1 : (i 1).val = 128 * z + r % 128 := by rw [← hi]; exact (ValueKit.rect_emb_unit_val _ _ _ _ 1).trans rfl
  have e2 : (i 2).val = n % 512 := by rw [← hi]; exact (ValueKit.rect_emb_unit_val _ _ _ _ 2).trans (Nat.zero_add _)
  unfold fZ
  rw [e0, e1, e2]
  have hn : n % 512 % 512 = n % 512 := Nat.mod_mod _ _
  split
  · refine (right_sum H c h _ _).trans ?_
    rw [hn, show 512 * pp c + (128 * z + r % 128) % 256 = 512 * pp c + 128 * z + r % 128 by omega]
  · refine (left_sum H c h _ _).trans ?_
    rw [hn, show 512 * pp c + 256 + (128 * z + r % 128) % 256 = 512 * pp c + 128 * z + r % 128 by omega]

theorem down_at : ∀ (s : Fin 3) (c : Dev nD), pp (dst 2 s c) = pp c ∧ zz (dst 2 s c) = (zz c + 1 + s.val) % 4 := by decide +kernel
theorem mk_mod (z p : ℕ) : mk (z % 4) p = mk z p := Fin.ext (by show 4 * (z % 4 % 4) + p % 4 = 4 * (z % 4) + p % 4; omega)

theorem sum4_apply (a b c d : FVec Ideal S128x512 .bf16) (i : S128x512.Idx) :
    (sum4 a b c d : S128x512.Idx → EReal) i
      = (a : S128x512.Idx → EReal) i + (b : S128x512.Idx → EReal) i + (c : S128x512.Idx → EReal) i + (d : S128x512.Idx → EReal) i := rfl

/-- The sum over the mesh, row by row, is the sum over the devices. -/
theorem mesh_sum (f : Dev nD → EReal) : ∑ z : Fin 4, ∑ q : Fin 4, f (mk z.val q.val) = ∑ c : Fin 16, f c := by
  have key := Fin.sum_univ_univ_mul_add 4 4 (fun l => if hl : l < 16 then f (⟨l, hl⟩ : Fin 16) else 0)
  refine Eq.trans ?_ (key.trans ?_)
  · refine Finset.sum_congr rfl fun z _ => Finset.sum_congr rfl fun q _ => ?_
    have h1 := z.isLt; have h2 := q.isLt
    rw [dif_pos (show z.val * 4 + q.val < 16 by omega)]
    exact congrArg f (Fin.ext (by show 4 * (z.val % 4) + q.val % 4 = z.val * 4 + q.val; omega))
  · exact Finset.sum_congr rfl fun l _ => dif_pos l.isLt

/-- The sum over the devices is the whole matrix product. -/
theorem all_sum (r n : ℕ) : ∑ c : Fin 16, dsum X Y c r n = ∑ k : Fin 16384, atA X r k.val * atB Y k.val n :=
  Fin.sum_univ_univ_mul_add 16 1024 (fun l => atA X r l * atB Y l n)

/-- The four chunks that device `c` adds up make the product's rows there. -/
theorem column_sum (H : Held X Y A B) (c : Dev nD) (h : Fin 4) (r n : ℕ) :
    (sum4 (zval A B c h (zz c) (zz_lt c)) (zval A B (dst 2 0 c) h (zz c) (zz_lt c))
        (zval A B (dst 2 1 c) h (zz c) (zz_lt c)) (zval A B (dst 2 2 c) h (zz c) (zz_lt c)) : S128x512.Idx → EReal) (ixC r n)
      = ∑ k : Fin 16384, atA X (512 * pp c + 128 * zz c + r % 128) k.val * atB Y k.val (512 * h.val + n % 512) := by
  rw [sum4_apply]
  rw [zval_apply H, zval_apply H, zval_apply H, zval_apply H]
  obtain ⟨p0, z0⟩ := down_at 0 c
  obtain ⟨p1, z1⟩ := down_at 1 c
  obtain ⟨p2, z2⟩ := down_at 2 c
  rw [p0, p1, p2, z0, z1, z2]
  simp only [mk_mod]
  refine (turn_sum (fun z => ∑ q : Fin 4, dsum X Y (mk z q.val) (512 * pp c + 128 * zz c + r % 128) (512 * h.val + n % 512))
    (fun z => by simp only [mk_add4z]) (zz c) (zz_lt c)).trans ?_
  exact (mesh_sum (fun d => dsum X Y d _ _)).trans (all_sum _ _)

/-! ### The result -/

/-- `x / (1 + exp (-x))`. -/
def act (x : EReal) : EReal := Ideal.div x (1 + Ideal.exp (-x))

theorem silu_apply (x : FVec Ideal S128x512 .f32) (i : S128x512.Idx) :
    (silu x : S128x512.Idx → EReal) i = act ((x : S128x512.Idx → EReal) i) := by
  show Ideal.div ((x : S128x512.Idx → EReal) i) (Ideal.ofBits .f32 0x3F800000#32 + Ideal.exp (Ideal.ofBits .f32 0x00000000#32 - (x : S128x512.Idx → EReal) i)) = _
  rw [Ideal.ofBits_zero_f32, Ideal.ofBits_one_f32, zero_sub]
  rfl

theorem place_at : ∀ c : Fin 16, pp (mk c.val (c.val / 4)) = c.val / 4 ∧ zz (mk c.val (c.val / 4)) = c.val % 4 := by decide +kernel

/-- The kernel's result at an index. -/
theorem out_apply (H : Held X Y A B) (i : S2048x2048.Idx) :
    (OUT A B : S2048x2048.Idx → EReal) i = act (∑ k : Fin 16384, atA X (i 0).val k.val * atB Y k.val (i 1).val) := by
  have b0 : (i 0).val < 2048 := (i 0).isLt
  have b1 : (i 1).val < 2048 := (i 1).isLt
  obtain ⟨hp, hz⟩ := place_at ⟨(i 0).val / 128, by omega⟩
  have hd : (i 0).val / 128 / 4 = (i 0).val / 512 := by omega
  simp only [hd] at hp hz
  refine (silu_apply _ _).trans (congrArg act ((column_sum H _ _ _ _).trans ?_))
  rw [hp, hz]
  have er : 512 * ((i 0).val / 512) + 128 * ((i 0).val / 128 % 4) + (i 0).val % 128 = (i 0).val := by omega
  have ec : 512 * ((i 1).val / 512) + (i 1).val % 512 = (i 1).val := by omega
  show ∑ k : Fin 16384, atA X _ k.val * atB Y k.val (512 * ((i 1).val / 512) + (i 1).val % 512) = _
  rw [er, ec]

end Cert.KernelIdeal.Silu

end
-- ==== Proof.Value.lean ====
/-
The value claim: on every device the kernel's result is the reference's, exactly, at the ideal
values.
-/
module

public import proofs.«01_k».proof.Proof.Total
public import proofs.«01_k».proof.Proof.Frames
public import Idealize.ShloMosaic.Lib.IdealHost

@[expose] public section

noncomputable section

namespace Cert.KernelIdeal.Silu

open Idealize.ShloMosaic Idealize.ShloMosaic.TcCoe
open Idealize.ShloMosaic.ValueIdx
open Idealize.ShloMosaic.Pipeline (Dat)
open Cert.KernelIdeal.Gen

variable {F : FTy → Type} [FloatOps F]
variable (m : (ℓ : Loc nD τ sig) → Buf (Elt F) ℓ) (ρ : Dev nD → PrngReg)

/-! ### The windows are the whole arrays -/

theorem inA_eq (c : Dev nD) : inA m ρ c = m ((c : Thread nD τ).loc main_arg0) := by
  funext i
  refine congrArg (m ((c : Thread nD τ).loc main_arg0)) (funext fun d => Fin.ext ?_)
  match d with
  | ⟨0, _⟩ => show 0 * 2048 + 1 * (i 0).val = (i 0).val; omega
  | ⟨1, _⟩ => show 0 * 1024 + 1 * (i 1).val = (i 1).val; omega

theorem inB_eq (c : Dev nD) : inB m ρ c = m ((c : Thread nD τ).loc main_arg1) := by
  funext i
  refine congrArg (m ((c : Thread nD τ).loc main_arg1)) (funext fun d => Fin.ext ?_)
  match d with
  | ⟨0, _⟩ => show 0 * 1024 + 1 * (i 0).val = (i 0).val; omega
  | ⟨1, _⟩ => show 0 * 2048 + 1 * (i 1).val = (i 1).val; omega

theorem out_emb (i : S2048x2048.Idx) : ((win0_2.blk t0_0).view.emb i : S2048x2048.Idx) = i := by
  funext d
  refine Fin.ext ?_
  match d with
  | ⟨0, _⟩ => show 0 * 2048 + 1 * (i 0).val = (i 0).val; omega
  | ⟨1, _⟩ => show 0 * 2048 + 1 * (i 1).val = (i 1).val; omega

theorem flushed_out (c : Dev nD) (t : Fin cfg0.N) :
    (dats m ρ 0 c).flushed (2 : Fin 3) t = ((cfg0.win 2).blk t).view.read (Elt F) (OUT (inA m ρ) (inB m ρ)) := by
  obtain rfl := fin_N0 t
  funext i
  have ha : (dats m ρ 0 c).after (2 : Fin 3) t0_0 = OUT (inA m ρ) (inB m ρ) := rfl
  unfold Dat.flushed
  rw [ha]
  exact (congrArg (OUT (inA m ρ) (inB m ρ) : S2048x2048.Idx → Elt F .bf16) (out_emb i)).symm

theorem covered (i : S2048x2048.Idx) : ∃ t : Fin cfg0.N, (cfg0.win 2).flush t = true ∧ i ∈ ((cfg0.win 2).blk t).view.set :=
  ⟨t0_0, flush0_2 _, Finset.mem_map.2 ⟨i, Finset.mem_univ _, out_emb i⟩⟩

/-- The result array ends with the kernel's result. -/
theorem finalA_out (c : Dev nD) : finalA m ρ c (2 : Fin 3) = OUT (inA m ρ) (inB m ρ) :=
  (dats m ρ 0 c).arrAt_eq_of_cover (2 : Fin 3) (OUT (inA m ρ) (inB m ρ)) (fun t _ => flushed_out m ρ c t) covered

end Cert.KernelIdeal.Silu

namespace Cert.Proof

open Idealize.ShloMosaic hiding ix2
open Idealize.ShloMosaic.TcCoe Idealize.SL.Sem
open Idealize.ShloMosaic.ValueIdx
open Cert.KernelIdeal.Silu

/-- The reference's result, of its two arguments. -/
def refOut (X : FVec Ideal Cert.ReferenceIdeal.S2048x16384 .f32) (Y : FVec Ideal Cert.ReferenceIdeal.S16384x2048 .f32) : FVec Ideal Cert.ReferenceIdeal.S2048x2048 .bf16 :=
  truncf .bf16 (Host.divf (Host.dotGeneral Cert.ReferenceIdeal.dot_S2048x16384_S16384x2048_S2048x2048_1_0_0_1_n_n none X Y)
    (addf (broadcastInDim Cert.ReferenceIdeal.S2048x2048 ![] Cert.ReferenceIdeal.Gen.bcast_S_S2048x2048 (constant Cert.ReferenceIdeal.S_ .f32 0x3F800000#32))
      (Host.exp (Host.negf (Host.dotGeneral Cert.ReferenceIdeal.dot_S2048x16384_S16384x2048_S2048x2048_1_0_0_1_n_n none X Y))))) Cert.ReferenceIdeal.Gen.bitsLt_bf16_f32

theorem plain_ref : Cert.ReferenceIdeal.dot_S2048x16384_S16384x2048_S2048x2048_1_0_0_1_n_n = DotDims.plain 2048 16384 2048 := rfl

/-- The matrix product at an index. -/
theorem prod_apply (X : WA) (Y : WB) (r n : Fin 2048) :
    (Host.dotGeneral (φ₁ := .f32) (φ₂ := .f32) (DotDims.plain 2048 16384 2048) none (X : FVec Ideal ⟨2, ![2048, 16384]⟩ .f32) (Y : FVec Ideal ⟨2, ![16384, 2048]⟩ .f32)
        : FVec Ideal ⟨2, ![2048, 2048]⟩ .f32) (ix2 r n)
      = ∑ k : Fin 16384, atA X r.val k.val * atB Y k.val n.val := by
  refine (StackMember.dotGeneral_plain_apply none X Y r n).trans (Finset.sum_congr rfl fun k _ => ?_)
  refine congrArg₂ (· * ·) (congrArg X ?_) (congrArg Y ?_)
  · exact congrArg₂ ix2 (Fin.ext (Nat.mod_eq_of_lt r.isLt).symm) (Fin.ext (Nat.mod_eq_of_lt k.isLt).symm)
  · exact congrArg₂ ix2 (Fin.ext (Nat.mod_eq_of_lt k.isLt).symm) (Fin.ext (Nat.mod_eq_of_lt n.isLt).symm)

/-- The reference's activation at an index. -/
theorem act_apply (P : FVec Ideal Cert.ReferenceIdeal.S2048x2048 .f32) (i : Cert.ReferenceIdeal.S2048x2048.Idx) :
    (truncf .bf16 (Host.divf P (addf (broadcastInDim Cert.ReferenceIdeal.S2048x2048 ![] Cert.ReferenceIdeal.Gen.bcast_S_S2048x2048 (constant Cert.ReferenceIdeal.S_ .f32 0x3F800000#32))
      (Host.exp (Host.negf P)))) Cert.ReferenceIdeal.Gen.bitsLt_bf16_f32 : Cert.ReferenceIdeal.S2048x2048.Idx → EReal) i = act ((P : Cert.ReferenceIdeal.S2048x2048.Idx → EReal) i) := by
  show Ideal.div ((P : Cert.ReferenceIdeal.S2048x2048.Idx → EReal) i) (Ideal.ofBits .f32 0x3F800000#32 + Ideal.exp (-((P : Cert.ReferenceIdeal.S2048x2048.Idx → EReal) i))) = _
  rw [Ideal.ofBits_one_f32]
  rfl

/-- The reference's result at an index. -/
theorem ref_apply (X : WA) (Y : WB) (r n : Fin 2048) :
    (refOut X Y : Cert.ReferenceIdeal.S2048x2048.Idx → EReal) (ix2 r n) = act (∑ k : Fin 16384, atA X r.val k.val * atB Y k.val n.val) :=
  (act_apply _ _).trans (congrArg act (prod_apply X Y r n))

/-- The devices' blocks, read at plain numbers. -/
theorem held (X : WA) (Y : WB) (A : Dev Cert.KernelIdeal.nD → CA Ideal) (B : Dev Cert.KernelIdeal.nD → CB Ideal)
    (hA : ∀ c : Dev Cert.KernelIdeal.nD, A c = Layout.block ⟨2, ![2048, 1024]⟩ ⟨2, ![2048, 16384]⟩ 1 16 c X)
    (hB : ∀ c : Dev Cert.KernelIdeal.nD, B c = Layout.block ⟨2, ![1024, 2048]⟩ ⟨2, ![16384, 2048]⟩ 0 16 c Y) : Held X Y A B where
  a c r k := by
    rw [hA]
    have hc : c.val < 16 := c.isLt
    have hk : (c.val * 1024 + k.val) % 16384 = c.val * 1024 + k.val := Nat.mod_eq_of_lt (by omega)
    refine congrArg X (funext fun d => Fin.ext ?_)
    match d with
    | ⟨0, _⟩ => exact (Layout.Tiles.idx_val_of_ne (S := ⟨2, ![2048, 1024]⟩) (T := ⟨2, ![2048, 16384]⟩) (a := 1) (k := 16) (by decide) c (ix2 r k) (0 : Fin 2) Nat.zero_ne_one).trans (show r.val = r.val % 2048 from (Nat.mod_eq_of_lt r.isLt).symm)
    | ⟨1, _⟩ => refine (Layout.Tiles.idx_val_self (S := ⟨2, ![2048, 1024]⟩) (T := ⟨2, ![2048, 16384]⟩) (a := 1) (k := 16) (by decide) c (ix2 r k) (1 : Fin 2) rfl).trans ?_; exact Eq.trans (b := c.val * 1024 + k.val) rfl (hk.symm.trans rfl)
  b c k n := by
    rw [hB]
    have hc : c.val < 16 := c.isLt
    have hk : (c.val * 1024 + k.val) % 16384 = c.val * 1024 + k.val := Nat.mod_eq_of_lt (by omega)
    refine congrArg Y (funext fun d => Fin.ext ?_)
    match d with
    | ⟨0, _⟩ => refine (Layout.Tiles.idx_val_self (S := ⟨2, ![1024, 2048]⟩) (T := ⟨2, ![16384, 2048]⟩) (a := 0) (k := 16) (by decide) c (ix2 k n) (0 : Fin 2) rfl).trans ?_; exact Eq.trans (b := c.val * 1024 + k.val) rfl (hk.symm.trans rfl)
    | ⟨1, _⟩ => exact (Layout.Tiles.idx_val_of_ne (S := ⟨2, ![1024, 2048]⟩) (T := ⟨2, ![16384, 2048]⟩) (a := 0) (k := 16) (by decide) c (ix2 k n) (1 : Fin 2) Nat.one_ne_zero).trans (show n.val = n.val % 2048 from (Nat.mod_eq_of_lt n.isLt).symm)

/-- The kernel's result is the reference's. -/
theorem out_eq {X : WA} {Y : WB} {A : Dev Cert.KernelIdeal.nD → CA Ideal} {B : Dev Cert.KernelIdeal.nD → CB Ideal} (H : Held X Y A B) :
    (OUT A B : Cert.KernelIdeal.S2048x2048.Idx → EReal) = refOut X Y := by
  funext i
  refine (out_apply H i).trans ?_
  obtain ⟨r, n, rfl⟩ : ∃ (r n : Fin 2048), i = ix2 r n := ⟨i 0, i 1, ValueIdx.eq_ix2 i⟩
  exact (ref_apply X Y r n).symm

theorem algebraic : Cert.algebraic_KernelIdeal_ReferenceIdeal := fun m g m' g' _ hag => by
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · have H := held _ _ (inA m g) (inB m g) (fun c => (inA_eq m g c).trans (hag c).1) (fun c => (inB_eq m g c).trans (hag c).2)
    exact (θ_run Cert.KernelIdeal.defs _ _).mono
      (fun r h c => ⟨((h.1 c (2 : Fin 3)).trans (finalA_out m g c)).trans (out_eq H),
        (h.1 c (0 : Fin 3)).trans (finalA_A m g c), (h.1 c (1 : Fin 3)).trans (finalA_B m g c)⟩)
      (run_main m g)
  · exact (θ_run Cert.ReferenceIdeal.defs _ _).mono (fun r h => h (0 : Dev Cert.ReferenceIdeal.nD)) (Cert.ReferenceIdeal.Value.run m' g')

end Cert.Proof

end
-- ==== Proof.lean ====
/-
The claims of the certificate, put together: the frames from `Frames`, the value claim from `Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  frame_kernel, frame_ideal, frame_reference, trivial, algebraic⟩

end Cert.Proof

end
